-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x4096x256 : Shape := ⟨3, ![16, 4096, 256]⟩
abbrev S_ : Shape := ⟨0, ![]⟩
abbrev S1 : Shape := ⟨1, ![1]⟩
abbrev S2 : Shape := ⟨1, ![2]⟩
abbrev S1x1x1 : Shape := ⟨3, ![1, 1, 1]⟩
abbrev S16x4096x128 : Shape := ⟨3, ![16, 4096, 128]⟩
abbrev S16777216 : Shape := ⟨1, ![16777216]⟩
abbrev S8388608 : Shape := ⟨1, ![8388608]⟩
abbrev S32768 : Shape := ⟨1, ![32768]⟩
abbrev S16384 : Shape := ⟨1, ![16384]⟩
abbrev S16 : Shape := ⟨1, ![16]⟩

abbrev nBuf : Table → Nat
  | .hbm => 290
  | .local .scVector .vmem => 2
  | _ => 0

abbrev hbmTy0_0 (i : Nat) : BufTy := match i % 128 with
  | 0 => ⟨S16x4096x256, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S_, .f32⟩
  | 12 => ⟨S_, .f32⟩
  | 13 => ⟨S_, .f32⟩
  | 14 => ⟨S_, .f32⟩
  | 15 => ⟨S1x1x1, .f32⟩
  | 16 => ⟨S1x1x1, .f32⟩
  | 17 => ⟨S1, .i32⟩
  | 18 => ⟨S_, .i32⟩
  | 19 => ⟨S1, .i32⟩
  | 20 => ⟨S_, .i32⟩
  | 21 => ⟨S16x4096x128, .i64⟩
  | 22 => ⟨S16x4096x128, .i64⟩
  | 23 => ⟨S16x4096x128, .i64⟩
  | 24 => ⟨S_, .i64⟩
  | 25 => ⟨S16x4096x128, .i64⟩
  | 26 => ⟨S16x4096x128, .i64⟩
  | 27 => ⟨S_, .i64⟩
  | 28 => ⟨S16x4096x128, .i64⟩
  | 29 => ⟨S16x4096x128, .i64⟩
  | 30 => ⟨S_, .i64⟩
  | 31 => ⟨S16x4096x128, .i64⟩
  | 32 => ⟨S16x4096x128, .i64⟩
  | 33 => ⟨S16x4096x128, .i64⟩
  | 34 => ⟨S16x4096x128, .i64⟩
  | 35 => ⟨S_, .i64⟩
  | 36 => ⟨S16x4096x128, .i64⟩
  | 37 => ⟨S16x4096x128, .i64⟩
  | 38 => ⟨S16x4096x128, .i32⟩
  | 39 => ⟨S16x4096x128, .i32⟩
  | 40 => ⟨S_, .i32⟩
  | 41 => ⟨S_, .i32⟩
  | 42 => ⟨S_, .i32⟩
  | 43 => ⟨S16x4096x128, .i32⟩
  | 44 => ⟨S16x4096x128, .i32⟩
  | 45 => ⟨S16x4096x128, .i32⟩
  | 46 => ⟨S16x4096x128, .i32⟩
  | 47 => ⟨S16x4096x128, .i32⟩
  | 48 => ⟨S_, .i32⟩
  | 49 => ⟨S16x4096x128, .i32⟩
  | 50 => ⟨S16x4096x128, .i32⟩
  | 51 => ⟨S_, .i32⟩
  | 52 => ⟨S16x4096x128, .i32⟩
  | 53 => ⟨S16x4096x128, .i32⟩
  | 54 => ⟨S16x4096x128, .i32⟩
  | 55 => ⟨S16x4096x128, .i32⟩
  | 56 => ⟨S16x4096x128, .i32⟩
  | 57 => ⟨S_, .i32⟩
  | 58 => ⟨S16x4096x128, .i32⟩
  | 59 => ⟨S16x4096x128, .i32⟩
  | 60 => ⟨S_, .i32⟩
  | 61 => ⟨S16x4096x128, .i32⟩
  | 62 => ⟨S16x4096x128, .i32⟩
  | 63 => ⟨S16x4096x128, .i32⟩
  | 64 => ⟨S16x4096x128, .i32⟩
  | 65 => ⟨S16x4096x128, .i32⟩
  | 66 => ⟨S_, .i32⟩
  | 67 => ⟨S16x4096x128, .i32⟩
  | 68 => ⟨S16x4096x128, .i32⟩
  | 69 => ⟨S_, .i32⟩
  | 70 => ⟨S16x4096x128, .i32⟩
  | 71 => ⟨S16x4096x128, .i32⟩
  | 72 => ⟨S16x4096x128, .i32⟩
  | 73 => ⟨S16x4096x128, .i32⟩
  | 74 => ⟨S16x4096x128, .i32⟩
  | 75 => ⟨S_, .i32⟩
  | 76 => ⟨S16x4096x128, .i32⟩
  | 77 => ⟨S16x4096x128, .i32⟩
  | 78 => ⟨S_, .i32⟩
  | 79 => ⟨S16x4096x128, .i32⟩
  | 80 => ⟨S16x4096x128, .i32⟩
  | 81 => ⟨S16x4096x128, .i32⟩
  | 82 => ⟨S16x4096x128, .i32⟩
  | 83 => ⟨S16x4096x128, .i32⟩
  | 84 => ⟨S16x4096x128, .i32⟩
  | 85 => ⟨S16x4096x128, .i32⟩
  | 86 => ⟨S16x4096x128, .i32⟩
  | 87 => ⟨S_, .i32⟩
  | 88 => ⟨S16x4096x128, .i32⟩
  | 89 => ⟨S16x4096x128, .i32⟩
  | 90 => ⟨S16x4096x128, .i32⟩
  | 91 => ⟨S_, .i32⟩
  | 92 => ⟨S16x4096x128, .i32⟩
  | 93 => ⟨S16x4096x128, .i32⟩
  | 94 => ⟨S_, .i32⟩
  | 95 => ⟨S16x4096x128, .i32⟩
  | 96 => ⟨S16x4096x128, .i32⟩
  | 97 => ⟨S16x4096x128, .i32⟩
  | 98 => ⟨S16x4096x128, .i32⟩
  | 99 => ⟨S16x4096x128, .i32⟩
  | 100 => ⟨S_, .i32⟩
  | 101 => ⟨S16x4096x128, .i32⟩
  | 102 => ⟨S16x4096x128, .i32⟩
  | 103 => ⟨S_, .i32⟩
  | 104 => ⟨S16x4096x128, .i32⟩
  | 105 => ⟨S16x4096x128, .i32⟩
  | 106 => ⟨S16x4096x128, .i32⟩
  | 107 => ⟨S16x4096x128, .i32⟩
  | 108 => ⟨S16x4096x128, .i32⟩
  | 109 => ⟨S_, .i32⟩
  | 110 => ⟨S16x4096x128, .i32⟩
  | 111 => ⟨S16x4096x128, .i32⟩
  | 112 => ⟨S_, .i32⟩
  | 113 => ⟨S16x4096x128, .i32⟩
  | 114 => ⟨S16x4096x128, .i32⟩
  | 115 => ⟨S16x4096x128, .i32⟩
  | 116 => ⟨S16x4096x128, .i32⟩
  | 117 => ⟨S16x4096x128, .i32⟩
  | 118 => ⟨S_, .i32⟩
  | 119 => ⟨S16x4096x128, .i32⟩
  | 120 => ⟨S16x4096x128, .i32⟩
  | 121 => ⟨S_, .i32⟩
  | 122 => ⟨S16x4096x128, .i32⟩
  | 123 => ⟨S16x4096x128, .i32⟩
  | 124 => ⟨S16x4096x128, .i32⟩
  | 125 => ⟨S16x4096x128, .i32⟩
  | 126 => ⟨S16x4096x128, .i32⟩
  | 127 => ⟨S16x4096x128, .i32⟩
  | _ => ⟨S16x4096x256, .f32⟩

abbrev hbmTy0_1 (i : Nat) : BufTy := match i % 128 with
  | 0 => ⟨S16x4096x128, .i32⟩
  | 1 => ⟨S16x4096x128, .i32⟩
  | 2 => ⟨S_, .i32⟩
  | 3 => ⟨S16x4096x128, .i32⟩
  | 4 => ⟨S16x4096x128, .i32⟩
  | 5 => ⟨S16x4096x128, .i32⟩
  | 6 => ⟨S_, .i32⟩
  | 7 => ⟨S16x4096x128, .i32⟩
  | 8 => ⟨S16x4096x128, .i32⟩
  | 9 => ⟨S_, .i32⟩
  | 10 => ⟨S16x4096x128, .i32⟩
  | 11 => ⟨S16x4096x128, .i32⟩
  | 12 => ⟨S16x4096x128, .i32⟩
  | 13 => ⟨S16x4096x128, .i32⟩
  | 14 => ⟨S16x4096x128, .i32⟩
  | 15 => ⟨S_, .i32⟩
  | 16 => ⟨S16x4096x128, .i32⟩
  | 17 => ⟨S16x4096x128, .i32⟩
  | 18 => ⟨S_, .i32⟩
  | 19 => ⟨S16x4096x128, .i32⟩
  | 20 => ⟨S16x4096x128, .i32⟩
  | 21 => ⟨S16x4096x128, .i32⟩
  | 22 => ⟨S16x4096x128, .i32⟩
  | 23 => ⟨S16x4096x128, .i32⟩
  | 24 => ⟨S_, .i32⟩
  | 25 => ⟨S16x4096x128, .i32⟩
  | 26 => ⟨S16x4096x128, .i32⟩
  | 27 => ⟨S_, .i32⟩
  | 28 => ⟨S16x4096x128, .i32⟩
  | 29 => ⟨S16x4096x128, .i32⟩
  | 30 => ⟨S16x4096x128, .i32⟩
  | 31 => ⟨S16x4096x128, .i32⟩
  | 32 => ⟨S16x4096x128, .i32⟩
  | 33 => ⟨S_, .i32⟩
  | 34 => ⟨S16x4096x128, .i32⟩
  | 35 => ⟨S16x4096x128, .i32⟩
  | 36 => ⟨S_, .i32⟩
  | 37 => ⟨S16x4096x128, .i32⟩
  | 38 => ⟨S16x4096x128, .i32⟩
  | 39 => ⟨S16x4096x128, .i32⟩
  | 40 => ⟨S16x4096x128, .i32⟩
  | 41 => ⟨S16x4096x128, .i32⟩
  | 42 => ⟨S16x4096x128, .i32⟩
  | 43 => ⟨S16x4096x128, .i32⟩
  | 44 => ⟨S16x4096x128, .i32⟩
  | 45 => ⟨S_, .i32⟩
  | 46 => ⟨S16x4096x128, .i32⟩
  | 47 => ⟨S16x4096x128, .i32⟩
  | 48 => ⟨S16x4096x128, .i32⟩
  | 49 => ⟨S_, .i32⟩
  | 50 => ⟨S16x4096x128, .i32⟩
  | 51 => ⟨S16x4096x128, .i32⟩
  | 52 => ⟨S_, .i32⟩
  | 53 => ⟨S16x4096x128, .i32⟩
  | 54 => ⟨S16x4096x128, .i32⟩
  | 55 => ⟨S16x4096x128, .i32⟩
  | 56 => ⟨S16x4096x128, .i32⟩
  | 57 => ⟨S16x4096x128, .i32⟩
  | 58 => ⟨S_, .i32⟩
  | 59 => ⟨S16x4096x128, .i32⟩
  | 60 => ⟨S16x4096x128, .i32⟩
  | 61 => ⟨S_, .i32⟩
  | 62 => ⟨S16x4096x128, .i32⟩
  | 63 => ⟨S16x4096x128, .i32⟩
  | 64 => ⟨S16x4096x128, .i32⟩
  | 65 => ⟨S16x4096x128, .i32⟩
  | 66 => ⟨S16x4096x128, .i32⟩
  | 67 => ⟨S_, .i32⟩
  | 68 => ⟨S16x4096x128, .i32⟩
  | 69 => ⟨S16x4096x128, .i32⟩
  | 70 => ⟨S_, .i32⟩
  | 71 => ⟨S16x4096x128, .i32⟩
  | 72 => ⟨S16x4096x128, .i32⟩
  | 73 => ⟨S16x4096x128, .i32⟩
  | 74 => ⟨S16x4096x128, .i32⟩
  | 75 => ⟨S16x4096x128, .i32⟩
  | 76 => ⟨S_, .i32⟩
  | 77 => ⟨S16x4096x128, .i32⟩
  | 78 => ⟨S16x4096x128, .i32⟩
  | 79 => ⟨S_, .i32⟩
  | 80 => ⟨S16x4096x128, .i32⟩
  | 81 => ⟨S16x4096x128, .i32⟩
  | 82 => ⟨S16x4096x128, .i32⟩
  | 83 => ⟨S16x4096x128, .i32⟩
  | 84 => ⟨S16x4096x128, .i32⟩
  | 85 => ⟨S16x4096x128, .i32⟩
  | 86 => ⟨S16x4096x128, .i32⟩
  | 87 => ⟨S16x4096x128, .i32⟩
  | 88 => ⟨S_, .i32⟩
  | 89 => ⟨S16x4096x128, .i32⟩
  | 90 => ⟨S16x4096x128, .i32⟩
  | 91 => ⟨S16x4096x128, .i32⟩
  | 92 => ⟨S_, .i32⟩
  | 93 => ⟨S16x4096x128, .i32⟩
  | 94 => ⟨S16x4096x128, .i32⟩
  | 95 => ⟨S_, .i32⟩
  | 96 => ⟨S16x4096x128, .i32⟩
  | 97 => ⟨S16x4096x128, .i32⟩
  | 98 => ⟨S16x4096x128, .i32⟩
  | 99 => ⟨S16x4096x128, .i32⟩
  | 100 => ⟨S16x4096x128, .i32⟩
  | 101 => ⟨S_, .i32⟩
  | 102 => ⟨S16x4096x128, .i32⟩
  | 103 => ⟨S16x4096x128, .i32⟩
  | 104 => ⟨S_, .i32⟩
  | 105 => ⟨S16x4096x128, .i32⟩
  | 106 => ⟨S16x4096x128, .i32⟩
  | 107 => ⟨S16x4096x128, .i32⟩
  | 108 => ⟨S16x4096x128, .i32⟩
  | 109 => ⟨S16x4096x128, .i32⟩
  | 110 => ⟨S_, .i32⟩
  | 111 => ⟨S16x4096x128, .i32⟩
  | 112 => ⟨S16x4096x128, .i32⟩
  | 113 => ⟨S_, .i32⟩
  | 114 => ⟨S16x4096x128, .i32⟩
  | 115 => ⟨S16x4096x128, .i32⟩
  | 116 => ⟨S16x4096x128, .i32⟩
  | 117 => ⟨S16x4096x128, .i32⟩
  | 118 => ⟨S16x4096x128, .i32⟩
  | 119 => ⟨S_, .i32⟩
  | 120 => ⟨S16x4096x128, .i32⟩
  | 121 => ⟨S16x4096x128, .i32⟩
  | 122 => ⟨S_, .i32⟩
  | 123 => ⟨S16x4096x128, .i32⟩
  | 124 => ⟨S16x4096x128, .i32⟩
  | 125 => ⟨S16x4096x128, .i32⟩
  | 126 => ⟨S16x4096x128, .i32⟩
  | 127 => ⟨S16x4096x128, .i32⟩
  | _ => ⟨S16x4096x256, .f32⟩

abbrev hbmTy0_2 (i : Nat) : BufTy := match i % 128 with
  | 0 => ⟨S16x4096x128, .i32⟩
  | 1 => ⟨S16x4096x128, .i32⟩
  | 2 => ⟨S16x4096x128, .i32⟩
  | 3 => ⟨S_, .i32⟩
  | 4 => ⟨S16x4096x128, .i32⟩
  | 5 => ⟨S16x4096x128, .i32⟩
  | 6 => ⟨S16x4096x128, .i32⟩
  | 7 => ⟨S_, .i32⟩
  | 8 => ⟨S16x4096x128, .i32⟩
  | 9 => ⟨S16x4096x128, .i32⟩
  | 10 => ⟨S_, .i32⟩
  | 11 => ⟨S16x4096x128, .i32⟩
  | 12 => ⟨S16x4096x128, .i32⟩
  | 13 => ⟨S16x4096x128, .f32⟩
  | 14 => ⟨S_, .f32⟩
  | 15 => ⟨S16x4096x128, .f32⟩
  | 16 => ⟨S16x4096x128, .f32⟩
  | 17 => ⟨S1x1x1, .f32⟩
  | 18 => ⟨S16x4096x128, .f32⟩
  | 19 => ⟨S16x4096x128, .f32⟩
  | 20 => ⟨S16x4096x128, .f32⟩
  | 21 => ⟨S16x4096x128, .f32⟩
  | 22 => ⟨S16x4096x128, .f32⟩
  | 23 => ⟨S16x4096x128, .f32⟩
  | 24 => ⟨S16x4096x128, .i32⟩
  | 25 => ⟨S16x4096x128, .f32⟩
  | 26 => ⟨S16x4096x128, .i32⟩
  | 27 => ⟨S_, .i32⟩
  | 28 => ⟨S16x4096x128, .i32⟩
  | 29 => ⟨S16x4096x128, .i32⟩
  | 30 => ⟨S16777216, .f32⟩
  | 31 => ⟨S8388608, .i32⟩
  | 32 => ⟨S16777216, .f32⟩
  | 33 => ⟨S16x4096x256, .f32⟩
  | _ => ⟨S16x4096x256, .f32⟩

abbrev hbmTy (i : Nat) : BufTy := match i / 128 with
  | 0 => hbmTy0_0 i
  | 1 => hbmTy0_1 i
  | 2 => hbmTy0_2 i
  | _ => ⟨S16x4096x256, .f32⟩

abbrev bufTy : (tb : Table) → Fin (nBuf tb) → BufTy
  | .hbm, ⟨i, _⟩ => hbmTy i
  | .local .scVector .vmem, ⟨0, _⟩ => ⟨S32768, .f32⟩
  | .local .scVector .vmem, ⟨1, _⟩ => ⟨S16384, .i32⟩
  | _, _ => ⟨S16x4096x256, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 48 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => false
  | ⟨33, _⟩ => false
  | ⟨34, _⟩ => false
  | ⟨35, _⟩ => false
  | ⟨36, _⟩ => false
  | ⟨37, _⟩ => false
  | ⟨38, _⟩ => false
  | ⟨39, _⟩ => false
  | ⟨40, _⟩ => false
  | ⟨41, _⟩ => false
  | ⟨42, _⟩ => false
  | ⟨43, _⟩ => false
  | ⟨44, _⟩ => false
  | ⟨45, _⟩ => false
  | ⟨46, _⟩ => false
  | ⟨47, _⟩ => false
  | _ => false

abbrev sig : RefSig :=
  ofTables nBuf rfl bufTy 4 48 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_cst_2 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_c : Ref sig .tc := ⟨.hbm, 24, rfl⟩
abbrev main_call0_v11 : Ref sig .tc := ⟨.hbm, 25, rfl⟩
abbrev main_call0_v12 : Ref sig .tc := ⟨.hbm, 26, rfl⟩
abbrev main_call0_c_0 : Ref sig .tc := ⟨.hbm, 27, rfl⟩
abbrev main_call0_v13 : Ref sig .tc := ⟨.hbm, 28, rfl⟩
abbrev main_call0_v14 : Ref sig .tc := ⟨.hbm, 29, rfl⟩
abbrev main_call0_c_1 : Ref sig .tc := ⟨.hbm, 30, rfl⟩
abbrev main_call0_v15 : Ref sig .tc := ⟨.hbm, 31, rfl⟩
abbrev main_call0_v16 : Ref sig .tc := ⟨.hbm, 32, rfl⟩
abbrev main_call0_v17 : Ref sig .tc := ⟨.hbm, 33, rfl⟩
abbrev main_call0_v18 : Ref sig .tc := ⟨.hbm, 34, rfl⟩
abbrev main_call0_c_2 : Ref sig .tc := ⟨.hbm, 35, rfl⟩
abbrev main_call0_v19 : Ref sig .tc := ⟨.hbm, 36, rfl⟩
abbrev main_call0_v20 : Ref sig .tc := ⟨.hbm, 37, rfl⟩
abbrev main_call0_v21 : Ref sig .tc := ⟨.hbm, 38, rfl⟩
abbrev main_call0_v22 : Ref sig .tc := ⟨.hbm, 39, rfl⟩
abbrev main_call0_call0_v0 : Ref sig .tc := ⟨.hbm, 40, rfl⟩
abbrev main_call0_call0_c : Ref sig .tc := ⟨.hbm, 41, rfl⟩
abbrev main_call0_call0_v1 : Ref sig .tc := ⟨.hbm, 42, rfl⟩
abbrev main_call0_call0_v2 : Ref sig .tc := ⟨.hbm, 43, rfl⟩
abbrev main_call0_call0_v3 : Ref sig .tc := ⟨.hbm, 44, rfl⟩
abbrev main_call0_call0_v4 : Ref sig .tc := ⟨.hbm, 45, rfl⟩
abbrev main_call0_call0_v5 : Ref sig .tc := ⟨.hbm, 46, rfl⟩
abbrev main_call0_call0_v6 : Ref sig .tc := ⟨.hbm, 47, rfl⟩
abbrev main_call0_call0_c_0 : Ref sig .tc := ⟨.hbm, 48, rfl⟩
abbrev main_call0_call0_v7 : Ref sig .tc := ⟨.hbm, 49, rfl⟩
abbrev main_call0_call0_v8 : Ref sig .tc := ⟨.hbm, 50, rfl⟩
abbrev main_call0_call0_c_1 : Ref sig .tc := ⟨.hbm, 51, rfl⟩
abbrev main_call0_call0_v9 : Ref sig .tc := ⟨.hbm, 52, rfl⟩
abbrev main_call0_call0_v10 : Ref sig .tc := ⟨.hbm, 53, rfl⟩
abbrev main_call0_call0_v11 : Ref sig .tc := ⟨.hbm, 54, rfl⟩
abbrev main_call0_call0_v12 : Ref sig .tc := ⟨.hbm, 55, rfl⟩
abbrev main_call0_call0_v13 : Ref sig .tc := ⟨.hbm, 56, rfl⟩
abbrev main_call0_call0_c_2 : Ref sig .tc := ⟨.hbm, 57, rfl⟩
abbrev main_call0_call0_v14 : Ref sig .tc := ⟨.hbm, 58, rfl⟩
abbrev main_call0_call0_v15 : Ref sig .tc := ⟨.hbm, 59, rfl⟩
abbrev main_call0_call0_c_3 : Ref sig .tc := ⟨.hbm, 60, rfl⟩
abbrev main_call0_call0_v16 : Ref sig .tc := ⟨.hbm, 61, rfl⟩
abbrev main_call0_call0_v17 : Ref sig .tc := ⟨.hbm, 62, rfl⟩
abbrev main_call0_call0_v18 : Ref sig .tc := ⟨.hbm, 63, rfl⟩
abbrev main_call0_call0_v19 : Ref sig .tc := ⟨.hbm, 64, rfl⟩
abbrev main_call0_call0_v20 : Ref sig .tc := ⟨.hbm, 65, rfl⟩
abbrev main_call0_call0_c_4 : Ref sig .tc := ⟨.hbm, 66, rfl⟩
abbrev main_call0_call0_v21 : Ref sig .tc := ⟨.hbm, 67, rfl⟩
abbrev main_call0_call0_v22 : Ref sig .tc := ⟨.hbm, 68, rfl⟩
abbrev main_call0_call0_c_5 : Ref sig .tc := ⟨.hbm, 69, rfl⟩
abbrev main_call0_call0_v23 : Ref sig .tc := ⟨.hbm, 70, rfl⟩
abbrev main_call0_call0_v24 : Ref sig .tc := ⟨.hbm, 71, rfl⟩
abbrev main_call0_call0_v25 : Ref sig .tc := ⟨.hbm, 72, rfl⟩
abbrev main_call0_call0_v26 : Ref sig .tc := ⟨.hbm, 73, rfl⟩
abbrev main_call0_call0_v27 : Ref sig .tc := ⟨.hbm, 74, rfl⟩
abbrev main_call0_call0_c_6 : Ref sig .tc := ⟨.hbm, 75, rfl⟩
abbrev main_call0_call0_v28 : Ref sig .tc := ⟨.hbm, 76, rfl⟩
abbrev main_call0_call0_v29 : Ref sig .tc := ⟨.hbm, 77, rfl⟩
abbrev main_call0_call0_c_7 : Ref sig .tc := ⟨.hbm, 78, rfl⟩
abbrev main_call0_call0_v30 : Ref sig .tc := ⟨.hbm, 79, rfl⟩
abbrev main_call0_call0_v31 : Ref sig .tc := ⟨.hbm, 80, rfl⟩
abbrev main_call0_call0_v32 : Ref sig .tc := ⟨.hbm, 81, rfl⟩
abbrev main_call0_call0_v33 : Ref sig .tc := ⟨.hbm, 82, rfl⟩
abbrev main_call0_call0_v34 : Ref sig .tc := ⟨.hbm, 83, rfl⟩
abbrev main_call0_call0_v35 : Ref sig .tc := ⟨.hbm, 84, rfl⟩
abbrev main_call0_call0_v36 : Ref sig .tc := ⟨.hbm, 85, rfl⟩
abbrev main_call0_call0_v37 : Ref sig .tc := ⟨.hbm, 86, rfl⟩
abbrev main_call0_call0_c_8 : Ref sig .tc := ⟨.hbm, 87, rfl⟩
abbrev main_call0_call0_v38 : Ref sig .tc := ⟨.hbm, 88, rfl⟩
abbrev main_call0_call0_v39 : Ref sig .tc := ⟨.hbm, 89, rfl⟩
abbrev main_call0_call0_v40 : Ref sig .tc := ⟨.hbm, 90, rfl⟩
abbrev main_call0_call0_c_9 : Ref sig .tc := ⟨.hbm, 91, rfl⟩
abbrev main_call0_call0_v41 : Ref sig .tc := ⟨.hbm, 92, rfl⟩
abbrev main_call0_call0_v42 : Ref sig .tc := ⟨.hbm, 93, rfl⟩
abbrev main_call0_call0_c_10 : Ref sig .tc := ⟨.hbm, 94, rfl⟩
abbrev main_call0_call0_v43 : Ref sig .tc := ⟨.hbm, 95, rfl⟩
abbrev main_call0_call0_v44 : Ref sig .tc := ⟨.hbm, 96, rfl⟩
abbrev main_call0_call0_v45 : Ref sig .tc := ⟨.hbm, 97, rfl⟩
abbrev main_call0_call0_v46 : Ref sig .tc := ⟨.hbm, 98, rfl⟩
abbrev main_call0_call0_v47 : Ref sig .tc := ⟨.hbm, 99, rfl⟩
abbrev main_call0_call0_c_11 : Ref sig .tc := ⟨.hbm, 100, rfl⟩
abbrev main_call0_call0_v48 : Ref sig .tc := ⟨.hbm, 101, rfl⟩
abbrev main_call0_call0_v49 : Ref sig .tc := ⟨.hbm, 102, rfl⟩
abbrev main_call0_call0_c_12 : Ref sig .tc := ⟨.hbm, 103, rfl⟩
abbrev main_call0_call0_v50 : Ref sig .tc := ⟨.hbm, 104, rfl⟩
abbrev main_call0_call0_v51 : Ref sig .tc := ⟨.hbm, 105, rfl⟩
abbrev main_call0_call0_v52 : Ref sig .tc := ⟨.hbm, 106, rfl⟩
abbrev main_call0_call0_v53 : Ref sig .tc := ⟨.hbm, 107, rfl⟩
abbrev main_call0_call0_v54 : Ref sig .tc := ⟨.hbm, 108, rfl⟩
abbrev main_call0_call0_c_13 : Ref sig .tc := ⟨.hbm, 109, rfl⟩
abbrev main_call0_call0_v55 : Ref sig .tc := ⟨.hbm, 110, rfl⟩
abbrev main_call0_call0_v56 : Ref sig .tc := ⟨.hbm, 111, rfl⟩
abbrev main_call0_call0_c_14 : Ref sig .tc := ⟨.hbm, 112, rfl⟩
abbrev main_call0_call0_v57 : Ref sig .tc := ⟨.hbm, 113, rfl⟩
abbrev main_call0_call0_v58 : Ref sig .tc := ⟨.hbm, 114, rfl⟩
abbrev main_call0_call0_v59 : Ref sig .tc := ⟨.hbm, 115, rfl⟩
abbrev main_call0_call0_v60 : Ref sig .tc := ⟨.hbm, 116, rfl⟩
abbrev main_call0_call0_v61 : Ref sig .tc := ⟨.hbm, 117, rfl⟩
abbrev main_call0_call0_c_15 : Ref sig .tc := ⟨.hbm, 118, rfl⟩
abbrev main_call0_call0_v62 : Ref sig .tc := ⟨.hbm, 119, rfl⟩
abbrev main_call0_call0_v63 : Ref sig .tc := ⟨.hbm, 120, rfl⟩
abbrev main_call0_call0_c_16 : Ref sig .tc := ⟨.hbm, 121, rfl⟩
abbrev main_call0_call0_v64 : Ref sig .tc := ⟨.hbm, 122, rfl⟩
abbrev main_call0_call0_v65 : Ref sig .tc := ⟨.hbm, 123, rfl⟩
abbrev main_call0_call0_v66 : Ref sig .tc := ⟨.hbm, 124, rfl⟩
abbrev main_call0_call0_v67 : Ref sig .tc := ⟨.hbm, 125, rfl⟩
abbrev main_call0_call0_v68 : Ref sig .tc := ⟨.hbm, 126, rfl⟩
abbrev main_call0_call0_v69 : Ref sig .tc := ⟨.hbm, 127, rfl⟩
abbrev main_call0_call0_v70 : Ref sig .tc := ⟨.hbm, 128, rfl⟩
abbrev main_call0_call0_v71 : Ref sig .tc := ⟨.hbm, 129, rfl⟩
abbrev main_call0_call0_c_17 : Ref sig .tc := ⟨.hbm, 130, rfl⟩
abbrev main_call0_call0_v72 : Ref sig .tc := ⟨.hbm, 131, rfl⟩
abbrev main_call0_call0_v73 : Ref sig .tc := ⟨.hbm, 132, rfl⟩
abbrev main_call0_call0_v74 : Ref sig .tc := ⟨.hbm, 133, rfl⟩
abbrev main_call0_call0_c_18 : Ref sig .tc := ⟨.hbm, 134, rfl⟩
abbrev main_call0_call0_v75 : Ref sig .tc := ⟨.hbm, 135, rfl⟩
abbrev main_call0_call0_v76 : Ref sig .tc := ⟨.hbm, 136, rfl⟩
abbrev main_call0_call0_c_19 : Ref sig .tc := ⟨.hbm, 137, rfl⟩
abbrev main_call0_call0_v77 : Ref sig .tc := ⟨.hbm, 138, rfl⟩
abbrev main_call0_call0_v78 : Ref sig .tc := ⟨.hbm, 139, rfl⟩
abbrev main_call0_call0_v79 : Ref sig .tc := ⟨.hbm, 140, rfl⟩
abbrev main_call0_call0_v80 : Ref sig .tc := ⟨.hbm, 141, rfl⟩
abbrev main_call0_call0_v81 : Ref sig .tc := ⟨.hbm, 142, rfl⟩
abbrev main_call0_call0_c_20 : Ref sig .tc := ⟨.hbm, 143, rfl⟩
abbrev main_call0_call0_v82 : Ref sig .tc := ⟨.hbm, 144, rfl⟩
abbrev main_call0_call0_v83 : Ref sig .tc := ⟨.hbm, 145, rfl⟩
abbrev main_call0_call0_c_21 : Ref sig .tc := ⟨.hbm, 146, rfl⟩
abbrev main_call0_call0_v84 : Ref sig .tc := ⟨.hbm, 147, rfl⟩
abbrev main_call0_call0_v85 : Ref sig .tc := ⟨.hbm, 148, rfl⟩
abbrev main_call0_call0_v86 : Ref sig .tc := ⟨.hbm, 149, rfl⟩
abbrev main_call0_call0_v87 : Ref sig .tc := ⟨.hbm, 150, rfl⟩
abbrev main_call0_call0_v88 : Ref sig .tc := ⟨.hbm, 151, rfl⟩
abbrev main_call0_call0_c_22 : Ref sig .tc := ⟨.hbm, 152, rfl⟩
abbrev main_call0_call0_v89 : Ref sig .tc := ⟨.hbm, 153, rfl⟩
abbrev main_call0_call0_v90 : Ref sig .tc := ⟨.hbm, 154, rfl⟩
abbrev main_call0_call0_c_23 : Ref sig .tc := ⟨.hbm, 155, rfl⟩
abbrev main_call0_call0_v91 : Ref sig .tc := ⟨.hbm, 156, rfl⟩
abbrev main_call0_call0_v92 : Ref sig .tc := ⟨.hbm, 157, rfl⟩
abbrev main_call0_call0_v93 : Ref sig .tc := ⟨.hbm, 158, rfl⟩
abbrev main_call0_call0_v94 : Ref sig .tc := ⟨.hbm, 159, rfl⟩
abbrev main_call0_call0_v95 : Ref sig .tc := ⟨.hbm, 160, rfl⟩
abbrev main_call0_call0_c_24 : Ref sig .tc := ⟨.hbm, 161, rfl⟩
abbrev main_call0_call0_v96 : Ref sig .tc := ⟨.hbm, 162, rfl⟩
abbrev main_call0_call0_v97 : Ref sig .tc := ⟨.hbm, 163, rfl⟩
abbrev main_call0_call0_c_25 : Ref sig .tc := ⟨.hbm, 164, rfl⟩
abbrev main_call0_call0_v98 : Ref sig .tc := ⟨.hbm, 165, rfl⟩
abbrev main_call0_call0_v99 : Ref sig .tc := ⟨.hbm, 166, rfl⟩
abbrev main_call0_call0_v100 : Ref sig .tc := ⟨.hbm, 167, rfl⟩
abbrev main_call0_call0_v101 : Ref sig .tc := ⟨.hbm, 168, rfl⟩
abbrev main_call0_call0_v102 : Ref sig .tc := ⟨.hbm, 169, rfl⟩
abbrev main_call0_call0_v103 : Ref sig .tc := ⟨.hbm, 170, rfl⟩
abbrev main_call0_call0_v104 : Ref sig .tc := ⟨.hbm, 171, rfl⟩
abbrev main_call0_call0_v105 : Ref sig .tc := ⟨.hbm, 172, rfl⟩
abbrev main_call0_call0_c_26 : Ref sig .tc := ⟨.hbm, 173, rfl⟩
abbrev main_call0_call0_v106 : Ref sig .tc := ⟨.hbm, 174, rfl⟩
abbrev main_call0_call0_v107 : Ref sig .tc := ⟨.hbm, 175, rfl⟩
abbrev main_call0_call0_v108 : Ref sig .tc := ⟨.hbm, 176, rfl⟩
abbrev main_call0_call0_c_27 : Ref sig .tc := ⟨.hbm, 177, rfl⟩
abbrev main_call0_call0_v109 : Ref sig .tc := ⟨.hbm, 178, rfl⟩
abbrev main_call0_call0_v110 : Ref sig .tc := ⟨.hbm, 179, rfl⟩
abbrev main_call0_call0_c_28 : Ref sig .tc := ⟨.hbm, 180, rfl⟩
abbrev main_call0_call0_v111 : Ref sig .tc := ⟨.hbm, 181, rfl⟩
abbrev main_call0_call0_v112 : Ref sig .tc := ⟨.hbm, 182, rfl⟩
abbrev main_call0_call0_v113 : Ref sig .tc := ⟨.hbm, 183, rfl⟩
abbrev main_call0_call0_v114 : Ref sig .tc := ⟨.hbm, 184, rfl⟩
abbrev main_call0_call0_v115 : Ref sig .tc := ⟨.hbm, 185, rfl⟩
abbrev main_call0_call0_c_29 : Ref sig .tc := ⟨.hbm, 186, rfl⟩
abbrev main_call0_call0_v116 : Ref sig .tc := ⟨.hbm, 187, rfl⟩
abbrev main_call0_call0_v117 : Ref sig .tc := ⟨.hbm, 188, rfl⟩
abbrev main_call0_call0_c_30 : Ref sig .tc := ⟨.hbm, 189, rfl⟩
abbrev main_call0_call0_v118 : Ref sig .tc := ⟨.hbm, 190, rfl⟩
abbrev main_call0_call0_v119 : Ref sig .tc := ⟨.hbm, 191, rfl⟩
abbrev main_call0_call0_v120 : Ref sig .tc := ⟨.hbm, 192, rfl⟩
abbrev main_call0_call0_v121 : Ref sig .tc := ⟨.hbm, 193, rfl⟩
abbrev main_call0_call0_v122 : Ref sig .tc := ⟨.hbm, 194, rfl⟩
abbrev main_call0_call0_c_31 : Ref sig .tc := ⟨.hbm, 195, rfl⟩
abbrev main_call0_call0_v123 : Ref sig .tc := ⟨.hbm, 196, rfl⟩
abbrev main_call0_call0_v124 : Ref sig .tc := ⟨.hbm, 197, rfl⟩
abbrev main_call0_call0_c_32 : Ref sig .tc := ⟨.hbm, 198, rfl⟩
abbrev main_call0_call0_v125 : Ref sig .tc := ⟨.hbm, 199, rfl⟩
abbrev main_call0_call0_v126 : Ref sig .tc := ⟨.hbm, 200, rfl⟩
abbrev main_call0_call0_v127 : Ref sig .tc := ⟨.hbm, 201, rfl⟩
abbrev main_call0_call0_v128 : Ref sig .tc := ⟨.hbm, 202, rfl⟩
abbrev main_call0_call0_v129 : Ref sig .tc := ⟨.hbm, 203, rfl⟩
abbrev main_call0_call0_c_33 : Ref sig .tc := ⟨.hbm, 204, rfl⟩
abbrev main_call0_call0_v130 : Ref sig .tc := ⟨.hbm, 205, rfl⟩
abbrev main_call0_call0_v131 : Ref sig .tc := ⟨.hbm, 206, rfl⟩
abbrev main_call0_call0_c_34 : Ref sig .tc := ⟨.hbm, 207, rfl⟩
abbrev main_call0_call0_v132 : Ref sig .tc := ⟨.hbm, 208, rfl⟩
abbrev main_call0_call0_v133 : Ref sig .tc := ⟨.hbm, 209, rfl⟩
abbrev main_call0_call0_v134 : Ref sig .tc := ⟨.hbm, 210, rfl⟩
abbrev main_call0_call0_v135 : Ref sig .tc := ⟨.hbm, 211, rfl⟩
abbrev main_call0_call0_v136 : Ref sig .tc := ⟨.hbm, 212, rfl⟩
abbrev main_call0_call0_v137 : Ref sig .tc := ⟨.hbm, 213, rfl⟩
abbrev main_call0_call0_v138 : Ref sig .tc := ⟨.hbm, 214, rfl⟩
abbrev main_call0_call0_v139 : Ref sig .tc := ⟨.hbm, 215, rfl⟩
abbrev main_call0_call0_c_35 : Ref sig .tc := ⟨.hbm, 216, rfl⟩
abbrev main_call0_call0_v140 : Ref sig .tc := ⟨.hbm, 217, rfl⟩
abbrev main_call0_call0_v141 : Ref sig .tc := ⟨.hbm, 218, rfl⟩
abbrev main_call0_call0_v142 : Ref sig .tc := ⟨.hbm, 219, rfl⟩
abbrev main_call0_call0_c_36 : Ref sig .tc := ⟨.hbm, 220, rfl⟩
abbrev main_call0_call0_v143 : Ref sig .tc := ⟨.hbm, 221, rfl⟩
abbrev main_call0_call0_v144 : Ref sig .tc := ⟨.hbm, 222, rfl⟩
abbrev main_call0_call0_c_37 : Ref sig .tc := ⟨.hbm, 223, rfl⟩
abbrev main_call0_call0_v145 : Ref sig .tc := ⟨.hbm, 224, rfl⟩
abbrev main_call0_call0_v146 : Ref sig .tc := ⟨.hbm, 225, rfl⟩
abbrev main_call0_call0_v147 : Ref sig .tc := ⟨.hbm, 226, rfl⟩
abbrev main_call0_call0_v148 : Ref sig .tc := ⟨.hbm, 227, rfl⟩
abbrev main_call0_call0_v149 : Ref sig .tc := ⟨.hbm, 228, rfl⟩
abbrev main_call0_call0_c_38 : Ref sig .tc := ⟨.hbm, 229, rfl⟩
abbrev main_call0_call0_v150 : Ref sig .tc := ⟨.hbm, 230, rfl⟩
abbrev main_call0_call0_v151 : Ref sig .tc := ⟨.hbm, 231, rfl⟩
abbrev main_call0_call0_c_39 : Ref sig .tc := ⟨.hbm, 232, rfl⟩
abbrev main_call0_call0_v152 : Ref sig .tc := ⟨.hbm, 233, rfl⟩
abbrev main_call0_call0_v153 : Ref sig .tc := ⟨.hbm, 234, rfl⟩
abbrev main_call0_call0_v154 : Ref sig .tc := ⟨.hbm, 235, rfl⟩
abbrev main_call0_call0_v155 : Ref sig .tc := ⟨.hbm, 236, rfl⟩
abbrev main_call0_call0_v156 : Ref sig .tc := ⟨.hbm, 237, rfl⟩
abbrev main_call0_call0_c_40 : Ref sig .tc := ⟨.hbm, 238, rfl⟩
abbrev main_call0_call0_v157 : Ref sig .tc := ⟨.hbm, 239, rfl⟩
abbrev main_call0_call0_v158 : Ref sig .tc := ⟨.hbm, 240, rfl⟩
abbrev main_call0_call0_c_41 : Ref sig .tc := ⟨.hbm, 241, rfl⟩
abbrev main_call0_call0_v159 : Ref sig .tc := ⟨.hbm, 242, rfl⟩
abbrev main_call0_call0_v160 : Ref sig .tc := ⟨.hbm, 243, rfl⟩
abbrev main_call0_call0_v161 : Ref sig .tc := ⟨.hbm, 244, rfl⟩
abbrev main_call0_call0_v162 : Ref sig .tc := ⟨.hbm, 245, rfl⟩
abbrev main_call0_call0_v163 : Ref sig .tc := ⟨.hbm, 246, rfl⟩
abbrev main_call0_call0_c_42 : Ref sig .tc := ⟨.hbm, 247, rfl⟩
abbrev main_call0_call0_v164 : Ref sig .tc := ⟨.hbm, 248, rfl⟩
abbrev main_call0_call0_v165 : Ref sig .tc := ⟨.hbm, 249, rfl⟩
abbrev main_call0_call0_c_43 : Ref sig .tc := ⟨.hbm, 250, rfl⟩
abbrev main_call0_call0_v166 : Ref sig .tc := ⟨.hbm, 251, rfl⟩
abbrev main_call0_call0_v167 : Ref sig .tc := ⟨.hbm, 252, rfl⟩
abbrev main_call0_call0_v168 : Ref sig .tc := ⟨.hbm, 253, rfl⟩
abbrev main_call0_call0_v169 : Ref sig .tc := ⟨.hbm, 254, rfl⟩
abbrev main_call0_call0_v170 : Ref sig .tc := ⟨.hbm, 255, rfl⟩
abbrev main_call0_v23_0 : Ref sig .tc := ⟨.hbm, 256, rfl⟩
abbrev main_call0_call0_v172 : Ref sig .tc := ⟨.hbm, 257, rfl⟩
abbrev main_call0_call0_v173 : Ref sig .tc := ⟨.hbm, 258, rfl⟩
abbrev main_call0_call0_c_44 : Ref sig .tc := ⟨.hbm, 259, rfl⟩
abbrev main_call0_call0_v174 : Ref sig .tc := ⟨.hbm, 260, rfl⟩
abbrev main_call0_v23_1 : Ref sig .tc := ⟨.hbm, 261, rfl⟩
abbrev main_call0_v24 : Ref sig .tc := ⟨.hbm, 262, rfl⟩
abbrev main_call0_c_3 : Ref sig .tc := ⟨.hbm, 263, rfl⟩
abbrev main_call0_v25 : Ref sig .tc := ⟨.hbm, 264, rfl⟩
abbrev main_call0_v26 : Ref sig .tc := ⟨.hbm, 265, rfl⟩
abbrev main_call0_c_4 : Ref sig .tc := ⟨.hbm, 266, rfl⟩
abbrev main_call0_v27 : Ref sig .tc := ⟨.hbm, 267, rfl⟩
abbrev main_call0_v28 : Ref sig .tc := ⟨.hbm, 268, rfl⟩
abbrev main_call0_v29 : Ref sig .tc := ⟨.hbm, 269, rfl⟩
abbrev main_call0_cst : Ref sig .tc := ⟨.hbm, 270, rfl⟩
abbrev main_call0_v30 : Ref sig .tc := ⟨.hbm, 271, rfl⟩
abbrev main_call0_v31 : Ref sig .tc := ⟨.hbm, 272, rfl⟩
abbrev main_call0_v32 : Ref sig .tc := ⟨.hbm, 273, rfl⟩
abbrev main_call0_v33 : Ref sig .tc := ⟨.hbm, 274, rfl⟩
abbrev main_call0_v34 : Ref sig .tc := ⟨.hbm, 275, rfl⟩
abbrev main_call0_v35 : Ref sig .tc := ⟨.hbm, 276, rfl⟩
abbrev main_call0_v36 : Ref sig .tc := ⟨.hbm, 277, rfl⟩
abbrev main_call0_v37 : Ref sig .tc := ⟨.hbm, 278, rfl⟩
abbrev main_v7 : Ref sig .tc := ⟨.hbm, 279, rfl⟩
abbrev main_call1_v0 : Ref sig .tc := ⟨.hbm, 280, rfl⟩
abbrev main_call1_v1_0 : Ref sig .tc := ⟨.hbm, 281, rfl⟩
abbrev main_v8 : Ref sig .tc := ⟨.hbm, 282, rfl⟩
abbrev main_c_3 : Ref sig .tc := ⟨.hbm, 283, rfl⟩
abbrev main_v9 : Ref sig .tc := ⟨.hbm, 284, rfl⟩
abbrev main_v10 : Ref sig .tc := ⟨.hbm, 285, rfl⟩
abbrev main_v11 : Ref sig .tc := ⟨.hbm, 286, rfl⟩
abbrev main_v12 : Ref sig .tc := ⟨.hbm, 287, rfl⟩
abbrev main_v13 : Ref sig .tc := ⟨.hbm, 288, rfl⟩
abbrev main_v14 : Ref sig .tc := ⟨.hbm, 289, rfl⟩
abbrev main_v11_scv : Ref sig .scVector := ⟨.hbm, 286, rfl⟩
abbrev main_v12_scv : Ref sig .scVector := ⟨.hbm, 287, rfl⟩
abbrev main_v13_scv : Ref sig .scVector := ⟨.hbm, 288, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let v3 : BitVec 32 := Scalar.addi v2 c0_i32
  let c128_i32 : BitVec 32 := 128#32
  let v4 : BitVec 32 := Scalar.muli v3 c128_i32
  let c256_i32 : BitVec 32 := 256#32
  let v5 : BitVec 32 := Scalar.muli v4 c256_i32
  ![v5.toNat]
def k0_off2 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let v3 : BitVec 32 := Scalar.addi v2 c0_i32
  let c128_i32 : BitVec 32 := 128#32
  let v4 : BitVec 32 := Scalar.muli v3 c128_i32
  let c128_i32_0 : BitVec 32 := 128#32
  let v6 : BitVec 32 := Scalar.muli v4 c128_i32_0
  ![v6.toNat]
@[reducible] def k0_t1_loop : Scf.Loop 32 :=
  let c0_i32_2 : BitVec 32 := 0#32
  let c128_i32_3 : BitVec 32 := 128#32
  let v7 : BitVec 32 := Scalar.addi c0_i32_2 c128_i32_3
  let c1_i32 : BitVec 32 := 1#32
  ⟨c0_i32_2, v7, c1_i32⟩
def k0_off3 (k0_t1 : Fin k0_t1_loop.trips) : Fin 1 → Nat :=
  let c0_i32_2 : BitVec 32 := 0#32
  let c1_i32 : BitVec 32 := 1#32
  let arg7 : BitVec 32 := Scf.iv c0_i32_2 c1_i32 k0_t1
  let c128_i32_159 : BitVec 32 := 128#32
  let v115 : BitVec 32 := Scalar.muli arg7 c128_i32_159
  let c0_i32_160 : BitVec 32 := 0#32
  let v116 : BitVec 32 := Scalar.addi v115 c0_i32_160
  let v117 : Index := Scalar.indexCast v116
  ![v117.toNat]

def k0_chk1 (v120 : IVec S16 32) : Prop :=
  (∀ a x, ((![v120] : Fin 1 → IVec S16 32) a x).toNat < S32768.size a)
theorem k0_idx1_inb : ∀ (v120 : IVec S16 32) (k0_hw1 : k0_chk1 v120), ∀ a x, ((![v120] : Fin 1 → IVec S16 32) a x).toNat < S32768.size a := fun v120 k0_hw1 => k0_hw1
def k0_off4 (k0_t1 : Fin k0_t1_loop.trips) : Fin 1 → Nat :=
  let c0_i32_2 : BitVec 32 := 0#32
  let c1_i32 : BitVec 32 := 1#32
  let arg7 : BitVec 32 := Scf.iv c0_i32_2 c1_i32 k0_t1
  let c128_i32_161 : BitVec 32 := 128#32
  let v122 : BitVec 32 := Scalar.muli arg7 c128_i32_161
  let c16_i32_162 : BitVec 32 := 16#32
  let v123 : BitVec 32 := Scalar.addi v122 c16_i32_162
  let v124 : Index := Scalar.indexCast v123
  ![v124.toNat]

def k0_chk2 (v127 : IVec S16 32) : Prop :=
  (∀ a x, ((![v127] : Fin 1 → IVec S16 32) a x).toNat < S32768.size a)
theorem k0_idx2_inb : ∀ (v127 : IVec S16 32) (k0_hw2 : k0_chk2 v127), ∀ a x, ((![v127] : Fin 1 → IVec S16 32) a x).toNat < S32768.size a := fun v127 k0_hw2 => k0_hw2
def k0_off5 (k0_t1 : Fin k0_t1_loop.trips) : Fin 1 → Nat :=
  let c0_i32_2 : BitVec 32 := 0#32
  let c1_i32 : BitVec 32 := 1#32
  let arg7 : BitVec 32 := Scf.iv c0_i32_2 c1_i32 k0_t1
  let c128_i32_163 : BitVec 32 := 128#32
  let v129 : BitVec 32 := Scalar.muli arg7 c128_i32_163
  let c32_i32 : BitVec 32 := 32#32
  let v130 : BitVec 32 := Scalar.addi v129 c32_i32
  let v131 : Index := Scalar.indexCast v130
  ![v131.toNat]

def k0_chk3 (v134 : IVec S16 32) : Prop :=
  (∀ a x, ((![v134] : Fin 1 → IVec S16 32) a x).toNat < S32768.size a)
theorem k0_idx3_inb : ∀ (v134 : IVec S16 32) (k0_hw3 : k0_chk3 v134), ∀ a x, ((![v134] : Fin 1 → IVec S16 32) a x).toNat < S32768.size a := fun v134 k0_hw3 => k0_hw3
def k0_off6 (k0_t1 : Fin k0_t1_loop.trips) : Fin 1 → Nat :=
  let c0_i32_2 : BitVec 32 := 0#32
  let c1_i32 : BitVec 32 := 1#32
  let arg7 : BitVec 32 := Scf.iv c0_i32_2 c1_i32 k0_t1
  let c128_i32_164 : BitVec 32 := 128#32
  let v136 : BitVec 32 := Scalar.muli arg7 c128_i32_164
  let c48_i32 : BitVec 32 := 48#32
  let v137 : BitVec 32 := Scalar.addi v136 c48_i32
  let v138 : Index := Scalar.indexCast v137
  ![v138.toNat]

def k0_chk4 (v141 : IVec S16 32) : Prop :=
  (∀ a x, ((![v141] : Fin 1 → IVec S16 32) a x).toNat < S32768.size a)
theorem k0_idx4_inb : ∀ (v141 : IVec S16 32) (k0_hw4 : k0_chk4 v141), ∀ a x, ((![v141] : Fin 1 → IVec S16 32) a x).toNat < S32768.size a := fun v141 k0_hw4 => k0_hw4
def k0_off7 (k0_t1 : Fin k0_t1_loop.trips) : Fin 1 → Nat :=
  let c0_i32_2 : BitVec 32 := 0#32
  let c1_i32 : BitVec 32 := 1#32
  let arg7 : BitVec 32 := Scf.iv c0_i32_2 c1_i32 k0_t1
  let c128_i32_165 : BitVec 32 := 128#32
  let v143 : BitVec 32 := Scalar.muli arg7 c128_i32_165
  let c64_i32 : BitVec 32 := 64#32
  let v144 : BitVec 32 := Scalar.addi v143 c64_i32
  let v145 : Index := Scalar.indexCast v144
  ![v145.toNat]

def k0_chk5 (v148 : IVec S16 32) : Prop :=
  (∀ a x, ((![v148] : Fin 1 → IVec S16 32) a x).toNat < S32768.size a)
theorem k0_idx5_inb : ∀ (v148 : IVec S16 32) (k0_hw5 : k0_chk5 v148), ∀ a x, ((![v148] : Fin 1 → IVec S16 32) a x).toNat < S32768.size a := fun v148 k0_hw5 => k0_hw5
def k0_off8 (k0_t1 : Fin k0_t1_loop.trips) : Fin 1 → Nat :=
  let c0_i32_2 : BitVec 32 := 0#32
  let c1_i32 : BitVec 32 := 1#32
  let arg7 : BitVec 32 := Scf.iv c0_i32_2 c1_i32 k0_t1
  let c128_i32_166 : BitVec 32 := 128#32
  let v150 : BitVec 32 := Scalar.muli arg7 c128_i32_166
  let c80_i32 : BitVec 32 := 80#32
  let v151 : BitVec 32 := Scalar.addi v150 c80_i32
  let v152 : Index := Scalar.indexCast v151
  ![v152.toNat]

def k0_chk6 (v155 : IVec S16 32) : Prop :=
  (∀ a x, ((![v155] : Fin 1 → IVec S16 32) a x).toNat < S32768.size a)
theorem k0_idx6_inb : ∀ (v155 : IVec S16 32) (k0_hw6 : k0_chk6 v155), ∀ a x, ((![v155] : Fin 1 → IVec S16 32) a x).toNat < S32768.size a := fun v155 k0_hw6 => k0_hw6
def k0_off9 (k0_t1 : Fin k0_t1_loop.trips) : Fin 1 → Nat :=
  let c0_i32_2 : BitVec 32 := 0#32
  let c1_i32 : BitVec 32 := 1#32
  let arg7 : BitVec 32 := Scf.iv c0_i32_2 c1_i32 k0_t1
  let c128_i32_167 : BitVec 32 := 128#32
  let v157 : BitVec 32 := Scalar.muli arg7 c128_i32_167
  let c96_i32 : BitVec 32 := 96#32
  let v158 : BitVec 32 := Scalar.addi v157 c96_i32
  let v159 : Index := Scalar.indexCast v158
  ![v159.toNat]

def k0_chk7 (v162 : IVec S16 32) : Prop :=
  (∀ a x, ((![v162] : Fin 1 → IVec S16 32) a x).toNat < S32768.size a)
theorem k0_idx7_inb : ∀ (v162 : IVec S16 32) (k0_hw7 : k0_chk7 v162), ∀ a x, ((![v162] : Fin 1 → IVec S16 32) a x).toNat < S32768.size a := fun v162 k0_hw7 => k0_hw7
def k0_off10 (k0_t1 : Fin k0_t1_loop.trips) : Fin 1 → Nat :=
  let c0_i32_2 : BitVec 32 := 0#32
  let c1_i32 : BitVec 32 := 1#32
  let arg7 : BitVec 32 := Scf.iv c0_i32_2 c1_i32 k0_t1
  let c128_i32_168 : BitVec 32 := 128#32
  let v164 : BitVec 32 := Scalar.muli arg7 c128_i32_168
  let c112_i32 : BitVec 32 := 112#32
  let v165 : BitVec 32 := Scalar.addi v164 c112_i32
  let v166 : Index := Scalar.indexCast v165
  ![v166.toNat]

def k0_chk8 (v169 : IVec S16 32) : Prop :=
  (∀ a x, ((![v169] : Fin 1 → IVec S16 32) a x).toNat < S32768.size a)
theorem k0_idx8_inb : ∀ (v169 : IVec S16 32) (k0_hw8 : k0_chk8 v169), ∀ a x, ((![v169] : Fin 1 → IVec S16 32) a x).toNat < S32768.size a := fun v169 k0_hw8 => k0_hw8
def k0_off11 (k0_t1 : Fin k0_t1_loop.trips) (c0_i32_170 : BitVec 32) : Fin 1 → Nat :=
  let c0_i32_2 : BitVec 32 := 0#32
  let c1_i32 : BitVec 32 := 1#32
  let arg7 : BitVec 32 := Scf.iv c0_i32_2 c1_i32 k0_t1
  let c256_i32_158 : BitVec 32 := 256#32
  let v114 : BitVec 32 := Scalar.muli arg7 c256_i32_158
  let c128_i32_169 : BitVec 32 := 128#32
  let v171 : BitVec 32 := Scalar.addi v114 c128_i32_169
  let v172 : BitVec 32 := Scalar.addi v171 c0_i32_170
  let v173 : Index := Scalar.indexCast v172
  ![v173.toNat]
@[reducible] def k0_t2_loop : Scf.Loop 32 :=
  let c0_i32_12 : BitVec 32 := 0#32
  let c128_i32_13 : BitVec 32 := 128#32
  let v14 : BitVec 32 := Scalar.addi c0_i32_12 c128_i32_13
  let c1_i32_14 : BitVec 32 := 1#32
  ⟨c0_i32_12, v14, c1_i32_14⟩
def k0_off12 (k0_t2 : Fin k0_t2_loop.trips) : Fin 1 → Nat :=
  let c0_i32_12 : BitVec 32 := 0#32
  let c1_i32_14 : BitVec 32 := 1#32
  let arg7 : BitVec 32 := Scf.iv c0_i32_12 c1_i32_14 k0_t2
  let c128_i32_159 : BitVec 32 := 128#32
  let v115 : BitVec 32 := Scalar.muli arg7 c128_i32_159
  let c0_i32_160 : BitVec 32 := 0#32
  let v116 : BitVec 32 := Scalar.addi v115 c0_i32_160
  let v117 : Index := Scalar.indexCast v116
  ![v117.toNat]

def k0_chk9 (v120 : IVec S16 32) : Prop :=
  (∀ a x, ((![v120] : Fin 1 → IVec S16 32) a x).toNat < S32768.size a)
theorem k0_idx9_inb : ∀ (v120 : IVec S16 32) (k0_hw9 : k0_chk9 v120), ∀ a x, ((![v120] : Fin 1 → IVec S16 32) a x).toNat < S32768.size a := fun v120 k0_hw9 => k0_hw9
def k0_off13 (k0_t2 : Fin k0_t2_loop.trips) : Fin 1 → Nat :=
  let c0_i32_12 : BitVec 32 := 0#32
  let c1_i32_14 : BitVec 32 := 1#32
  let arg7 : BitVec 32 := Scf.iv c0_i32_12 c1_i32_14 k0_t2
  let c128_i32_161 : BitVec 32 := 128#32
  let v122 : BitVec 32 := Scalar.muli arg7 c128_i32_161
  let c16_i32_162 : BitVec 32 := 16#32
  let v123 : BitVec 32 := Scalar.addi v122 c16_i32_162
  let v124 : Index := Scalar.indexCast v123
  ![v124.toNat]

def k0_chk10 (v127 : IVec S16 32) : Prop :=
  (∀ a x, ((![v127] : Fin 1 → IVec S16 32) a x).toNat < S32768.size a)
theorem k0_idx10_inb : ∀ (v127 : IVec S16 32) (k0_hw10 : k0_chk10 v127), ∀ a x, ((![v127] : Fin 1 → IVec S16 32) a x).toNat < S32768.size a := fun v127 k0_hw10 => k0_hw10
def k0_off14 (k0_t2 : Fin k0_t2_loop.trips) : Fin 1 → Nat :=
  let c0_i32_12 : BitVec 32 := 0#32
  let c1_i32_14 : BitVec 32 := 1#32
  let arg7 : BitVec 32 := Scf.iv c0_i32_12 c1_i32_14 k0_t2
  let c128_i32_163 : BitVec 32 := 128#32
  let v129 : BitVec 32 := Scalar.muli arg7 c128_i32_163
  let c32_i32 : BitVec 32 := 32#32
  let v130 : BitVec 32 := Scalar.addi v129 c32_i32
  let v131 : Index := Scalar.indexCast v130
  ![v131.toNat]

def k0_chk11 (v134 : IVec S16 32) : Prop :=
  (∀ a x, ((![v134] : Fin 1 → IVec S16 32) a x).toNat < S32768.size a)
theorem k0_idx11_inb : ∀ (v134 : IVec S16 32) (k0_hw11 : k0_chk11 v134), ∀ a x, ((![v134] : Fin 1 → IVec S16 32) a x).toNat < S32768.size a := fun v134 k0_hw11 => k0_hw11
def k0_off15 (k0_t2 : Fin k0_t2_loop.trips) : Fin 1 → Nat :=
  let c0_i32_12 : BitVec 32 := 0#32
  let c1_i32_14 : BitVec 32 := 1#32
  let arg7 : BitVec 32 := Scf.iv c0_i32_12 c1_i32_14 k0_t2
  let c128_i32_164 : BitVec 32 := 128#32
  let v136 : BitVec 32 := Scalar.muli arg7 c128_i32_164
  let c48_i32 : BitVec 32 := 48#32
  let v137 : BitVec 32 := Scalar.addi v136 c48_i32
  let v138 : Index := Scalar.indexCast v137
  ![v138.toNat]

def k0_chk12 (v141 : IVec S16 32) : Prop :=
  (∀ a x, ((![v141] : Fin 1 → IVec S16 32) a x).toNat < S32768.size a)
theorem k0_idx12_inb : ∀ (v141 : IVec S16 32) (k0_hw12 : k0_chk12 v141), ∀ a x, ((![v141] : Fin 1 → IVec S16 32) a x).toNat < S32768.size a := fun v141 k0_hw12 => k0_hw12
def k0_off16 (k0_t2 : Fin k0_t2_loop.trips) : Fin 1 → Nat :=
  let c0_i32_12 : BitVec 32 := 0#32
  let c1_i32_14 : BitVec 32 := 1#32
  let arg7 : BitVec 32 := Scf.iv c0_i32_12 c1_i32_14 k0_t2
  let c128_i32_165 : BitVec 32 := 128#32
  let v143 : BitVec 32 := Scalar.muli arg7 c128_i32_165
  let c64_i32 : BitVec 32 := 64#32
  let v144 : BitVec 32 := Scalar.addi v143 c64_i32
  let v145 : Index := Scalar.indexCast v144
  ![v145.toNat]

def k0_chk13 (v148 : IVec S16 32) : Prop :=
  (∀ a x, ((![v148] : Fin 1 → IVec S16 32) a x).toNat < S32768.size a)
theorem k0_idx13_inb : ∀ (v148 : IVec S16 32) (k0_hw13 : k0_chk13 v148), ∀ a x, ((![v148] : Fin 1 → IVec S16 32) a x).toNat < S32768.size a := fun v148 k0_hw13 => k0_hw13
def k0_off17 (k0_t2 : Fin k0_t2_loop.trips) : Fin 1 → Nat :=
  let c0_i32_12 : BitVec 32 := 0#32
  let c1_i32_14 : BitVec 32 := 1#32
  let arg7 : BitVec 32 := Scf.iv c0_i32_12 c1_i32_14 k0_t2
  let c128_i32_166 : BitVec 32 := 128#32
  let v150 : BitVec 32 := Scalar.muli arg7 c128_i32_166
  let c80_i32 : BitVec 32 := 80#32
  let v151 : BitVec 32 := Scalar.addi v150 c80_i32
  let v152 : Index := Scalar.indexCast v151
  ![v152.toNat]

def k0_chk14 (v155 : IVec S16 32) : Prop :=
  (∀ a x, ((![v155] : Fin 1 → IVec S16 32) a x).toNat < S32768.size a)
theorem k0_idx14_inb : ∀ (v155 : IVec S16 32) (k0_hw14 : k0_chk14 v155), ∀ a x, ((![v155] : Fin 1 → IVec S16 32) a x).toNat < S32768.size a := fun v155 k0_hw14 => k0_hw14
def k0_off18 (k0_t2 : Fin k0_t2_loop.trips) : Fin 1 → Nat :=
  let c0_i32_12 : BitVec 32 := 0#32
  let c1_i32_14 : BitVec 32 := 1#32
  let arg7 : BitVec 32 := Scf.iv c0_i32_12 c1_i32_14 k0_t2
  let c128_i32_167 : BitVec 32 := 128#32
  let v157 : BitVec 32 := Scalar.muli arg7 c128_i32_167
  let c96_i32 : BitVec 32 := 96#32
  let v158 : BitVec 32 := Scalar.addi v157 c96_i32
  let v159 : Index := Scalar.indexCast v158
  ![v159.toNat]

def k0_chk15 (v162 : IVec S16 32) : Prop :=
  (∀ a x, ((![v162] : Fin 1 → IVec S16 32) a x).toNat < S32768.size a)
theorem k0_idx15_inb : ∀ (v162 : IVec S16 32) (k0_hw15 : k0_chk15 v162), ∀ a x, ((![v162] : Fin 1 → IVec S16 32) a x).toNat < S32768.size a := fun v162 k0_hw15 => k0_hw15
def k0_off19 (k0_t2 : Fin k0_t2_loop.trips) : Fin 1 → Nat :=
  let c0_i32_12 : BitVec 32 := 0#32
  let c1_i32_14 : BitVec 32 := 1#32
  let arg7 : BitVec 32 := Scf.iv c0_i32_12 c1_i32_14 k0_t2
  let c128_i32_168 : BitVec 32 := 128#32
  let v164 : BitVec 32 := Scalar.muli arg7 c128_i32_168
  let c112_i32 : BitVec 32 := 112#32
  let v165 : BitVec 32 := Scalar.addi v164 c112_i32
  let v166 : Index := Scalar.indexCast v165
  ![v166.toNat]

def k0_chk16 (v169 : IVec S16 32) : Prop :=
  (∀ a x, ((![v169] : Fin 1 → IVec S16 32) a x).toNat < S32768.size a)
theorem k0_idx16_inb : ∀ (v169 : IVec S16 32) (k0_hw16 : k0_chk16 v169), ∀ a x, ((![v169] : Fin 1 → IVec S16 32) a x).toNat < S32768.size a := fun v169 k0_hw16 => k0_hw16
def k0_off20 (k0_t2 : Fin k0_t2_loop.trips) (c0_i32_170 : BitVec 32) : Fin 1 → Nat :=
  let c0_i32_12 : BitVec 32 := 0#32
  let c1_i32_14 : BitVec 32 := 1#32
  let arg7 : BitVec 32 := Scf.iv c0_i32_12 c1_i32_14 k0_t2
  let c256_i32_158 : BitVec 32 := 256#32
  let v114 : BitVec 32 := Scalar.muli arg7 c256_i32_158
  let c128_i32_169 : BitVec 32 := 128#32
  let v171 : BitVec 32 := Scalar.addi v114 c128_i32_169
  let v172 : BitVec 32 := Scalar.addi v171 c0_i32_170
  let v173 : Index := Scalar.indexCast v172
  ![v173.toNat]
@[reducible] def k0_t3_loop : Scf.Loop 32 :=
  let c0_i32_23 : BitVec 32 := 0#32
  let c128_i32_24 : BitVec 32 := 128#32
  let v21 : BitVec 32 := Scalar.addi c0_i32_23 c128_i32_24
  let c1_i32_25 : BitVec 32 := 1#32
  ⟨c0_i32_23, v21, c1_i32_25⟩
def k0_off21 (k0_t3 : Fin k0_t3_loop.trips) : Fin 1 → Nat :=
  let c0_i32_23 : BitVec 32 := 0#32
  let c1_i32_25 : BitVec 32 := 1#32
  let arg7 : BitVec 32 := Scf.iv c0_i32_23 c1_i32_25 k0_t3
  let c128_i32_159 : BitVec 32 := 128#32
  let v115 : BitVec 32 := Scalar.muli arg7 c128_i32_159
  let c0_i32_160 : BitVec 32 := 0#32
  let v116 : BitVec 32 := Scalar.addi v115 c0_i32_160
  let v117 : Index := Scalar.indexCast v116
  ![v117.toNat]

def k0_chk17 (v120 : IVec S16 32) : Prop :=
  (∀ a x, ((![v120] : Fin 1 → IVec S16 32) a x).toNat < S32768.size a)
theorem k0_idx17_inb : ∀ (v120 : IVec S16 32) (k0_hw17 : k0_chk17 v120), ∀ a x, ((![v120] : Fin 1 → IVec S16 32) a x).toNat < S32768.size a := fun v120 k0_hw17 => k0_hw17
def k0_off22 (k0_t3 : Fin k0_t3_loop.trips) : Fin 1 → Nat :=
  let c0_i32_23 : BitVec 32 := 0#32
  let c1_i32_25 : BitVec 32 := 1#32
  let arg7 : BitVec 32 := Scf.iv c0_i32_23 c1_i32_25 k0_t3
  let c128_i32_161 : BitVec 32 := 128#32
  let v122 : BitVec 32 := Scalar.muli arg7 c128_i32_161
  let c16_i32_162 : BitVec 32 := 16#32
  let v123 : BitVec 32 := Scalar.addi v122 c16_i32_162
  let v124 : Index := Scalar.indexCast v123
  ![v124.toNat]

def k0_chk18 (v127 : IVec S16 32) : Prop :=
  (∀ a x, ((![v127] : Fin 1 → IVec S16 32) a x).toNat < S32768.size a)
theorem k0_idx18_inb : ∀ (v127 : IVec S16 32) (k0_hw18 : k0_chk18 v127), ∀ a x, ((![v127] : Fin 1 → IVec S16 32) a x).toNat < S32768.size a := fun v127 k0_hw18 => k0_hw18
def k0_off23 (k0_t3 : Fin k0_t3_loop.trips) : Fin 1 → Nat :=
  let c0_i32_23 : BitVec 32 := 0#32
  let c1_i32_25 : BitVec 32 := 1#32
  let arg7 : BitVec 32 := Scf.iv c0_i32_23 c1_i32_25 k0_t3
  let c128_i32_163 : BitVec 32 := 128#32
  let v129 : BitVec 32 := Scalar.muli arg7 c128_i32_163
  let c32_i32 : BitVec 32 := 32#32
  let v130 : BitVec 32 := Scalar.addi v129 c32_i32
  let v131 : Index := Scalar.indexCast v130
  ![v131.toNat]

def k0_chk19 (v134 : IVec S16 32) : Prop :=
  (∀ a x, ((![v134] : Fin 1 → IVec S16 32) a x).toNat < S32768.size a)
theorem k0_idx19_inb : ∀ (v134 : IVec S16 32) (k0_hw19 : k0_chk19 v134), ∀ a x, ((![v134] : Fin 1 → IVec S16 32) a x).toNat < S32768.size a := fun v134 k0_hw19 => k0_hw19
def k0_off24 (k0_t3 : Fin k0_t3_loop.trips) : Fin 1 → Nat :=
  let c0_i32_23 : BitVec 32 := 0#32
  let c1_i32_25 : BitVec 32 := 1#32
  let arg7 : BitVec 32 := Scf.iv c0_i32_23 c1_i32_25 k0_t3
  let c128_i32_164 : BitVec 32 := 128#32
  let v136 : BitVec 32 := Scalar.muli arg7 c128_i32_164
  let c48_i32 : BitVec 32 := 48#32
  let v137 : BitVec 32 := Scalar.addi v136 c48_i32
  let v138 : Index := Scalar.indexCast v137
  ![v138.toNat]

def k0_chk20 (v141 : IVec S16 32) : Prop :=
  (∀ a x, ((![v141] : Fin 1 → IVec S16 32) a x).toNat < S32768.size a)
theorem k0_idx20_inb : ∀ (v141 : IVec S16 32) (k0_hw20 : k0_chk20 v141), ∀ a x, ((![v141] : Fin 1 → IVec S16 32) a x).toNat < S32768.size a := fun v141 k0_hw20 => k0_hw20
def k0_off25 (k0_t3 : Fin k0_t3_loop.trips) : Fin 1 → Nat :=
  let c0_i32_23 : BitVec 32 := 0#32
  let c1_i32_25 : BitVec 32 := 1#32
  let arg7 : BitVec 32 := Scf.iv c0_i32_23 c1_i32_25 k0_t3
  let c128_i32_165 : BitVec 32 := 128#32
  let v143 : BitVec 32 := Scalar.muli arg7 c128_i32_165
  let c64_i32 : BitVec 32 := 64#32
  let v144 : BitVec 32 := Scalar.addi v143 c64_i32
  let v145 : Index := Scalar.indexCast v144
  ![v145.toNat]

def k0_chk21 (v148 : IVec S16 32) : Prop :=
  (∀ a x, ((![v148] : Fin 1 → IVec S16 32) a x).toNat < S32768.size a)
theorem k0_idx21_inb : ∀ (v148 : IVec S16 32) (k0_hw21 : k0_chk21 v148), ∀ a x, ((![v148] : Fin 1 → IVec S16 32) a x).toNat < S32768.size a := fun v148 k0_hw21 => k0_hw21
def k0_off26 (k0_t3 : Fin k0_t3_loop.trips) : Fin 1 → Nat :=
  let c0_i32_23 : BitVec 32 := 0#32
  let c1_i32_25 : BitVec 32 := 1#32
  let arg7 : BitVec 32 := Scf.iv c0_i32_23 c1_i32_25 k0_t3
  let c128_i32_166 : BitVec 32 := 128#32
  let v150 : BitVec 32 := Scalar.muli arg7 c128_i32_166
  let c80_i32 : BitVec 32 := 80#32
  let v151 : BitVec 32 := Scalar.addi v150 c80_i32
  let v152 : Index := Scalar.indexCast v151
  ![v152.toNat]

def k0_chk22 (v155 : IVec S16 32) : Prop :=
  (∀ a x, ((![v155] : Fin 1 → IVec S16 32) a x).toNat < S32768.size a)
theorem k0_idx22_inb : ∀ (v155 : IVec S16 32) (k0_hw22 : k0_chk22 v155), ∀ a x, ((![v155] : Fin 1 → IVec S16 32) a x).toNat < S32768.size a := fun v155 k0_hw22 => k0_hw22
def k0_off27 (k0_t3 : Fin k0_t3_loop.trips) : Fin 1 → Nat :=
  let c0_i32_23 : BitVec 32 := 0#32
  let c1_i32_25 : BitVec 32 := 1#32
  let arg7 : BitVec 32 := Scf.iv c0_i32_23 c1_i32_25 k0_t3
  let c128_i32_167 : BitVec 32 := 128#32
  let v157 : BitVec 32 := Scalar.muli arg7 c128_i32_167
  let c96_i32 : BitVec 32 := 96#32
  let v158 : BitVec 32 := Scalar.addi v157 c96_i32
  let v159 : Index := Scalar.indexCast v158
  ![v159.toNat]

def k0_chk23 (v162 : IVec S16 32) : Prop :=
  (∀ a x, ((![v162] : Fin 1 → IVec S16 32) a x).toNat < S32768.size a)
theorem k0_idx23_inb : ∀ (v162 : IVec S16 32) (k0_hw23 : k0_chk23 v162), ∀ a x, ((![v162] : Fin 1 → IVec S16 32) a x).toNat < S32768.size a := fun v162 k0_hw23 => k0_hw23
def k0_off28 (k0_t3 : Fin k0_t3_loop.trips) : Fin 1 → Nat :=
  let c0_i32_23 : BitVec 32 := 0#32
  let c1_i32_25 : BitVec 32 := 1#32
  let arg7 : BitVec 32 := Scf.iv c0_i32_23 c1_i32_25 k0_t3
  let c128_i32_168 : BitVec 32 := 128#32
  let v164 : BitVec 32 := Scalar.muli arg7 c128_i32_168
  let c112_i32 : BitVec 32 := 112#32
  let v165 : BitVec 32 := Scalar.addi v164 c112_i32
  let v166 : Index := Scalar.indexCast v165
  ![v166.toNat]

def k0_chk24 (v169 : IVec S16 32) : Prop :=
  (∀ a x, ((![v169] : Fin 1 → IVec S16 32) a x).toNat < S32768.size a)
theorem k0_idx24_inb : ∀ (v169 : IVec S16 32) (k0_hw24 : k0_chk24 v169), ∀ a x, ((![v169] : Fin 1 → IVec S16 32) a x).toNat < S32768.size a := fun v169 k0_hw24 => k0_hw24
def k0_off29 (k0_t3 : Fin k0_t3_loop.trips) (c0_i32_170 : BitVec 32) : Fin 1 → Nat :=
  let c0_i32_23 : BitVec 32 := 0#32
  let c1_i32_25 : BitVec 32 := 1#32
  let arg7 : BitVec 32 := Scf.iv c0_i32_23 c1_i32_25 k0_t3
  let c256_i32_158 : BitVec 32 := 256#32
  let v114 : BitVec 32 := Scalar.muli arg7 c256_i32_158
  let c128_i32_169 : BitVec 32 := 128#32
  let v171 : BitVec 32 := Scalar.addi v114 c128_i32_169
  let v172 : BitVec 32 := Scalar.addi v171 c0_i32_170
  let v173 : Index := Scalar.indexCast v172
  ![v173.toNat]
@[reducible] def k0_t4_loop : Scf.Loop 32 :=
  let c0_i32_33 : BitVec 32 := 0#32
  let c128_i32_34 : BitVec 32 := 128#32
  let v28 : BitVec 32 := Scalar.addi c0_i32_33 c128_i32_34
  let c1_i32_35 : BitVec 32 := 1#32
  ⟨c0_i32_33, v28, c1_i32_35⟩
def k0_off30 (k0_t4 : Fin k0_t4_loop.trips) : Fin 1 → Nat :=
  let c0_i32_33 : BitVec 32 := 0#32
  let c1_i32_35 : BitVec 32 := 1#32
  let arg7 : BitVec 32 := Scf.iv c0_i32_33 c1_i32_35 k0_t4
  let c128_i32_159 : BitVec 32 := 128#32
  let v115 : BitVec 32 := Scalar.muli arg7 c128_i32_159
  let c0_i32_160 : BitVec 32 := 0#32
  let v116 : BitVec 32 := Scalar.addi v115 c0_i32_160
  let v117 : Index := Scalar.indexCast v116
  ![v117.toNat]

def k0_chk25 (v120 : IVec S16 32) : Prop :=
  (∀ a x, ((![v120] : Fin 1 → IVec S16 32) a x).toNat < S32768.size a)
theorem k0_idx25_inb : ∀ (v120 : IVec S16 32) (k0_hw25 : k0_chk25 v120), ∀ a x, ((![v120] : Fin 1 → IVec S16 32) a x).toNat < S32768.size a := fun v120 k0_hw25 => k0_hw25
def k0_off31 (k0_t4 : Fin k0_t4_loop.trips) : Fin 1 → Nat :=
  let c0_i32_33 : BitVec 32 := 0#32
  let c1_i32_35 : BitVec 32 := 1#32
  let arg7 : BitVec 32 := Scf.iv c0_i32_33 c1_i32_35 k0_t4
  let c128_i32_161 : BitVec 32 := 128#32
  let v122 : BitVec 32 := Scalar.muli arg7 c128_i32_161
  let c16_i32_162 : BitVec 32 := 16#32
  let v123 : BitVec 32 := Scalar.addi v122 c16_i32_162
  let v124 : Index := Scalar.indexCast v123
  ![v124.toNat]

def k0_chk26 (v127 : IVec S16 32) : Prop :=
  (∀ a x, ((![v127] : Fin 1 → IVec S16 32) a x).toNat < S32768.size a)
theorem k0_idx26_inb : ∀ (v127 : IVec S16 32) (k0_hw26 : k0_chk26 v127), ∀ a x, ((![v127] : Fin 1 → IVec S16 32) a x).toNat < S32768.size a := fun v127 k0_hw26 => k0_hw26
def k0_off32 (k0_t4 : Fin k0_t4_loop.trips) : Fin 1 → Nat :=
  let c0_i32_33 : BitVec 32 := 0#32
  let c1_i32_35 : BitVec 32 := 1#32
  let arg7 : BitVec 32 := Scf.iv c0_i32_33 c1_i32_35 k0_t4
  let c128_i32_163 : BitVec 32 := 128#32
  let v129 : BitVec 32 := Scalar.muli arg7 c128_i32_163
  let c32_i32 : BitVec 32 := 32#32
  let v130 : BitVec 32 := Scalar.addi v129 c32_i32
  let v131 : Index := Scalar.indexCast v130
  ![v131.toNat]

def k0_chk27 (v134 : IVec S16 32) : Prop :=
  (∀ a x, ((![v134] : Fin 1 → IVec S16 32) a x).toNat < S32768.size a)
theorem k0_idx27_inb : ∀ (v134 : IVec S16 32) (k0_hw27 : k0_chk27 v134), ∀ a x, ((![v134] : Fin 1 → IVec S16 32) a x).toNat < S32768.size a := fun v134 k0_hw27 => k0_hw27
def k0_off33 (k0_t4 : Fin k0_t4_loop.trips) : Fin 1 → Nat :=
  let c0_i32_33 : BitVec 32 := 0#32
  let c1_i32_35 : BitVec 32 := 1#32
  let arg7 : BitVec 32 := Scf.iv c0_i32_33 c1_i32_35 k0_t4
  let c128_i32_164 : BitVec 32 := 128#32
  let v136 : BitVec 32 := Scalar.muli arg7 c128_i32_164
  let c48_i32 : BitVec 32 := 48#32
  let v137 : BitVec 32 := Scalar.addi v136 c48_i32
  let v138 : Index := Scalar.indexCast v137
  ![v138.toNat]

def k0_chk28 (v141 : IVec S16 32) : Prop :=
  (∀ a x, ((![v141] : Fin 1 → IVec S16 32) a x).toNat < S32768.size a)
theorem k0_idx28_inb : ∀ (v141 : IVec S16 32) (k0_hw28 : k0_chk28 v141), ∀ a x, ((![v141] : Fin 1 → IVec S16 32) a x).toNat < S32768.size a := fun v141 k0_hw28 => k0_hw28
def k0_off34 (k0_t4 : Fin k0_t4_loop.trips) : Fin 1 → Nat :=
  let c0_i32_33 : BitVec 32 := 0#32
  let c1_i32_35 : BitVec 32 := 1#32
  let arg7 : BitVec 32 := Scf.iv c0_i32_33 c1_i32_35 k0_t4
  let c128_i32_165 : BitVec 32 := 128#32
  let v143 : BitVec 32 := Scalar.muli arg7 c128_i32_165
  let c64_i32 : BitVec 32 := 64#32
  let v144 : BitVec 32 := Scalar.addi v143 c64_i32
  let v145 : Index := Scalar.indexCast v144
  ![v145.toNat]

def k0_chk29 (v148 : IVec S16 32) : Prop :=
  (∀ a x, ((![v148] : Fin 1 → IVec S16 32) a x).toNat < S32768.size a)
theorem k0_idx29_inb : ∀ (v148 : IVec S16 32) (k0_hw29 : k0_chk29 v148), ∀ a x, ((![v148] : Fin 1 → IVec S16 32) a x).toNat < S32768.size a := fun v148 k0_hw29 => k0_hw29
def k0_off35 (k0_t4 : Fin k0_t4_loop.trips) : Fin 1 → Nat :=
  let c0_i32_33 : BitVec 32 := 0#32
  let c1_i32_35 : BitVec 32 := 1#32
  let arg7 : BitVec 32 := Scf.iv c0_i32_33 c1_i32_35 k0_t4
  let c128_i32_166 : BitVec 32 := 128#32
  let v150 : BitVec 32 := Scalar.muli arg7 c128_i32_166
  let c80_i32 : BitVec 32 := 80#32
  let v151 : BitVec 32 := Scalar.addi v150 c80_i32
  let v152 : Index := Scalar.indexCast v151
  ![v152.toNat]

def k0_chk30 (v155 : IVec S16 32) : Prop :=
  (∀ a x, ((![v155] : Fin 1 → IVec S16 32) a x).toNat < S32768.size a)
theorem k0_idx30_inb : ∀ (v155 : IVec S16 32) (k0_hw30 : k0_chk30 v155), ∀ a x, ((![v155] : Fin 1 → IVec S16 32) a x).toNat < S32768.size a := fun v155 k0_hw30 => k0_hw30
def k0_off36 (k0_t4 : Fin k0_t4_loop.trips) : Fin 1 → Nat :=
  let c0_i32_33 : BitVec 32 := 0#32
  let c1_i32_35 : BitVec 32 := 1#32
  let arg7 : BitVec 32 := Scf.iv c0_i32_33 c1_i32_35 k0_t4
  let c128_i32_167 : BitVec 32 := 128#32
  let v157 : BitVec 32 := Scalar.muli arg7 c128_i32_167
  let c96_i32 : BitVec 32 := 96#32
  let v158 : BitVec 32 := Scalar.addi v157 c96_i32
  let v159 : Index := Scalar.indexCast v158
  ![v159.toNat]

def k0_chk31 (v162 : IVec S16 32) : Prop :=
  (∀ a x, ((![v162] : Fin 1 → IVec S16 32) a x).toNat < S32768.size a)
theorem k0_idx31_inb : ∀ (v162 : IVec S16 32) (k0_hw31 : k0_chk31 v162), ∀ a x, ((![v162] : Fin 1 → IVec S16 32) a x).toNat < S32768.size a := fun v162 k0_hw31 => k0_hw31
def k0_off37 (k0_t4 : Fin k0_t4_loop.trips) : Fin 1 → Nat :=
  let c0_i32_33 : BitVec 32 := 0#32
  let c1_i32_35 : BitVec 32 := 1#32
  let arg7 : BitVec 32 := Scf.iv c0_i32_33 c1_i32_35 k0_t4
  let c128_i32_168 : BitVec 32 := 128#32
  let v164 : BitVec 32 := Scalar.muli arg7 c128_i32_168
  let c112_i32 : BitVec 32 := 112#32
  let v165 : BitVec 32 := Scalar.addi v164 c112_i32
  let v166 : Index := Scalar.indexCast v165
  ![v166.toNat]

def k0_chk32 (v169 : IVec S16 32) : Prop :=
  (∀ a x, ((![v169] : Fin 1 → IVec S16 32) a x).toNat < S32768.size a)
theorem k0_idx32_inb : ∀ (v169 : IVec S16 32) (k0_hw32 : k0_chk32 v169), ∀ a x, ((![v169] : Fin 1 → IVec S16 32) a x).toNat < S32768.size a := fun v169 k0_hw32 => k0_hw32
def k0_off38 (k0_t4 : Fin k0_t4_loop.trips) (c0_i32_170 : BitVec 32) : Fin 1 → Nat :=
  let c0_i32_33 : BitVec 32 := 0#32
  let c1_i32_35 : BitVec 32 := 1#32
  let arg7 : BitVec 32 := Scf.iv c0_i32_33 c1_i32_35 k0_t4
  let c256_i32_158 : BitVec 32 := 256#32
  let v114 : BitVec 32 := Scalar.muli arg7 c256_i32_158
  let c128_i32_169 : BitVec 32 := 128#32
  let v171 : BitVec 32 := Scalar.addi v114 c128_i32_169
  let v172 : BitVec 32 := Scalar.addi v171 c0_i32_170
  let v173 : Index := Scalar.indexCast v172
  ![v173.toNat]
@[reducible] def k0_t5_loop : Scf.Loop 32 :=
  let c0_i32_43 : BitVec 32 := 0#32
  let c128_i32_44 : BitVec 32 := 128#32
  let v35 : BitVec 32 := Scalar.addi c0_i32_43 c128_i32_44
  let c1_i32_45 : BitVec 32 := 1#32
  ⟨c0_i32_43, v35, c1_i32_45⟩
def k0_off39 (k0_t5 : Fin k0_t5_loop.trips) : Fin 1 → Nat :=
  let c0_i32_43 : BitVec 32 := 0#32
  let c1_i32_45 : BitVec 32 := 1#32
  let arg7 : BitVec 32 := Scf.iv c0_i32_43 c1_i32_45 k0_t5
  let c128_i32_159 : BitVec 32 := 128#32
  let v115 : BitVec 32 := Scalar.muli arg7 c128_i32_159
  let c0_i32_160 : BitVec 32 := 0#32
  let v116 : BitVec 32 := Scalar.addi v115 c0_i32_160
  let v117 : Index := Scalar.indexCast v116
  ![v117.toNat]

def k0_chk33 (v120 : IVec S16 32) : Prop :=
  (∀ a x, ((![v120] : Fin 1 → IVec S16 32) a x).toNat < S32768.size a)
theorem k0_idx33_inb : ∀ (v120 : IVec S16 32) (k0_hw33 : k0_chk33 v120), ∀ a x, ((![v120] : Fin 1 → IVec S16 32) a x).toNat < S32768.size a := fun v120 k0_hw33 => k0_hw33
def k0_off40 (k0_t5 : Fin k0_t5_loop.trips) : Fin 1 → Nat :=
  let c0_i32_43 : BitVec 32 := 0#32
  let c1_i32_45 : BitVec 32 := 1#32
  let arg7 : BitVec 32 := Scf.iv c0_i32_43 c1_i32_45 k0_t5
  let c128_i32_161 : BitVec 32 := 128#32
  let v122 : BitVec 32 := Scalar.muli arg7 c128_i32_161
  let c16_i32_162 : BitVec 32 := 16#32
  let v123 : BitVec 32 := Scalar.addi v122 c16_i32_162
  let v124 : Index := Scalar.indexCast v123
  ![v124.toNat]

def k0_chk34 (v127 : IVec S16 32) : Prop :=
  (∀ a x, ((![v127] : Fin 1 → IVec S16 32) a x).toNat < S32768.size a)
theorem k0_idx34_inb : ∀ (v127 : IVec S16 32) (k0_hw34 : k0_chk34 v127), ∀ a x, ((![v127] : Fin 1 → IVec S16 32) a x).toNat < S32768.size a := fun v127 k0_hw34 => k0_hw34
def k0_off41 (k0_t5 : Fin k0_t5_loop.trips) : Fin 1 → Nat :=
  let c0_i32_43 : BitVec 32 := 0#32
  let c1_i32_45 : BitVec 32 := 1#32
  let arg7 : BitVec 32 := Scf.iv c0_i32_43 c1_i32_45 k0_t5
  let c128_i32_163 : BitVec 32 := 128#32
  let v129 : BitVec 32 := Scalar.muli arg7 c128_i32_163
  let c32_i32 : BitVec 32 := 32#32
  let v130 : BitVec 32 := Scalar.addi v129 c32_i32
  let v131 : Index := Scalar.indexCast v130
  ![v131.toNat]

def k0_chk35 (v134 : IVec S16 32) : Prop :=
  (∀ a x, ((![v134] : Fin 1 → IVec S16 32) a x).toNat < S32768.size a)
theorem k0_idx35_inb : ∀ (v134 : IVec S16 32) (k0_hw35 : k0_chk35 v134), ∀ a x, ((![v134] : Fin 1 → IVec S16 32) a x).toNat < S32768.size a := fun v134 k0_hw35 => k0_hw35
def k0_off42 (k0_t5 : Fin k0_t5_loop.trips) : Fin 1 → Nat :=
  let c0_i32_43 : BitVec 32 := 0#32
  let c1_i32_45 : BitVec 32 := 1#32
  let arg7 : BitVec 32 := Scf.iv c0_i32_43 c1_i32_45 k0_t5
  let c128_i32_164 : BitVec 32 := 128#32
  let v136 : BitVec 32 := Scalar.muli arg7 c128_i32_164
  let c48_i32 : BitVec 32 := 48#32
  let v137 : BitVec 32 := Scalar.addi v136 c48_i32
  let v138 : Index := Scalar.indexCast v137
  ![v138.toNat]

def k0_chk36 (v141 : IVec S16 32) : Prop :=
  (∀ a x, ((![v141] : Fin 1 → IVec S16 32) a x).toNat < S32768.size a)
theorem k0_idx36_inb : ∀ (v141 : IVec S16 32) (k0_hw36 : k0_chk36 v141), ∀ a x, ((![v141] : Fin 1 → IVec S16 32) a x).toNat < S32768.size a := fun v141 k0_hw36 => k0_hw36
def k0_off43 (k0_t5 : Fin k0_t5_loop.trips) : Fin 1 → Nat :=
  let c0_i32_43 : BitVec 32 := 0#32
  let c1_i32_45 : BitVec 32 := 1#32
  let arg7 : BitVec 32 := Scf.iv c0_i32_43 c1_i32_45 k0_t5
  let c128_i32_165 : BitVec 32 := 128#32
  let v143 : BitVec 32 := Scalar.muli arg7 c128_i32_165
  let c64_i32 : BitVec 32 := 64#32
  let v144 : BitVec 32 := Scalar.addi v143 c64_i32
  let v145 : Index := Scalar.indexCast v144
  ![v145.toNat]

def k0_chk37 (v148 : IVec S16 32) : Prop :=
  (∀ a x, ((![v148] : Fin 1 → IVec S16 32) a x).toNat < S32768.size a)
theorem k0_idx37_inb : ∀ (v148 : IVec S16 32) (k0_hw37 : k0_chk37 v148), ∀ a x, ((![v148] : Fin 1 → IVec S16 32) a x).toNat < S32768.size a := fun v148 k0_hw37 => k0_hw37
def k0_off44 (k0_t5 : Fin k0_t5_loop.trips) : Fin 1 → Nat :=
  let c0_i32_43 : BitVec 32 := 0#32
  let c1_i32_45 : BitVec 32 := 1#32
  let arg7 : BitVec 32 := Scf.iv c0_i32_43 c1_i32_45 k0_t5
  let c128_i32_166 : BitVec 32 := 128#32
  let v150 : BitVec 32 := Scalar.muli arg7 c128_i32_166
  let c80_i32 : BitVec 32 := 80#32
  let v151 : BitVec 32 := Scalar.addi v150 c80_i32
  let v152 : Index := Scalar.indexCast v151
  ![v152.toNat]

def k0_chk38 (v155 : IVec S16 32) : Prop :=
  (∀ a x, ((![v155] : Fin 1 → IVec S16 32) a x).toNat < S32768.size a)
theorem k0_idx38_inb : ∀ (v155 : IVec S16 32) (k0_hw38 : k0_chk38 v155), ∀ a x, ((![v155] : Fin 1 → IVec S16 32) a x).toNat < S32768.size a := fun v155 k0_hw38 => k0_hw38
def k0_off45 (k0_t5 : Fin k0_t5_loop.trips) : Fin 1 → Nat :=
  let c0_i32_43 : BitVec 32 := 0#32
  let c1_i32_45 : BitVec 32 := 1#32
  let arg7 : BitVec 32 := Scf.iv c0_i32_43 c1_i32_45 k0_t5
  let c128_i32_167 : BitVec 32 := 128#32
  let v157 : BitVec 32 := Scalar.muli arg7 c128_i32_167
  let c96_i32 : BitVec 32 := 96#32
  let v158 : BitVec 32 := Scalar.addi v157 c96_i32
  let v159 : Index := Scalar.indexCast v158
  ![v159.toNat]

def k0_chk39 (v162 : IVec S16 32) : Prop :=
  (∀ a x, ((![v162] : Fin 1 → IVec S16 32) a x).toNat < S32768.size a)
theorem k0_idx39_inb : ∀ (v162 : IVec S16 32) (k0_hw39 : k0_chk39 v162), ∀ a x, ((![v162] : Fin 1 → IVec S16 32) a x).toNat < S32768.size a := fun v162 k0_hw39 => k0_hw39
def k0_off46 (k0_t5 : Fin k0_t5_loop.trips) : Fin 1 → Nat :=
  let c0_i32_43 : BitVec 32 := 0#32
  let c1_i32_45 : BitVec 32 := 1#32
  let arg7 : BitVec 32 := Scf.iv c0_i32_43 c1_i32_45 k0_t5
  let c128_i32_168 : BitVec 32 := 128#32
  let v164 : BitVec 32 := Scalar.muli arg7 c128_i32_168
  let c112_i32 : BitVec 32 := 112#32
  let v165 : BitVec 32 := Scalar.addi v164 c112_i32
  let v166 : Index := Scalar.indexCast v165
  ![v166.toNat]

def k0_chk40 (v169 : IVec S16 32) : Prop :=
  (∀ a x, ((![v169] : Fin 1 → IVec S16 32) a x).toNat < S32768.size a)
theorem k0_idx40_inb : ∀ (v169 : IVec S16 32) (k0_hw40 : k0_chk40 v169), ∀ a x, ((![v169] : Fin 1 → IVec S16 32) a x).toNat < S32768.size a := fun v169 k0_hw40 => k0_hw40
def k0_off47 (k0_t5 : Fin k0_t5_loop.trips) (c0_i32_170 : BitVec 32) : Fin 1 → Nat :=
  let c0_i32_43 : BitVec 32 := 0#32
  let c1_i32_45 : BitVec 32 := 1#32
  let arg7 : BitVec 32 := Scf.iv c0_i32_43 c1_i32_45 k0_t5
  let c256_i32_158 : BitVec 32 := 256#32
  let v114 : BitVec 32 := Scalar.muli arg7 c256_i32_158
  let c128_i32_169 : BitVec 32 := 128#32
  let v171 : BitVec 32 := Scalar.addi v114 c128_i32_169
  let v172 : BitVec 32 := Scalar.addi v171 c0_i32_170
  let v173 : Index := Scalar.indexCast v172
  ![v173.toNat]
@[reducible] def k0_t6_loop : Scf.Loop 32 :=
  let c0_i32_53 : BitVec 32 := 0#32
  let c128_i32_54 : BitVec 32 := 128#32
  let v42 : BitVec 32 := Scalar.addi c0_i32_53 c128_i32_54
  let c1_i32_55 : BitVec 32 := 1#32
  ⟨c0_i32_53, v42, c1_i32_55⟩
def k0_off48 (k0_t6 : Fin k0_t6_loop.trips) : Fin 1 → Nat :=
  let c0_i32_53 : BitVec 32 := 0#32
  let c1_i32_55 : BitVec 32 := 1#32
  let arg7 : BitVec 32 := Scf.iv c0_i32_53 c1_i32_55 k0_t6
  let c128_i32_159 : BitVec 32 := 128#32
  let v115 : BitVec 32 := Scalar.muli arg7 c128_i32_159
  let c0_i32_160 : BitVec 32 := 0#32
  let v116 : BitVec 32 := Scalar.addi v115 c0_i32_160
  let v117 : Index := Scalar.indexCast v116
  ![v117.toNat]

def k0_chk41 (v120 : IVec S16 32) : Prop :=
  (∀ a x, ((![v120] : Fin 1 → IVec S16 32) a x).toNat < S32768.size a)
theorem k0_idx41_inb : ∀ (v120 : IVec S16 32) (k0_hw41 : k0_chk41 v120), ∀ a x, ((![v120] : Fin 1 → IVec S16 32) a x).toNat < S32768.size a := fun v120 k0_hw41 => k0_hw41
def k0_off49 (k0_t6 : Fin k0_t6_loop.trips) : Fin 1 → Nat :=
  let c0_i32_53 : BitVec 32 := 0#32
  let c1_i32_55 : BitVec 32 := 1#32
  let arg7 : BitVec 32 := Scf.iv c0_i32_53 c1_i32_55 k0_t6
  let c128_i32_161 : BitVec 32 := 128#32
  let v122 : BitVec 32 := Scalar.muli arg7 c128_i32_161
  let c16_i32_162 : BitVec 32 := 16#32
  let v123 : BitVec 32 := Scalar.addi v122 c16_i32_162
  let v124 : Index := Scalar.indexCast v123
  ![v124.toNat]

def k0_chk42 (v127 : IVec S16 32) : Prop :=
  (∀ a x, ((![v127] : Fin 1 → IVec S16 32) a x).toNat < S32768.size a)
theorem k0_idx42_inb : ∀ (v127 : IVec S16 32) (k0_hw42 : k0_chk42 v127), ∀ a x, ((![v127] : Fin 1 → IVec S16 32) a x).toNat < S32768.size a := fun v127 k0_hw42 => k0_hw42
def k0_off50 (k0_t6 : Fin k0_t6_loop.trips) : Fin 1 → Nat :=
  let c0_i32_53 : BitVec 32 := 0#32
  let c1_i32_55 : BitVec 32 := 1#32
  let arg7 : BitVec 32 := Scf.iv c0_i32_53 c1_i32_55 k0_t6
  let c128_i32_163 : BitVec 32 := 128#32
  let v129 : BitVec 32 := Scalar.muli arg7 c128_i32_163
  let c32_i32 : BitVec 32 := 32#32
  let v130 : BitVec 32 := Scalar.addi v129 c32_i32
  let v131 : Index := Scalar.indexCast v130
  ![v131.toNat]

def k0_chk43 (v134 : IVec S16 32) : Prop :=
  (∀ a x, ((![v134] : Fin 1 → IVec S16 32) a x).toNat < S32768.size a)
theorem k0_idx43_inb : ∀ (v134 : IVec S16 32) (k0_hw43 : k0_chk43 v134), ∀ a x, ((![v134] : Fin 1 → IVec S16 32) a x).toNat < S32768.size a := fun v134 k0_hw43 => k0_hw43
def k0_off51 (k0_t6 : Fin k0_t6_loop.trips) : Fin 1 → Nat :=
  let c0_i32_53 : BitVec 32 := 0#32
  let c1_i32_55 : BitVec 32 := 1#32
  let arg7 : BitVec 32 := Scf.iv c0_i32_53 c1_i32_55 k0_t6
  let c128_i32_164 : BitVec 32 := 128#32
  let v136 : BitVec 32 := Scalar.muli arg7 c128_i32_164
  let c48_i32 : BitVec 32 := 48#32
  let v137 : BitVec 32 := Scalar.addi v136 c48_i32
  let v138 : Index := Scalar.indexCast v137
  ![v138.toNat]

def k0_chk44 (v141 : IVec S16 32) : Prop :=
  (∀ a x, ((![v141] : Fin 1 → IVec S16 32) a x).toNat < S32768.size a)
theorem k0_idx44_inb : ∀ (v141 : IVec S16 32) (k0_hw44 : k0_chk44 v141), ∀ a x, ((![v141] : Fin 1 → IVec S16 32) a x).toNat < S32768.size a := fun v141 k0_hw44 => k0_hw44
def k0_off52 (k0_t6 : Fin k0_t6_loop.trips) : Fin 1 → Nat :=
  let c0_i32_53 : BitVec 32 := 0#32
  let c1_i32_55 : BitVec 32 := 1#32
  let arg7 : BitVec 32 := Scf.iv c0_i32_53 c1_i32_55 k0_t6
  let c128_i32_165 : BitVec 32 := 128#32
  let v143 : BitVec 32 := Scalar.muli arg7 c128_i32_165
  let c64_i32 : BitVec 32 := 64#32
  let v144 : BitVec 32 := Scalar.addi v143 c64_i32
  let v145 : Index := Scalar.indexCast v144
  ![v145.toNat]

def k0_chk45 (v148 : IVec S16 32) : Prop :=
  (∀ a x, ((![v148] : Fin 1 → IVec S16 32) a x).toNat < S32768.size a)
theorem k0_idx45_inb : ∀ (v148 : IVec S16 32) (k0_hw45 : k0_chk45 v148), ∀ a x, ((![v148] : Fin 1 → IVec S16 32) a x).toNat < S32768.size a := fun v148 k0_hw45 => k0_hw45
def k0_off53 (k0_t6 : Fin k0_t6_loop.trips) : Fin 1 → Nat :=
  let c0_i32_53 : BitVec 32 := 0#32
  let c1_i32_55 : BitVec 32 := 1#32
  let arg7 : BitVec 32 := Scf.iv c0_i32_53 c1_i32_55 k0_t6
  let c128_i32_166 : BitVec 32 := 128#32
  let v150 : BitVec 32 := Scalar.muli arg7 c128_i32_166
  let c80_i32 : BitVec 32 := 80#32
  let v151 : BitVec 32 := Scalar.addi v150 c80_i32
  let v152 : Index := Scalar.indexCast v151
  ![v152.toNat]

def k0_chk46 (v155 : IVec S16 32) : Prop :=
  (∀ a x, ((![v155] : Fin 1 → IVec S16 32) a x).toNat < S32768.size a)
theorem k0_idx46_inb : ∀ (v155 : IVec S16 32) (k0_hw46 : k0_chk46 v155), ∀ a x, ((![v155] : Fin 1 → IVec S16 32) a x).toNat < S32768.size a := fun v155 k0_hw46 => k0_hw46
def k0_off54 (k0_t6 : Fin k0_t6_loop.trips) : Fin 1 → Nat :=
  let c0_i32_53 : BitVec 32 := 0#32
  let c1_i32_55 : BitVec 32 := 1#32
  let arg7 : BitVec 32 := Scf.iv c0_i32_53 c1_i32_55 k0_t6
  let c128_i32_167 : BitVec 32 := 128#32
  let v157 : BitVec 32 := Scalar.muli arg7 c128_i32_167
  let c96_i32 : BitVec 32 := 96#32
  let v158 : BitVec 32 := Scalar.addi v157 c96_i32
  let v159 : Index := Scalar.indexCast v158
  ![v159.toNat]

def k0_chk47 (v162 : IVec S16 32) : Prop :=
  (∀ a x, ((![v162] : Fin 1 → IVec S16 32) a x).toNat < S32768.size a)
theorem k0_idx47_inb : ∀ (v162 : IVec S16 32) (k0_hw47 : k0_chk47 v162), ∀ a x, ((![v162] : Fin 1 → IVec S16 32) a x).toNat < S32768.size a := fun v162 k0_hw47 => k0_hw47
def k0_off55 (k0_t6 : Fin k0_t6_loop.trips) : Fin 1 → Nat :=
  let c0_i32_53 : BitVec 32 := 0#32
  let c1_i32_55 : BitVec 32 := 1#32
  let arg7 : BitVec 32 := Scf.iv c0_i32_53 c1_i32_55 k0_t6
  let c128_i32_168 : BitVec 32 := 128#32
  let v164 : BitVec 32 := Scalar.muli arg7 c128_i32_168
  let c112_i32 : BitVec 32 := 112#32
  let v165 : BitVec 32 := Scalar.addi v164 c112_i32
  let v166 : Index := Scalar.indexCast v165
  ![v166.toNat]

def k0_chk48 (v169 : IVec S16 32) : Prop :=
  (∀ a x, ((![v169] : Fin 1 → IVec S16 32) a x).toNat < S32768.size a)
theorem k0_idx48_inb : ∀ (v169 : IVec S16 32) (k0_hw48 : k0_chk48 v169), ∀ a x, ((![v169] : Fin 1 → IVec S16 32) a x).toNat < S32768.size a := fun v169 k0_hw48 => k0_hw48
def k0_off56 (k0_t6 : Fin k0_t6_loop.trips) (c0_i32_170 : BitVec 32) : Fin 1 → Nat :=
  let c0_i32_53 : BitVec 32 := 0#32
  let c1_i32_55 : BitVec 32 := 1#32
  let arg7 : BitVec 32 := Scf.iv c0_i32_53 c1_i32_55 k0_t6
  let c256_i32_158 : BitVec 32 := 256#32
  let v114 : BitVec 32 := Scalar.muli arg7 c256_i32_158
  let c128_i32_169 : BitVec 32 := 128#32
  let v171 : BitVec 32 := Scalar.addi v114 c128_i32_169
  let v172 : BitVec 32 := Scalar.addi v171 c0_i32_170
  let v173 : Index := Scalar.indexCast v172
  ![v173.toNat]
@[reducible] def k0_t7_loop : Scf.Loop 32 :=
  let c0_i32_63 : BitVec 32 := 0#32
  let c128_i32_64 : BitVec 32 := 128#32
  let v49 : BitVec 32 := Scalar.addi c0_i32_63 c128_i32_64
  let c1_i32_65 : BitVec 32 := 1#32
  ⟨c0_i32_63, v49, c1_i32_65⟩
def k0_off57 (k0_t7 : Fin k0_t7_loop.trips) : Fin 1 → Nat :=
  let c0_i32_63 : BitVec 32 := 0#32
  let c1_i32_65 : BitVec 32 := 1#32
  let arg7 : BitVec 32 := Scf.iv c0_i32_63 c1_i32_65 k0_t7
  let c128_i32_159 : BitVec 32 := 128#32
  let v115 : BitVec 32 := Scalar.muli arg7 c128_i32_159
  let c0_i32_160 : BitVec 32 := 0#32
  let v116 : BitVec 32 := Scalar.addi v115 c0_i32_160
  let v117 : Index := Scalar.indexCast v116
  ![v117.toNat]

def k0_chk49 (v120 : IVec S16 32) : Prop :=
  (∀ a x, ((![v120] : Fin 1 → IVec S16 32) a x).toNat < S32768.size a)
theorem k0_idx49_inb : ∀ (v120 : IVec S16 32) (k0_hw49 : k0_chk49 v120), ∀ a x, ((![v120] : Fin 1 → IVec S16 32) a x).toNat < S32768.size a := fun v120 k0_hw49 => k0_hw49
def k0_off58 (k0_t7 : Fin k0_t7_loop.trips) : Fin 1 → Nat :=
  let c0_i32_63 : BitVec 32 := 0#32
  let c1_i32_65 : BitVec 32 := 1#32
  let arg7 : BitVec 32 := Scf.iv c0_i32_63 c1_i32_65 k0_t7
  let c128_i32_161 : BitVec 32 := 128#32
  let v122 : BitVec 32 := Scalar.muli arg7 c128_i32_161
  let c16_i32_162 : BitVec 32 := 16#32
  let v123 : BitVec 32 := Scalar.addi v122 c16_i32_162
  let v124 : Index := Scalar.indexCast v123
  ![v124.toNat]

def k0_chk50 (v127 : IVec S16 32) : Prop :=
  (∀ a x, ((![v127] : Fin 1 → IVec S16 32) a x).toNat < S32768.size a)
theorem k0_idx50_inb : ∀ (v127 : IVec S16 32) (k0_hw50 : k0_chk50 v127), ∀ a x, ((![v127] : Fin 1 → IVec S16 32) a x).toNat < S32768.size a := fun v127 k0_hw50 => k0_hw50
def k0_off59 (k0_t7 : Fin k0_t7_loop.trips) : Fin 1 → Nat :=
  let c0_i32_63 : BitVec 32 := 0#32
  let c1_i32_65 : BitVec 32 := 1#32
  let arg7 : BitVec 32 := Scf.iv c0_i32_63 c1_i32_65 k0_t7
  let c128_i32_163 : BitVec 32 := 128#32
  let v129 : BitVec 32 := Scalar.muli arg7 c128_i32_163
  let c32_i32 : BitVec 32 := 32#32
  let v130 : BitVec 32 := Scalar.addi v129 c32_i32
  let v131 : Index := Scalar.indexCast v130
  ![v131.toNat]

def k0_chk51 (v134 : IVec S16 32) : Prop :=
  (∀ a x, ((![v134] : Fin 1 → IVec S16 32) a x).toNat < S32768.size a)
theorem k0_idx51_inb : ∀ (v134 : IVec S16 32) (k0_hw51 : k0_chk51 v134), ∀ a x, ((![v134] : Fin 1 → IVec S16 32) a x).toNat < S32768.size a := fun v134 k0_hw51 => k0_hw51
def k0_off60 (k0_t7 : Fin k0_t7_loop.trips) : Fin 1 → Nat :=
  let c0_i32_63 : BitVec 32 := 0#32
  let c1_i32_65 : BitVec 32 := 1#32
  let arg7 : BitVec 32 := Scf.iv c0_i32_63 c1_i32_65 k0_t7
  let c128_i32_164 : BitVec 32 := 128#32
  let v136 : BitVec 32 := Scalar.muli arg7 c128_i32_164
  let c48_i32 : BitVec 32 := 48#32
  let v137 : BitVec 32 := Scalar.addi v136 c48_i32
  let v138 : Index := Scalar.indexCast v137
  ![v138.toNat]

def k0_chk52 (v141 : IVec S16 32) : Prop :=
  (∀ a x, ((![v141] : Fin 1 → IVec S16 32) a x).toNat < S32768.size a)
theorem k0_idx52_inb : ∀ (v141 : IVec S16 32) (k0_hw52 : k0_chk52 v141), ∀ a x, ((![v141] : Fin 1 → IVec S16 32) a x).toNat < S32768.size a := fun v141 k0_hw52 => k0_hw52
def k0_off61 (k0_t7 : Fin k0_t7_loop.trips) : Fin 1 → Nat :=
  let c0_i32_63 : BitVec 32 := 0#32
  let c1_i32_65 : BitVec 32 := 1#32
  let arg7 : BitVec 32 := Scf.iv c0_i32_63 c1_i32_65 k0_t7
  let c128_i32_165 : BitVec 32 := 128#32
  let v143 : BitVec 32 := Scalar.muli arg7 c128_i32_165
  let c64_i32 : BitVec 32 := 64#32
  let v144 : BitVec 32 := Scalar.addi v143 c64_i32
  let v145 : Index := Scalar.indexCast v144
  ![v145.toNat]

def k0_chk53 (v148 : IVec S16 32) : Prop :=
  (∀ a x, ((![v148] : Fin 1 → IVec S16 32) a x).toNat < S32768.size a)
theorem k0_idx53_inb : ∀ (v148 : IVec S16 32) (k0_hw53 : k0_chk53 v148), ∀ a x, ((![v148] : Fin 1 → IVec S16 32) a x).toNat < S32768.size a := fun v148 k0_hw53 => k0_hw53
def k0_off62 (k0_t7 : Fin k0_t7_loop.trips) : Fin 1 → Nat :=
  let c0_i32_63 : BitVec 32 := 0#32
  let c1_i32_65 : BitVec 32 := 1#32
  let arg7 : BitVec 32 := Scf.iv c0_i32_63 c1_i32_65 k0_t7
  let c128_i32_166 : BitVec 32 := 128#32
  let v150 : BitVec 32 := Scalar.muli arg7 c128_i32_166
  let c80_i32 : BitVec 32 := 80#32
  let v151 : BitVec 32 := Scalar.addi v150 c80_i32
  let v152 : Index := Scalar.indexCast v151
  ![v152.toNat]

def k0_chk54 (v155 : IVec S16 32) : Prop :=
  (∀ a x, ((![v155] : Fin 1 → IVec S16 32) a x).toNat < S32768.size a)
theorem k0_idx54_inb : ∀ (v155 : IVec S16 32) (k0_hw54 : k0_chk54 v155), ∀ a x, ((![v155] : Fin 1 → IVec S16 32) a x).toNat < S32768.size a := fun v155 k0_hw54 => k0_hw54
def k0_off63 (k0_t7 : Fin k0_t7_loop.trips) : Fin 1 → Nat :=
  let c0_i32_63 : BitVec 32 := 0#32
  let c1_i32_65 : BitVec 32 := 1#32
  let arg7 : BitVec 32 := Scf.iv c0_i32_63 c1_i32_65 k0_t7
  let c128_i32_167 : BitVec 32 := 128#32
  let v157 : BitVec 32 := Scalar.muli arg7 c128_i32_167
  let c96_i32 : BitVec 32 := 96#32
  let v158 : BitVec 32 := Scalar.addi v157 c96_i32
  let v159 : Index := Scalar.indexCast v158
  ![v159.toNat]

def k0_chk55 (v162 : IVec S16 32) : Prop :=
  (∀ a x, ((![v162] : Fin 1 → IVec S16 32) a x).toNat < S32768.size a)
theorem k0_idx55_inb : ∀ (v162 : IVec S16 32) (k0_hw55 : k0_chk55 v162), ∀ a x, ((![v162] : Fin 1 → IVec S16 32) a x).toNat < S32768.size a := fun v162 k0_hw55 => k0_hw55
def k0_off64 (k0_t7 : Fin k0_t7_loop.trips) : Fin 1 → Nat :=
  let c0_i32_63 : BitVec 32 := 0#32
  let c1_i32_65 : BitVec 32 := 1#32
  let arg7 : BitVec 32 := Scf.iv c0_i32_63 c1_i32_65 k0_t7
  let c128_i32_168 : BitVec 32 := 128#32
  let v164 : BitVec 32 := Scalar.muli arg7 c128_i32_168
  let c112_i32 : BitVec 32 := 112#32
  let v165 : BitVec 32 := Scalar.addi v164 c112_i32
  let v166 : Index := Scalar.indexCast v165
  ![v166.toNat]

def k0_chk56 (v169 : IVec S16 32) : Prop :=
  (∀ a x, ((![v169] : Fin 1 → IVec S16 32) a x).toNat < S32768.size a)
theorem k0_idx56_inb : ∀ (v169 : IVec S16 32) (k0_hw56 : k0_chk56 v169), ∀ a x, ((![v169] : Fin 1 → IVec S16 32) a x).toNat < S32768.size a := fun v169 k0_hw56 => k0_hw56
def k0_off65 (k0_t7 : Fin k0_t7_loop.trips) (c0_i32_170 : BitVec 32) : Fin 1 → Nat :=
  let c0_i32_63 : BitVec 32 := 0#32
  let c1_i32_65 : BitVec 32 := 1#32
  let arg7 : BitVec 32 := Scf.iv c0_i32_63 c1_i32_65 k0_t7
  let c256_i32_158 : BitVec 32 := 256#32
  let v114 : BitVec 32 := Scalar.muli arg7 c256_i32_158
  let c128_i32_169 : BitVec 32 := 128#32
  let v171 : BitVec 32 := Scalar.addi v114 c128_i32_169
  let v172 : BitVec 32 := Scalar.addi v171 c0_i32_170
  let v173 : Index := Scalar.indexCast v172
  ![v173.toNat]
@[reducible] def k0_t8_loop : Scf.Loop 32 :=
  let c0_i32_73 : BitVec 32 := 0#32
  let c128_i32_74 : BitVec 32 := 128#32
  let v56 : BitVec 32 := Scalar.addi c0_i32_73 c128_i32_74
  let c1_i32_75 : BitVec 32 := 1#32
  ⟨c0_i32_73, v56, c1_i32_75⟩
def k0_off66 (k0_t8 : Fin k0_t8_loop.trips) : Fin 1 → Nat :=
  let c0_i32_73 : BitVec 32 := 0#32
  let c1_i32_75 : BitVec 32 := 1#32
  let arg7 : BitVec 32 := Scf.iv c0_i32_73 c1_i32_75 k0_t8
  let c128_i32_159 : BitVec 32 := 128#32
  let v115 : BitVec 32 := Scalar.muli arg7 c128_i32_159
  let c0_i32_160 : BitVec 32 := 0#32
  let v116 : BitVec 32 := Scalar.addi v115 c0_i32_160
  let v117 : Index := Scalar.indexCast v116
  ![v117.toNat]

def k0_chk57 (v120 : IVec S16 32) : Prop :=
  (∀ a x, ((![v120] : Fin 1 → IVec S16 32) a x).toNat < S32768.size a)
theorem k0_idx57_inb : ∀ (v120 : IVec S16 32) (k0_hw57 : k0_chk57 v120), ∀ a x, ((![v120] : Fin 1 → IVec S16 32) a x).toNat < S32768.size a := fun v120 k0_hw57 => k0_hw57
def k0_off67 (k0_t8 : Fin k0_t8_loop.trips) : Fin 1 → Nat :=
  let c0_i32_73 : BitVec 32 := 0#32
  let c1_i32_75 : BitVec 32 := 1#32
  let arg7 : BitVec 32 := Scf.iv c0_i32_73 c1_i32_75 k0_t8
  let c128_i32_161 : BitVec 32 := 128#32
  let v122 : BitVec 32 := Scalar.muli arg7 c128_i32_161
  let c16_i32_162 : BitVec 32 := 16#32
  let v123 : BitVec 32 := Scalar.addi v122 c16_i32_162
  let v124 : Index := Scalar.indexCast v123
  ![v124.toNat]

def k0_chk58 (v127 : IVec S16 32) : Prop :=
  (∀ a x, ((![v127] : Fin 1 → IVec S16 32) a x).toNat < S32768.size a)
theorem k0_idx58_inb : ∀ (v127 : IVec S16 32) (k0_hw58 : k0_chk58 v127), ∀ a x, ((![v127] : Fin 1 → IVec S16 32) a x).toNat < S32768.size a := fun v127 k0_hw58 => k0_hw58
def k0_off68 (k0_t8 : Fin k0_t8_loop.trips) : Fin 1 → Nat :=
  let c0_i32_73 : BitVec 32 := 0#32
  let c1_i32_75 : BitVec 32 := 1#32
  let arg7 : BitVec 32 := Scf.iv c0_i32_73 c1_i32_75 k0_t8
  let c128_i32_163 : BitVec 32 := 128#32
  let v129 : BitVec 32 := Scalar.muli arg7 c128_i32_163
  let c32_i32 : BitVec 32 := 32#32
  let v130 : BitVec 32 := Scalar.addi v129 c32_i32
  let v131 : Index := Scalar.indexCast v130
  ![v131.toNat]

def k0_chk59 (v134 : IVec S16 32) : Prop :=
  (∀ a x, ((![v134] : Fin 1 → IVec S16 32) a x).toNat < S32768.size a)
theorem k0_idx59_inb : ∀ (v134 : IVec S16 32) (k0_hw59 : k0_chk59 v134), ∀ a x, ((![v134] : Fin 1 → IVec S16 32) a x).toNat < S32768.size a := fun v134 k0_hw59 => k0_hw59
def k0_off69 (k0_t8 : Fin k0_t8_loop.trips) : Fin 1 → Nat :=
  let c0_i32_73 : BitVec 32 := 0#32
  let c1_i32_75 : BitVec 32 := 1#32
  let arg7 : BitVec 32 := Scf.iv c0_i32_73 c1_i32_75 k0_t8
  let c128_i32_164 : BitVec 32 := 128#32
  let v136 : BitVec 32 := Scalar.muli arg7 c128_i32_164
  let c48_i32 : BitVec 32 := 48#32
  let v137 : BitVec 32 := Scalar.addi v136 c48_i32
  let v138 : Index := Scalar.indexCast v137
  ![v138.toNat]

def k0_chk60 (v141 : IVec S16 32) : Prop :=
  (∀ a x, ((![v141] : Fin 1 → IVec S16 32) a x).toNat < S32768.size a)
theorem k0_idx60_inb : ∀ (v141 : IVec S16 32) (k0_hw60 : k0_chk60 v141), ∀ a x, ((![v141] : Fin 1 → IVec S16 32) a x).toNat < S32768.size a := fun v141 k0_hw60 => k0_hw60
def k0_off70 (k0_t8 : Fin k0_t8_loop.trips) : Fin 1 → Nat :=
  let c0_i32_73 : BitVec 32 := 0#32
  let c1_i32_75 : BitVec 32 := 1#32
  let arg7 : BitVec 32 := Scf.iv c0_i32_73 c1_i32_75 k0_t8
  let c128_i32_165 : BitVec 32 := 128#32
  let v143 : BitVec 32 := Scalar.muli arg7 c128_i32_165
  let c64_i32 : BitVec 32 := 64#32
  let v144 : BitVec 32 := Scalar.addi v143 c64_i32
  let v145 : Index := Scalar.indexCast v144
  ![v145.toNat]

def k0_chk61 (v148 : IVec S16 32) : Prop :=
  (∀ a x, ((![v148] : Fin 1 → IVec S16 32) a x).toNat < S32768.size a)
theorem k0_idx61_inb : ∀ (v148 : IVec S16 32) (k0_hw61 : k0_chk61 v148), ∀ a x, ((![v148] : Fin 1 → IVec S16 32) a x).toNat < S32768.size a := fun v148 k0_hw61 => k0_hw61
def k0_off71 (k0_t8 : Fin k0_t8_loop.trips) : Fin 1 → Nat :=
  let c0_i32_73 : BitVec 32 := 0#32
  let c1_i32_75 : BitVec 32 := 1#32
  let arg7 : BitVec 32 := Scf.iv c0_i32_73 c1_i32_75 k0_t8
  let c128_i32_166 : BitVec 32 := 128#32
  let v150 : BitVec 32 := Scalar.muli arg7 c128_i32_166
  let c80_i32 : BitVec 32 := 80#32
  let v151 : BitVec 32 := Scalar.addi v150 c80_i32
  let v152 : Index := Scalar.indexCast v151
  ![v152.toNat]

def k0_chk62 (v155 : IVec S16 32) : Prop :=
  (∀ a x, ((![v155] : Fin 1 → IVec S16 32) a x).toNat < S32768.size a)
theorem k0_idx62_inb : ∀ (v155 : IVec S16 32) (k0_hw62 : k0_chk62 v155), ∀ a x, ((![v155] : Fin 1 → IVec S16 32) a x).toNat < S32768.size a := fun v155 k0_hw62 => k0_hw62
def k0_off72 (k0_t8 : Fin k0_t8_loop.trips) : Fin 1 → Nat :=
  let c0_i32_73 : BitVec 32 := 0#32
  let c1_i32_75 : BitVec 32 := 1#32
  let arg7 : BitVec 32 := Scf.iv c0_i32_73 c1_i32_75 k0_t8
  let c128_i32_167 : BitVec 32 := 128#32
  let v157 : BitVec 32 := Scalar.muli arg7 c128_i32_167
  let c96_i32 : BitVec 32 := 96#32
  let v158 : BitVec 32 := Scalar.addi v157 c96_i32
  let v159 : Index := Scalar.indexCast v158
  ![v159.toNat]

def k0_chk63 (v162 : IVec S16 32) : Prop :=
  (∀ a x, ((![v162] : Fin 1 → IVec S16 32) a x).toNat < S32768.size a)
theorem k0_idx63_inb : ∀ (v162 : IVec S16 32) (k0_hw63 : k0_chk63 v162), ∀ a x, ((![v162] : Fin 1 → IVec S16 32) a x).toNat < S32768.size a := fun v162 k0_hw63 => k0_hw63
def k0_off73 (k0_t8 : Fin k0_t8_loop.trips) : Fin 1 → Nat :=
  let c0_i32_73 : BitVec 32 := 0#32
  let c1_i32_75 : BitVec 32 := 1#32
  let arg7 : BitVec 32 := Scf.iv c0_i32_73 c1_i32_75 k0_t8
  let c128_i32_168 : BitVec 32 := 128#32
  let v164 : BitVec 32 := Scalar.muli arg7 c128_i32_168
  let c112_i32 : BitVec 32 := 112#32
  let v165 : BitVec 32 := Scalar.addi v164 c112_i32
  let v166 : Index := Scalar.indexCast v165
  ![v166.toNat]

def k0_chk64 (v169 : IVec S16 32) : Prop :=
  (∀ a x, ((![v169] : Fin 1 → IVec S16 32) a x).toNat < S32768.size a)
theorem k0_idx64_inb : ∀ (v169 : IVec S16 32) (k0_hw64 : k0_chk64 v169), ∀ a x, ((![v169] : Fin 1 → IVec S16 32) a x).toNat < S32768.size a := fun v169 k0_hw64 => k0_hw64
def k0_off74 (k0_t8 : Fin k0_t8_loop.trips) (c0_i32_170 : BitVec 32) : Fin 1 → Nat :=
  let c0_i32_73 : BitVec 32 := 0#32
  let c1_i32_75 : BitVec 32 := 1#32
  let arg7 : BitVec 32 := Scf.iv c0_i32_73 c1_i32_75 k0_t8
  let c256_i32_158 : BitVec 32 := 256#32
  let v114 : BitVec 32 := Scalar.muli arg7 c256_i32_158
  let c128_i32_169 : BitVec 32 := 128#32
  let v171 : BitVec 32 := Scalar.addi v114 c128_i32_169
  let v172 : BitVec 32 := Scalar.addi v171 c0_i32_170
  let v173 : Index := Scalar.indexCast v172
  ![v173.toNat]
@[reducible] def k0_t9_loop : Scf.Loop 32 :=
  let c0_i32_83 : BitVec 32 := 0#32
  let c128_i32_84 : BitVec 32 := 128#32
  let v63 : BitVec 32 := Scalar.addi c0_i32_83 c128_i32_84
  let c1_i32_85 : BitVec 32 := 1#32
  ⟨c0_i32_83, v63, c1_i32_85⟩
def k0_off75 (k0_t9 : Fin k0_t9_loop.trips) : Fin 1 → Nat :=
  let c0_i32_83 : BitVec 32 := 0#32
  let c1_i32_85 : BitVec 32 := 1#32
  let arg7 : BitVec 32 := Scf.iv c0_i32_83 c1_i32_85 k0_t9
  let c128_i32_159 : BitVec 32 := 128#32
  let v115 : BitVec 32 := Scalar.muli arg7 c128_i32_159
  let c0_i32_160 : BitVec 32 := 0#32
  let v116 : BitVec 32 := Scalar.addi v115 c0_i32_160
  let v117 : Index := Scalar.indexCast v116
  ![v117.toNat]

def k0_chk65 (v120 : IVec S16 32) : Prop :=
  (∀ a x, ((![v120] : Fin 1 → IVec S16 32) a x).toNat < S32768.size a)
theorem k0_idx65_inb : ∀ (v120 : IVec S16 32) (k0_hw65 : k0_chk65 v120), ∀ a x, ((![v120] : Fin 1 → IVec S16 32) a x).toNat < S32768.size a := fun v120 k0_hw65 => k0_hw65
def k0_off76 (k0_t9 : Fin k0_t9_loop.trips) : Fin 1 → Nat :=
  let c0_i32_83 : BitVec 32 := 0#32
  let c1_i32_85 : BitVec 32 := 1#32
  let arg7 : BitVec 32 := Scf.iv c0_i32_83 c1_i32_85 k0_t9
  let c128_i32_161 : BitVec 32 := 128#32
  let v122 : BitVec 32 := Scalar.muli arg7 c128_i32_161
  let c16_i32_162 : BitVec 32 := 16#32
  let v123 : BitVec 32 := Scalar.addi v122 c16_i32_162
  let v124 : Index := Scalar.indexCast v123
  ![v124.toNat]

def k0_chk66 (v127 : IVec S16 32) : Prop :=
  (∀ a x, ((![v127] : Fin 1 → IVec S16 32) a x).toNat < S32768.size a)
theorem k0_idx66_inb : ∀ (v127 : IVec S16 32) (k0_hw66 : k0_chk66 v127), ∀ a x, ((![v127] : Fin 1 → IVec S16 32) a x).toNat < S32768.size a := fun v127 k0_hw66 => k0_hw66
def k0_off77 (k0_t9 : Fin k0_t9_loop.trips) : Fin 1 → Nat :=
  let c0_i32_83 : BitVec 32 := 0#32
  let c1_i32_85 : BitVec 32 := 1#32
  let arg7 : BitVec 32 := Scf.iv c0_i32_83 c1_i32_85 k0_t9
  let c128_i32_163 : BitVec 32 := 128#32
  let v129 : BitVec 32 := Scalar.muli arg7 c128_i32_163
  let c32_i32 : BitVec 32 := 32#32
  let v130 : BitVec 32 := Scalar.addi v129 c32_i32
  let v131 : Index := Scalar.indexCast v130
  ![v131.toNat]

def k0_chk67 (v134 : IVec S16 32) : Prop :=
  (∀ a x, ((![v134] : Fin 1 → IVec S16 32) a x).toNat < S32768.size a)
theorem k0_idx67_inb : ∀ (v134 : IVec S16 32) (k0_hw67 : k0_chk67 v134), ∀ a x, ((![v134] : Fin 1 → IVec S16 32) a x).toNat < S32768.size a := fun v134 k0_hw67 => k0_hw67
def k0_off78 (k0_t9 : Fin k0_t9_loop.trips) : Fin 1 → Nat :=
  let c0_i32_83 : BitVec 32 := 0#32
  let c1_i32_85 : BitVec 32 := 1#32
  let arg7 : BitVec 32 := Scf.iv c0_i32_83 c1_i32_85 k0_t9
  let c128_i32_164 : BitVec 32 := 128#32
  let v136 : BitVec 32 := Scalar.muli arg7 c128_i32_164
  let c48_i32 : BitVec 32 := 48#32
  let v137 : BitVec 32 := Scalar.addi v136 c48_i32
  let v138 : Index := Scalar.indexCast v137
  ![v138.toNat]

def k0_chk68 (v141 : IVec S16 32) : Prop :=
  (∀ a x, ((![v141] : Fin 1 → IVec S16 32) a x).toNat < S32768.size a)
theorem k0_idx68_inb : ∀ (v141 : IVec S16 32) (k0_hw68 : k0_chk68 v141), ∀ a x, ((![v141] : Fin 1 → IVec S16 32) a x).toNat < S32768.size a := fun v141 k0_hw68 => k0_hw68
def k0_off79 (k0_t9 : Fin k0_t9_loop.trips) : Fin 1 → Nat :=
  let c0_i32_83 : BitVec 32 := 0#32
  let c1_i32_85 : BitVec 32 := 1#32
  let arg7 : BitVec 32 := Scf.iv c0_i32_83 c1_i32_85 k0_t9
  let c128_i32_165 : BitVec 32 := 128#32
  let v143 : BitVec 32 := Scalar.muli arg7 c128_i32_165
  let c64_i32 : BitVec 32 := 64#32
  let v144 : BitVec 32 := Scalar.addi v143 c64_i32
  let v145 : Index := Scalar.indexCast v144
  ![v145.toNat]

def k0_chk69 (v148 : IVec S16 32) : Prop :=
  (∀ a x, ((![v148] : Fin 1 → IVec S16 32) a x).toNat < S32768.size a)
theorem k0_idx69_inb : ∀ (v148 : IVec S16 32) (k0_hw69 : k0_chk69 v148), ∀ a x, ((![v148] : Fin 1 → IVec S16 32) a x).toNat < S32768.size a := fun v148 k0_hw69 => k0_hw69
def k0_off80 (k0_t9 : Fin k0_t9_loop.trips) : Fin 1 → Nat :=
  let c0_i32_83 : BitVec 32 := 0#32
  let c1_i32_85 : BitVec 32 := 1#32
  let arg7 : BitVec 32 := Scf.iv c0_i32_83 c1_i32_85 k0_t9
  let c128_i32_166 : BitVec 32 := 128#32
  let v150 : BitVec 32 := Scalar.muli arg7 c128_i32_166
  let c80_i32 : BitVec 32 := 80#32
  let v151 : BitVec 32 := Scalar.addi v150 c80_i32
  let v152 : Index := Scalar.indexCast v151
  ![v152.toNat]

def k0_chk70 (v155 : IVec S16 32) : Prop :=
  (∀ a x, ((![v155] : Fin 1 → IVec S16 32) a x).toNat < S32768.size a)
theorem k0_idx70_inb : ∀ (v155 : IVec S16 32) (k0_hw70 : k0_chk70 v155), ∀ a x, ((![v155] : Fin 1 → IVec S16 32) a x).toNat < S32768.size a := fun v155 k0_hw70 => k0_hw70
def k0_off81 (k0_t9 : Fin k0_t9_loop.trips) : Fin 1 → Nat :=
  let c0_i32_83 : BitVec 32 := 0#32
  let c1_i32_85 : BitVec 32 := 1#32
  let arg7 : BitVec 32 := Scf.iv c0_i32_83 c1_i32_85 k0_t9
  let c128_i32_167 : BitVec 32 := 128#32
  let v157 : BitVec 32 := Scalar.muli arg7 c128_i32_167
  let c96_i32 : BitVec 32 := 96#32
  let v158 : BitVec 32 := Scalar.addi v157 c96_i32
  let v159 : Index := Scalar.indexCast v158
  ![v159.toNat]

def k0_chk71 (v162 : IVec S16 32) : Prop :=
  (∀ a x, ((![v162] : Fin 1 → IVec S16 32) a x).toNat < S32768.size a)
theorem k0_idx71_inb : ∀ (v162 : IVec S16 32) (k0_hw71 : k0_chk71 v162), ∀ a x, ((![v162] : Fin 1 → IVec S16 32) a x).toNat < S32768.size a := fun v162 k0_hw71 => k0_hw71
def k0_off82 (k0_t9 : Fin k0_t9_loop.trips) : Fin 1 → Nat :=
  let c0_i32_83 : BitVec 32 := 0#32
  let c1_i32_85 : BitVec 32 := 1#32
  let arg7 : BitVec 32 := Scf.iv c0_i32_83 c1_i32_85 k0_t9
  let c128_i32_168 : BitVec 32 := 128#32
  let v164 : BitVec 32 := Scalar.muli arg7 c128_i32_168
  let c112_i32 : BitVec 32 := 112#32
  let v165 : BitVec 32 := Scalar.addi v164 c112_i32
  let v166 : Index := Scalar.indexCast v165
  ![v166.toNat]

def k0_chk72 (v169 : IVec S16 32) : Prop :=
  (∀ a x, ((![v169] : Fin 1 → IVec S16 32) a x).toNat < S32768.size a)
theorem k0_idx72_inb : ∀ (v169 : IVec S16 32) (k0_hw72 : k0_chk72 v169), ∀ a x, ((![v169] : Fin 1 → IVec S16 32) a x).toNat < S32768.size a := fun v169 k0_hw72 => k0_hw72
def k0_off83 (k0_t9 : Fin k0_t9_loop.trips) (c0_i32_170 : BitVec 32) : Fin 1 → Nat :=
  let c0_i32_83 : BitVec 32 := 0#32
  let c1_i32_85 : BitVec 32 := 1#32
  let arg7 : BitVec 32 := Scf.iv c0_i32_83 c1_i32_85 k0_t9
  let c256_i32_158 : BitVec 32 := 256#32
  let v114 : BitVec 32 := Scalar.muli arg7 c256_i32_158
  let c128_i32_169 : BitVec 32 := 128#32
  let v171 : BitVec 32 := Scalar.addi v114 c128_i32_169
  let v172 : BitVec 32 := Scalar.addi v171 c0_i32_170
  let v173 : Index := Scalar.indexCast v172
  ![v173.toNat]
@[reducible] def k0_t10_loop : Scf.Loop 32 :=
  let c0_i32_93 : BitVec 32 := 0#32
  let c128_i32_94 : BitVec 32 := 128#32
  let v70 : BitVec 32 := Scalar.addi c0_i32_93 c128_i32_94
  let c1_i32_95 : BitVec 32 := 1#32
  ⟨c0_i32_93, v70, c1_i32_95⟩
def k0_off84 (k0_t10 : Fin k0_t10_loop.trips) : Fin 1 → Nat :=
  let c0_i32_93 : BitVec 32 := 0#32
  let c1_i32_95 : BitVec 32 := 1#32
  let arg7 : BitVec 32 := Scf.iv c0_i32_93 c1_i32_95 k0_t10
  let c128_i32_159 : BitVec 32 := 128#32
  let v115 : BitVec 32 := Scalar.muli arg7 c128_i32_159
  let c0_i32_160 : BitVec 32 := 0#32
  let v116 : BitVec 32 := Scalar.addi v115 c0_i32_160
  let v117 : Index := Scalar.indexCast v116
  ![v117.toNat]

def k0_chk73 (v120 : IVec S16 32) : Prop :=
  (∀ a x, ((![v120] : Fin 1 → IVec S16 32) a x).toNat < S32768.size a)
theorem k0_idx73_inb : ∀ (v120 : IVec S16 32) (k0_hw73 : k0_chk73 v120), ∀ a x, ((![v120] : Fin 1 → IVec S16 32) a x).toNat < S32768.size a := fun v120 k0_hw73 => k0_hw73
def k0_off85 (k0_t10 : Fin k0_t10_loop.trips) : Fin 1 → Nat :=
  let c0_i32_93 : BitVec 32 := 0#32
  let c1_i32_95 : BitVec 32 := 1#32
  let arg7 : BitVec 32 := Scf.iv c0_i32_93 c1_i32_95 k0_t10
  let c128_i32_161 : BitVec 32 := 128#32
  let v122 : BitVec 32 := Scalar.muli arg7 c128_i32_161
  let c16_i32_162 : BitVec 32 := 16#32
  let v123 : BitVec 32 := Scalar.addi v122 c16_i32_162
  let v124 : Index := Scalar.indexCast v123
  ![v124.toNat]

def k0_chk74 (v127 : IVec S16 32) : Prop :=
  (∀ a x, ((![v127] : Fin 1 → IVec S16 32) a x).toNat < S32768.size a)
theorem k0_idx74_inb : ∀ (v127 : IVec S16 32) (k0_hw74 : k0_chk74 v127), ∀ a x, ((![v127] : Fin 1 → IVec S16 32) a x).toNat < S32768.size a := fun v127 k0_hw74 => k0_hw74
def k0_off86 (k0_t10 : Fin k0_t10_loop.trips) : Fin 1 → Nat :=
  let c0_i32_93 : BitVec 32 := 0#32
  let c1_i32_95 : BitVec 32 := 1#32
  let arg7 : BitVec 32 := Scf.iv c0_i32_93 c1_i32_95 k0_t10
  let c128_i32_163 : BitVec 32 := 128#32
  let v129 : BitVec 32 := Scalar.muli arg7 c128_i32_163
  let c32_i32 : BitVec 32 := 32#32
  let v130 : BitVec 32 := Scalar.addi v129 c32_i32
  let v131 : Index := Scalar.indexCast v130
  ![v131.toNat]

def k0_chk75 (v134 : IVec S16 32) : Prop :=
  (∀ a x, ((![v134] : Fin 1 → IVec S16 32) a x).toNat < S32768.size a)
theorem k0_idx75_inb : ∀ (v134 : IVec S16 32) (k0_hw75 : k0_chk75 v134), ∀ a x, ((![v134] : Fin 1 → IVec S16 32) a x).toNat < S32768.size a := fun v134 k0_hw75 => k0_hw75
def k0_off87 (k0_t10 : Fin k0_t10_loop.trips) : Fin 1 → Nat :=
  let c0_i32_93 : BitVec 32 := 0#32
  let c1_i32_95 : BitVec 32 := 1#32
  let arg7 : BitVec 32 := Scf.iv c0_i32_93 c1_i32_95 k0_t10
  let c128_i32_164 : BitVec 32 := 128#32
  let v136 : BitVec 32 := Scalar.muli arg7 c128_i32_164
  let c48_i32 : BitVec 32 := 48#32
  let v137 : BitVec 32 := Scalar.addi v136 c48_i32
  let v138 : Index := Scalar.indexCast v137
  ![v138.toNat]

def k0_chk76 (v141 : IVec S16 32) : Prop :=
  (∀ a x, ((![v141] : Fin 1 → IVec S16 32) a x).toNat < S32768.size a)
theorem k0_idx76_inb : ∀ (v141 : IVec S16 32) (k0_hw76 : k0_chk76 v141), ∀ a x, ((![v141] : Fin 1 → IVec S16 32) a x).toNat < S32768.size a := fun v141 k0_hw76 => k0_hw76
def k0_off88 (k0_t10 : Fin k0_t10_loop.trips) : Fin 1 → Nat :=
  let c0_i32_93 : BitVec 32 := 0#32
  let c1_i32_95 : BitVec 32 := 1#32
  let arg7 : BitVec 32 := Scf.iv c0_i32_93 c1_i32_95 k0_t10
  let c128_i32_165 : BitVec 32 := 128#32
  let v143 : BitVec 32 := Scalar.muli arg7 c128_i32_165
  let c64_i32 : BitVec 32 := 64#32
  let v144 : BitVec 32 := Scalar.addi v143 c64_i32
  let v145 : Index := Scalar.indexCast v144
  ![v145.toNat]

def k0_chk77 (v148 : IVec S16 32) : Prop :=
  (∀ a x, ((![v148] : Fin 1 → IVec S16 32) a x).toNat < S32768.size a)
theorem k0_idx77_inb : ∀ (v148 : IVec S16 32) (k0_hw77 : k0_chk77 v148), ∀ a x, ((![v148] : Fin 1 → IVec S16 32) a x).toNat < S32768.size a := fun v148 k0_hw77 => k0_hw77
def k0_off89 (k0_t10 : Fin k0_t10_loop.trips) : Fin 1 → Nat :=
  let c0_i32_93 : BitVec 32 := 0#32
  let c1_i32_95 : BitVec 32 := 1#32
  let arg7 : BitVec 32 := Scf.iv c0_i32_93 c1_i32_95 k0_t10
  let c128_i32_166 : BitVec 32 := 128#32
  let v150 : BitVec 32 := Scalar.muli arg7 c128_i32_166
  let c80_i32 : BitVec 32 := 80#32
  let v151 : BitVec 32 := Scalar.addi v150 c80_i32
  let v152 : Index := Scalar.indexCast v151
  ![v152.toNat]

def k0_chk78 (v155 : IVec S16 32) : Prop :=
  (∀ a x, ((![v155] : Fin 1 → IVec S16 32) a x).toNat < S32768.size a)
theorem k0_idx78_inb : ∀ (v155 : IVec S16 32) (k0_hw78 : k0_chk78 v155), ∀ a x, ((![v155] : Fin 1 → IVec S16 32) a x).toNat < S32768.size a := fun v155 k0_hw78 => k0_hw78
def k0_off90 (k0_t10 : Fin k0_t10_loop.trips) : Fin 1 → Nat :=
  let c0_i32_93 : BitVec 32 := 0#32
  let c1_i32_95 : BitVec 32 := 1#32
  let arg7 : BitVec 32 := Scf.iv c0_i32_93 c1_i32_95 k0_t10
  let c128_i32_167 : BitVec 32 := 128#32
  let v157 : BitVec 32 := Scalar.muli arg7 c128_i32_167
  let c96_i32 : BitVec 32 := 96#32
  let v158 : BitVec 32 := Scalar.addi v157 c96_i32
  let v159 : Index := Scalar.indexCast v158
  ![v159.toNat]

def k0_chk79 (v162 : IVec S16 32) : Prop :=
  (∀ a x, ((![v162] : Fin 1 → IVec S16 32) a x).toNat < S32768.size a)
theorem k0_idx79_inb : ∀ (v162 : IVec S16 32) (k0_hw79 : k0_chk79 v162), ∀ a x, ((![v162] : Fin 1 → IVec S16 32) a x).toNat < S32768.size a := fun v162 k0_hw79 => k0_hw79
def k0_off91 (k0_t10 : Fin k0_t10_loop.trips) : Fin 1 → Nat :=
  let c0_i32_93 : BitVec 32 := 0#32
  let c1_i32_95 : BitVec 32 := 1#32
  let arg7 : BitVec 32 := Scf.iv c0_i32_93 c1_i32_95 k0_t10
  let c128_i32_168 : BitVec 32 := 128#32
  let v164 : BitVec 32 := Scalar.muli arg7 c128_i32_168
  let c112_i32 : BitVec 32 := 112#32
  let v165 : BitVec 32 := Scalar.addi v164 c112_i32
  let v166 : Index := Scalar.indexCast v165
  ![v166.toNat]

def k0_chk80 (v169 : IVec S16 32) : Prop :=
  (∀ a x, ((![v169] : Fin 1 → IVec S16 32) a x).toNat < S32768.size a)
theorem k0_idx80_inb : ∀ (v169 : IVec S16 32) (k0_hw80 : k0_chk80 v169), ∀ a x, ((![v169] : Fin 1 → IVec S16 32) a x).toNat < S32768.size a := fun v169 k0_hw80 => k0_hw80
def k0_off92 (k0_t10 : Fin k0_t10_loop.trips) (c0_i32_170 : BitVec 32) : Fin 1 → Nat :=
  let c0_i32_93 : BitVec 32 := 0#32
  let c1_i32_95 : BitVec 32 := 1#32
  let arg7 : BitVec 32 := Scf.iv c0_i32_93 c1_i32_95 k0_t10
  let c256_i32_158 : BitVec 32 := 256#32
  let v114 : BitVec 32 := Scalar.muli arg7 c256_i32_158
  let c128_i32_169 : BitVec 32 := 128#32
  let v171 : BitVec 32 := Scalar.addi v114 c128_i32_169
  let v172 : BitVec 32 := Scalar.addi v171 c0_i32_170
  let v173 : Index := Scalar.indexCast v172
  ![v173.toNat]
@[reducible] def k0_t11_loop : Scf.Loop 32 :=
  let c0_i32_103 : BitVec 32 := 0#32
  let c128_i32_104 : BitVec 32 := 128#32
  let v77 : BitVec 32 := Scalar.addi c0_i32_103 c128_i32_104
  let c1_i32_105 : BitVec 32 := 1#32
  ⟨c0_i32_103, v77, c1_i32_105⟩
def k0_off93 (k0_t11 : Fin k0_t11_loop.trips) : Fin 1 → Nat :=
  let c0_i32_103 : BitVec 32 := 0#32
  let c1_i32_105 : BitVec 32 := 1#32
  let arg7 : BitVec 32 := Scf.iv c0_i32_103 c1_i32_105 k0_t11
  let c128_i32_159 : BitVec 32 := 128#32
  let v115 : BitVec 32 := Scalar.muli arg7 c128_i32_159
  let c0_i32_160 : BitVec 32 := 0#32
  let v116 : BitVec 32 := Scalar.addi v115 c0_i32_160
  let v117 : Index := Scalar.indexCast v116
  ![v117.toNat]

def k0_chk81 (v120 : IVec S16 32) : Prop :=
  (∀ a x, ((![v120] : Fin 1 → IVec S16 32) a x).toNat < S32768.size a)
theorem k0_idx81_inb : ∀ (v120 : IVec S16 32) (k0_hw81 : k0_chk81 v120), ∀ a x, ((![v120] : Fin 1 → IVec S16 32) a x).toNat < S32768.size a := fun v120 k0_hw81 => k0_hw81
def k0_off94 (k0_t11 : Fin k0_t11_loop.trips) : Fin 1 → Nat :=
  let c0_i32_103 : BitVec 32 := 0#32
  let c1_i32_105 : BitVec 32 := 1#32
  let arg7 : BitVec 32 := Scf.iv c0_i32_103 c1_i32_105 k0_t11
  let c128_i32_161 : BitVec 32 := 128#32
  let v122 : BitVec 32 := Scalar.muli arg7 c128_i32_161
  let c16_i32_162 : BitVec 32 := 16#32
  let v123 : BitVec 32 := Scalar.addi v122 c16_i32_162
  let v124 : Index := Scalar.indexCast v123
  ![v124.toNat]

def k0_chk82 (v127 : IVec S16 32) : Prop :=
  (∀ a x, ((![v127] : Fin 1 → IVec S16 32) a x).toNat < S32768.size a)
theorem k0_idx82_inb : ∀ (v127 : IVec S16 32) (k0_hw82 : k0_chk82 v127), ∀ a x, ((![v127] : Fin 1 → IVec S16 32) a x).toNat < S32768.size a := fun v127 k0_hw82 => k0_hw82
def k0_off95 (k0_t11 : Fin k0_t11_loop.trips) : Fin 1 → Nat :=
  let c0_i32_103 : BitVec 32 := 0#32
  let c1_i32_105 : BitVec 32 := 1#32
  let arg7 : BitVec 32 := Scf.iv c0_i32_103 c1_i32_105 k0_t11
  let c128_i32_163 : BitVec 32 := 128#32
  let v129 : BitVec 32 := Scalar.muli arg7 c128_i32_163
  let c32_i32 : BitVec 32 := 32#32
  let v130 : BitVec 32 := Scalar.addi v129 c32_i32
  let v131 : Index := Scalar.indexCast v130
  ![v131.toNat]

def k0_chk83 (v134 : IVec S16 32) : Prop :=
  (∀ a x, ((![v134] : Fin 1 → IVec S16 32) a x).toNat < S32768.size a)
theorem k0_idx83_inb : ∀ (v134 : IVec S16 32) (k0_hw83 : k0_chk83 v134), ∀ a x, ((![v134] : Fin 1 → IVec S16 32) a x).toNat < S32768.size a := fun v134 k0_hw83 => k0_hw83
def k0_off96 (k0_t11 : Fin k0_t11_loop.trips) : Fin 1 → Nat :=
  let c0_i32_103 : BitVec 32 := 0#32
  let c1_i32_105 : BitVec 32 := 1#32
  let arg7 : BitVec 32 := Scf.iv c0_i32_103 c1_i32_105 k0_t11
  let c128_i32_164 : BitVec 32 := 128#32
  let v136 : BitVec 32 := Scalar.muli arg7 c128_i32_164
  let c48_i32 : BitVec 32 := 48#32
  let v137 : BitVec 32 := Scalar.addi v136 c48_i32
  let v138 : Index := Scalar.indexCast v137
  ![v138.toNat]

def k0_chk84 (v141 : IVec S16 32) : Prop :=
  (∀ a x, ((![v141] : Fin 1 → IVec S16 32) a x).toNat < S32768.size a)
theorem k0_idx84_inb : ∀ (v141 : IVec S16 32) (k0_hw84 : k0_chk84 v141), ∀ a x, ((![v141] : Fin 1 → IVec S16 32) a x).toNat < S32768.size a := fun v141 k0_hw84 => k0_hw84
def k0_off97 (k0_t11 : Fin k0_t11_loop.trips) : Fin 1 → Nat :=
  let c0_i32_103 : BitVec 32 := 0#32
  let c1_i32_105 : BitVec 32 := 1#32
  let arg7 : BitVec 32 := Scf.iv c0_i32_103 c1_i32_105 k0_t11
  let c128_i32_165 : BitVec 32 := 128#32
  let v143 : BitVec 32 := Scalar.muli arg7 c128_i32_165
  let c64_i32 : BitVec 32 := 64#32
  let v144 : BitVec 32 := Scalar.addi v143 c64_i32
  let v145 : Index := Scalar.indexCast v144
  ![v145.toNat]

def k0_chk85 (v148 : IVec S16 32) : Prop :=
  (∀ a x, ((![v148] : Fin 1 → IVec S16 32) a x).toNat < S32768.size a)
theorem k0_idx85_inb : ∀ (v148 : IVec S16 32) (k0_hw85 : k0_chk85 v148), ∀ a x, ((![v148] : Fin 1 → IVec S16 32) a x).toNat < S32768.size a := fun v148 k0_hw85 => k0_hw85
def k0_off98 (k0_t11 : Fin k0_t11_loop.trips) : Fin 1 → Nat :=
  let c0_i32_103 : BitVec 32 := 0#32
  let c1_i32_105 : BitVec 32 := 1#32
  let arg7 : BitVec 32 := Scf.iv c0_i32_103 c1_i32_105 k0_t11
  let c128_i32_166 : BitVec 32 := 128#32
  let v150 : BitVec 32 := Scalar.muli arg7 c128_i32_166
  let c80_i32 : BitVec 32 := 80#32
  let v151 : BitVec 32 := Scalar.addi v150 c80_i32
  let v152 : Index := Scalar.indexCast v151
  ![v152.toNat]

def k0_chk86 (v155 : IVec S16 32) : Prop :=
  (∀ a x, ((![v155] : Fin 1 → IVec S16 32) a x).toNat < S32768.size a)
theorem k0_idx86_inb : ∀ (v155 : IVec S16 32) (k0_hw86 : k0_chk86 v155), ∀ a x, ((![v155] : Fin 1 → IVec S16 32) a x).toNat < S32768.size a := fun v155 k0_hw86 => k0_hw86
def k0_off99 (k0_t11 : Fin k0_t11_loop.trips) : Fin 1 → Nat :=
  let c0_i32_103 : BitVec 32 := 0#32
  let c1_i32_105 : BitVec 32 := 1#32
  let arg7 : BitVec 32 := Scf.iv c0_i32_103 c1_i32_105 k0_t11
  let c128_i32_167 : BitVec 32 := 128#32
  let v157 : BitVec 32 := Scalar.muli arg7 c128_i32_167
  let c96_i32 : BitVec 32 := 96#32
  let v158 : BitVec 32 := Scalar.addi v157 c96_i32
  let v159 : Index := Scalar.indexCast v158
  ![v159.toNat]

def k0_chk87 (v162 : IVec S16 32) : Prop :=
  (∀ a x, ((![v162] : Fin 1 → IVec S16 32) a x).toNat < S32768.size a)
theorem k0_idx87_inb : ∀ (v162 : IVec S16 32) (k0_hw87 : k0_chk87 v162), ∀ a x, ((![v162] : Fin 1 → IVec S16 32) a x).toNat < S32768.size a := fun v162 k0_hw87 => k0_hw87
def k0_off100 (k0_t11 : Fin k0_t11_loop.trips) : Fin 1 → Nat :=
  let c0_i32_103 : BitVec 32 := 0#32
  let c1_i32_105 : BitVec 32 := 1#32
  let arg7 : BitVec 32 := Scf.iv c0_i32_103 c1_i32_105 k0_t11
  let c128_i32_168 : BitVec 32 := 128#32
  let v164 : BitVec 32 := Scalar.muli arg7 c128_i32_168
  let c112_i32 : BitVec 32 := 112#32
  let v165 : BitVec 32 := Scalar.addi v164 c112_i32
  let v166 : Index := Scalar.indexCast v165
  ![v166.toNat]

def k0_chk88 (v169 : IVec S16 32) : Prop :=
  (∀ a x, ((![v169] : Fin 1 → IVec S16 32) a x).toNat < S32768.size a)
theorem k0_idx88_inb : ∀ (v169 : IVec S16 32) (k0_hw88 : k0_chk88 v169), ∀ a x, ((![v169] : Fin 1 → IVec S16 32) a x).toNat < S32768.size a := fun v169 k0_hw88 => k0_hw88
def k0_off101 (k0_t11 : Fin k0_t11_loop.trips) (c0_i32_170 : BitVec 32) : Fin 1 → Nat :=
  let c0_i32_103 : BitVec 32 := 0#32
  let c1_i32_105 : BitVec 32 := 1#32
  let arg7 : BitVec 32 := Scf.iv c0_i32_103 c1_i32_105 k0_t11
  let c256_i32_158 : BitVec 32 := 256#32
  let v114 : BitVec 32 := Scalar.muli arg7 c256_i32_158
  let c128_i32_169 : BitVec 32 := 128#32
  let v171 : BitVec 32 := Scalar.addi v114 c128_i32_169
  let v172 : BitVec 32 := Scalar.addi v171 c0_i32_170
  let v173 : Index := Scalar.indexCast v172
  ![v173.toNat]
@[reducible] def k0_t12_loop : Scf.Loop 32 :=
  let c0_i32_113 : BitVec 32 := 0#32
  let c128_i32_114 : BitVec 32 := 128#32
  let v84 : BitVec 32 := Scalar.addi c0_i32_113 c128_i32_114
  let c1_i32_115 : BitVec 32 := 1#32
  ⟨c0_i32_113, v84, c1_i32_115⟩
def k0_off102 (k0_t12 : Fin k0_t12_loop.trips) : Fin 1 → Nat :=
  let c0_i32_113 : BitVec 32 := 0#32
  let c1_i32_115 : BitVec 32 := 1#32
  let arg7 : BitVec 32 := Scf.iv c0_i32_113 c1_i32_115 k0_t12
  let c128_i32_159 : BitVec 32 := 128#32
  let v115 : BitVec 32 := Scalar.muli arg7 c128_i32_159
  let c0_i32_160 : BitVec 32 := 0#32
  let v116 : BitVec 32 := Scalar.addi v115 c0_i32_160
  let v117 : Index := Scalar.indexCast v116
  ![v117.toNat]

def k0_chk89 (v120 : IVec S16 32) : Prop :=
  (∀ a x, ((![v120] : Fin 1 → IVec S16 32) a x).toNat < S32768.size a)
theorem k0_idx89_inb : ∀ (v120 : IVec S16 32) (k0_hw89 : k0_chk89 v120), ∀ a x, ((![v120] : Fin 1 → IVec S16 32) a x).toNat < S32768.size a := fun v120 k0_hw89 => k0_hw89
def k0_off103 (k0_t12 : Fin k0_t12_loop.trips) : Fin 1 → Nat :=
  let c0_i32_113 : BitVec 32 := 0#32
  let c1_i32_115 : BitVec 32 := 1#32
  let arg7 : BitVec 32 := Scf.iv c0_i32_113 c1_i32_115 k0_t12
  let c128_i32_161 : BitVec 32 := 128#32
  let v122 : BitVec 32 := Scalar.muli arg7 c128_i32_161
  let c16_i32_162 : BitVec 32 := 16#32
  let v123 : BitVec 32 := Scalar.addi v122 c16_i32_162
  let v124 : Index := Scalar.indexCast v123
  ![v124.toNat]

def k0_chk90 (v127 : IVec S16 32) : Prop :=
  (∀ a x, ((![v127] : Fin 1 → IVec S16 32) a x).toNat < S32768.size a)
theorem k0_idx90_inb : ∀ (v127 : IVec S16 32) (k0_hw90 : k0_chk90 v127), ∀ a x, ((![v127] : Fin 1 → IVec S16 32) a x).toNat < S32768.size a := fun v127 k0_hw90 => k0_hw90
def k0_off104 (k0_t12 : Fin k0_t12_loop.trips) : Fin 1 → Nat :=
  let c0_i32_113 : BitVec 32 := 0#32
  let c1_i32_115 : BitVec 32 := 1#32
  let arg7 : BitVec 32 := Scf.iv c0_i32_113 c1_i32_115 k0_t12
  let c128_i32_163 : BitVec 32 := 128#32
  let v129 : BitVec 32 := Scalar.muli arg7 c128_i32_163
  let c32_i32 : BitVec 32 := 32#32
  let v130 : BitVec 32 := Scalar.addi v129 c32_i32
  let v131 : Index := Scalar.indexCast v130
  ![v131.toNat]

def k0_chk91 (v134 : IVec S16 32) : Prop :=
  (∀ a x, ((![v134] : Fin 1 → IVec S16 32) a x).toNat < S32768.size a)
theorem k0_idx91_inb : ∀ (v134 : IVec S16 32) (k0_hw91 : k0_chk91 v134), ∀ a x, ((![v134] : Fin 1 → IVec S16 32) a x).toNat < S32768.size a := fun v134 k0_hw91 => k0_hw91
def k0_off105 (k0_t12 : Fin k0_t12_loop.trips) : Fin 1 → Nat :=
  let c0_i32_113 : BitVec 32 := 0#32
  let c1_i32_115 : BitVec 32 := 1#32
  let arg7 : BitVec 32 := Scf.iv c0_i32_113 c1_i32_115 k0_t12
  let c128_i32_164 : BitVec 32 := 128#32
  let v136 : BitVec 32 := Scalar.muli arg7 c128_i32_164
  let c48_i32 : BitVec 32 := 48#32
  let v137 : BitVec 32 := Scalar.addi v136 c48_i32
  let v138 : Index := Scalar.indexCast v137
  ![v138.toNat]

def k0_chk92 (v141 : IVec S16 32) : Prop :=
  (∀ a x, ((![v141] : Fin 1 → IVec S16 32) a x).toNat < S32768.size a)
theorem k0_idx92_inb : ∀ (v141 : IVec S16 32) (k0_hw92 : k0_chk92 v141), ∀ a x, ((![v141] : Fin 1 → IVec S16 32) a x).toNat < S32768.size a := fun v141 k0_hw92 => k0_hw92
def k0_off106 (k0_t12 : Fin k0_t12_loop.trips) : Fin 1 → Nat :=
  let c0_i32_113 : BitVec 32 := 0#32
  let c1_i32_115 : BitVec 32 := 1#32
  let arg7 : BitVec 32 := Scf.iv c0_i32_113 c1_i32_115 k0_t12
  let c128_i32_165 : BitVec 32 := 128#32
  let v143 : BitVec 32 := Scalar.muli arg7 c128_i32_165
  let c64_i32 : BitVec 32 := 64#32
  let v144 : BitVec 32 := Scalar.addi v143 c64_i32
  let v145 : Index := Scalar.indexCast v144
  ![v145.toNat]

def k0_chk93 (v148 : IVec S16 32) : Prop :=
  (∀ a x, ((![v148] : Fin 1 → IVec S16 32) a x).toNat < S32768.size a)
theorem k0_idx93_inb : ∀ (v148 : IVec S16 32) (k0_hw93 : k0_chk93 v148), ∀ a x, ((![v148] : Fin 1 → IVec S16 32) a x).toNat < S32768.size a := fun v148 k0_hw93 => k0_hw93
def k0_off107 (k0_t12 : Fin k0_t12_loop.trips) : Fin 1 → Nat :=
  let c0_i32_113 : BitVec 32 := 0#32
  let c1_i32_115 : BitVec 32 := 1#32
  let arg7 : BitVec 32 := Scf.iv c0_i32_113 c1_i32_115 k0_t12
  let c128_i32_166 : BitVec 32 := 128#32
  let v150 : BitVec 32 := Scalar.muli arg7 c128_i32_166
  let c80_i32 : BitVec 32 := 80#32
  let v151 : BitVec 32 := Scalar.addi v150 c80_i32
  let v152 : Index := Scalar.indexCast v151
  ![v152.toNat]

def k0_chk94 (v155 : IVec S16 32) : Prop :=
  (∀ a x, ((![v155] : Fin 1 → IVec S16 32) a x).toNat < S32768.size a)
theorem k0_idx94_inb : ∀ (v155 : IVec S16 32) (k0_hw94 : k0_chk94 v155), ∀ a x, ((![v155] : Fin 1 → IVec S16 32) a x).toNat < S32768.size a := fun v155 k0_hw94 => k0_hw94
def k0_off108 (k0_t12 : Fin k0_t12_loop.trips) : Fin 1 → Nat :=
  let c0_i32_113 : BitVec 32 := 0#32
  let c1_i32_115 : BitVec 32 := 1#32
  let arg7 : BitVec 32 := Scf.iv c0_i32_113 c1_i32_115 k0_t12
  let c128_i32_167 : BitVec 32 := 128#32
  let v157 : BitVec 32 := Scalar.muli arg7 c128_i32_167
  let c96_i32 : BitVec 32 := 96#32
  let v158 : BitVec 32 := Scalar.addi v157 c96_i32
  let v159 : Index := Scalar.indexCast v158
  ![v159.toNat]

def k0_chk95 (v162 : IVec S16 32) : Prop :=
  (∀ a x, ((![v162] : Fin 1 → IVec S16 32) a x).toNat < S32768.size a)
theorem k0_idx95_inb : ∀ (v162 : IVec S16 32) (k0_hw95 : k0_chk95 v162), ∀ a x, ((![v162] : Fin 1 → IVec S16 32) a x).toNat < S32768.size a := fun v162 k0_hw95 => k0_hw95
def k0_off109 (k0_t12 : Fin k0_t12_loop.trips) : Fin 1 → Nat :=
  let c0_i32_113 : BitVec 32 := 0#32
  let c1_i32_115 : BitVec 32 := 1#32
  let arg7 : BitVec 32 := Scf.iv c0_i32_113 c1_i32_115 k0_t12
  let c128_i32_168 : BitVec 32 := 128#32
  let v164 : BitVec 32 := Scalar.muli arg7 c128_i32_168
  let c112_i32 : BitVec 32 := 112#32
  let v165 : BitVec 32 := Scalar.addi v164 c112_i32
  let v166 : Index := Scalar.indexCast v165
  ![v166.toNat]

def k0_chk96 (v169 : IVec S16 32) : Prop :=
  (∀ a x, ((![v169] : Fin 1 → IVec S16 32) a x).toNat < S32768.size a)
theorem k0_idx96_inb : ∀ (v169 : IVec S16 32) (k0_hw96 : k0_chk96 v169), ∀ a x, ((![v169] : Fin 1 → IVec S16 32) a x).toNat < S32768.size a := fun v169 k0_hw96 => k0_hw96
def k0_off110 (k0_t12 : Fin k0_t12_loop.trips) (c0_i32_170 : BitVec 32) : Fin 1 → Nat :=
  let c0_i32_113 : BitVec 32 := 0#32
  let c1_i32_115 : BitVec 32 := 1#32
  let arg7 : BitVec 32 := Scf.iv c0_i32_113 c1_i32_115 k0_t12
  let c256_i32_158 : BitVec 32 := 256#32
  let v114 : BitVec 32 := Scalar.muli arg7 c256_i32_158
  let c128_i32_169 : BitVec 32 := 128#32
  let v171 : BitVec 32 := Scalar.addi v114 c128_i32_169
  let v172 : BitVec 32 := Scalar.addi v171 c0_i32_170
  let v173 : Index := Scalar.indexCast v172
  ![v173.toNat]
@[reducible] def k0_t13_loop : Scf.Loop 32 :=
  let c0_i32_123 : BitVec 32 := 0#32
  let c128_i32_124 : BitVec 32 := 128#32
  let v91 : BitVec 32 := Scalar.addi c0_i32_123 c128_i32_124
  let c1_i32_125 : BitVec 32 := 1#32
  ⟨c0_i32_123, v91, c1_i32_125⟩
def k0_off111 (k0_t13 : Fin k0_t13_loop.trips) : Fin 1 → Nat :=
  let c0_i32_123 : BitVec 32 := 0#32
  let c1_i32_125 : BitVec 32 := 1#32
  let arg7 : BitVec 32 := Scf.iv c0_i32_123 c1_i32_125 k0_t13
  let c128_i32_159 : BitVec 32 := 128#32
  let v115 : BitVec 32 := Scalar.muli arg7 c128_i32_159
  let c0_i32_160 : BitVec 32 := 0#32
  let v116 : BitVec 32 := Scalar.addi v115 c0_i32_160
  let v117 : Index := Scalar.indexCast v116
  ![v117.toNat]

def k0_chk97 (v120 : IVec S16 32) : Prop :=
  (∀ a x, ((![v120] : Fin 1 → IVec S16 32) a x).toNat < S32768.size a)
theorem k0_idx97_inb : ∀ (v120 : IVec S16 32) (k0_hw97 : k0_chk97 v120), ∀ a x, ((![v120] : Fin 1 → IVec S16 32) a x).toNat < S32768.size a := fun v120 k0_hw97 => k0_hw97
def k0_off112 (k0_t13 : Fin k0_t13_loop.trips) : Fin 1 → Nat :=
  let c0_i32_123 : BitVec 32 := 0#32
  let c1_i32_125 : BitVec 32 := 1#32
  let arg7 : BitVec 32 := Scf.iv c0_i32_123 c1_i32_125 k0_t13
  let c128_i32_161 : BitVec 32 := 128#32
  let v122 : BitVec 32 := Scalar.muli arg7 c128_i32_161
  let c16_i32_162 : BitVec 32 := 16#32
  let v123 : BitVec 32 := Scalar.addi v122 c16_i32_162
  let v124 : Index := Scalar.indexCast v123
  ![v124.toNat]

def k0_chk98 (v127 : IVec S16 32) : Prop :=
  (∀ a x, ((![v127] : Fin 1 → IVec S16 32) a x).toNat < S32768.size a)
theorem k0_idx98_inb : ∀ (v127 : IVec S16 32) (k0_hw98 : k0_chk98 v127), ∀ a x, ((![v127] : Fin 1 → IVec S16 32) a x).toNat < S32768.size a := fun v127 k0_hw98 => k0_hw98
def k0_off113 (k0_t13 : Fin k0_t13_loop.trips) : Fin 1 → Nat :=
  let c0_i32_123 : BitVec 32 := 0#32
  let c1_i32_125 : BitVec 32 := 1#32
  let arg7 : BitVec 32 := Scf.iv c0_i32_123 c1_i32_125 k0_t13
  let c128_i32_163 : BitVec 32 := 128#32
  let v129 : BitVec 32 := Scalar.muli arg7 c128_i32_163
  let c32_i32 : BitVec 32 := 32#32
  let v130 : BitVec 32 := Scalar.addi v129 c32_i32
  let v131 : Index := Scalar.indexCast v130
  ![v131.toNat]

def k0_chk99 (v134 : IVec S16 32) : Prop :=
  (∀ a x, ((![v134] : Fin 1 → IVec S16 32) a x).toNat < S32768.size a)
theorem k0_idx99_inb : ∀ (v134 : IVec S16 32) (k0_hw99 : k0_chk99 v134), ∀ a x, ((![v134] : Fin 1 → IVec S16 32) a x).toNat < S32768.size a := fun v134 k0_hw99 => k0_hw99
def k0_off114 (k0_t13 : Fin k0_t13_loop.trips) : Fin 1 → Nat :=
  let c0_i32_123 : BitVec 32 := 0#32
  let c1_i32_125 : BitVec 32 := 1#32
  let arg7 : BitVec 32 := Scf.iv c0_i32_123 c1_i32_125 k0_t13
  let c128_i32_164 : BitVec 32 := 128#32
  let v136 : BitVec 32 := Scalar.muli arg7 c128_i32_164
  let c48_i32 : BitVec 32 := 48#32
  let v137 : BitVec 32 := Scalar.addi v136 c48_i32
  let v138 : Index := Scalar.indexCast v137
  ![v138.toNat]

def k0_chk100 (v141 : IVec S16 32) : Prop :=
  (∀ a x, ((![v141] : Fin 1 → IVec S16 32) a x).toNat < S32768.size a)
theorem k0_idx100_inb : ∀ (v141 : IVec S16 32) (k0_hw100 : k0_chk100 v141), ∀ a x, ((![v141] : Fin 1 → IVec S16 32) a x).toNat < S32768.size a := fun v141 k0_hw100 => k0_hw100
def k0_off115 (k0_t13 : Fin k0_t13_loop.trips) : Fin 1 → Nat :=
  let c0_i32_123 : BitVec 32 := 0#32
  let c1_i32_125 : BitVec 32 := 1#32
  let arg7 : BitVec 32 := Scf.iv c0_i32_123 c1_i32_125 k0_t13
  let c128_i32_165 : BitVec 32 := 128#32
  let v143 : BitVec 32 := Scalar.muli arg7 c128_i32_165
  let c64_i32 : BitVec 32 := 64#32
  let v144 : BitVec 32 := Scalar.addi v143 c64_i32
  let v145 : Index := Scalar.indexCast v144
  ![v145.toNat]

def k0_chk101 (v148 : IVec S16 32) : Prop :=
  (∀ a x, ((![v148] : Fin 1 → IVec S16 32) a x).toNat < S32768.size a)
theorem k0_idx101_inb : ∀ (v148 : IVec S16 32) (k0_hw101 : k0_chk101 v148), ∀ a x, ((![v148] : Fin 1 → IVec S16 32) a x).toNat < S32768.size a := fun v148 k0_hw101 => k0_hw101
def k0_off116 (k0_t13 : Fin k0_t13_loop.trips) : Fin 1 → Nat :=
  let c0_i32_123 : BitVec 32 := 0#32
  let c1_i32_125 : BitVec 32 := 1#32
  let arg7 : BitVec 32 := Scf.iv c0_i32_123 c1_i32_125 k0_t13
  let c128_i32_166 : BitVec 32 := 128#32
  let v150 : BitVec 32 := Scalar.muli arg7 c128_i32_166
  let c80_i32 : BitVec 32 := 80#32
  let v151 : BitVec 32 := Scalar.addi v150 c80_i32
  let v152 : Index := Scalar.indexCast v151
  ![v152.toNat]

def k0_chk102 (v155 : IVec S16 32) : Prop :=
  (∀ a x, ((![v155] : Fin 1 → IVec S16 32) a x).toNat < S32768.size a)
theorem k0_idx102_inb : ∀ (v155 : IVec S16 32) (k0_hw102 : k0_chk102 v155), ∀ a x, ((![v155] : Fin 1 → IVec S16 32) a x).toNat < S32768.size a := fun v155 k0_hw102 => k0_hw102
def k0_off117 (k0_t13 : Fin k0_t13_loop.trips) : Fin 1 → Nat :=
  let c0_i32_123 : BitVec 32 := 0#32
  let c1_i32_125 : BitVec 32 := 1#32
  let arg7 : BitVec 32 := Scf.iv c0_i32_123 c1_i32_125 k0_t13
  let c128_i32_167 : BitVec 32 := 128#32
  let v157 : BitVec 32 := Scalar.muli arg7 c128_i32_167
  let c96_i32 : BitVec 32 := 96#32
  let v158 : BitVec 32 := Scalar.addi v157 c96_i32
  let v159 : Index := Scalar.indexCast v158
  ![v159.toNat]

def k0_chk103 (v162 : IVec S16 32) : Prop :=
  (∀ a x, ((![v162] : Fin 1 → IVec S16 32) a x).toNat < S32768.size a)
theorem k0_idx103_inb : ∀ (v162 : IVec S16 32) (k0_hw103 : k0_chk103 v162), ∀ a x, ((![v162] : Fin 1 → IVec S16 32) a x).toNat < S32768.size a := fun v162 k0_hw103 => k0_hw103
def k0_off118 (k0_t13 : Fin k0_t13_loop.trips) : Fin 1 → Nat :=
  let c0_i32_123 : BitVec 32 := 0#32
  let c1_i32_125 : BitVec 32 := 1#32
  let arg7 : BitVec 32 := Scf.iv c0_i32_123 c1_i32_125 k0_t13
  let c128_i32_168 : BitVec 32 := 128#32
  let v164 : BitVec 32 := Scalar.muli arg7 c128_i32_168
  let c112_i32 : BitVec 32 := 112#32
  let v165 : BitVec 32 := Scalar.addi v164 c112_i32
  let v166 : Index := Scalar.indexCast v165
  ![v166.toNat]

def k0_chk104 (v169 : IVec S16 32) : Prop :=
  (∀ a x, ((![v169] : Fin 1 → IVec S16 32) a x).toNat < S32768.size a)
theorem k0_idx104_inb : ∀ (v169 : IVec S16 32) (k0_hw104 : k0_chk104 v169), ∀ a x, ((![v169] : Fin 1 → IVec S16 32) a x).toNat < S32768.size a := fun v169 k0_hw104 => k0_hw104
def k0_off119 (k0_t13 : Fin k0_t13_loop.trips) (c0_i32_170 : BitVec 32) : Fin 1 → Nat :=
  let c0_i32_123 : BitVec 32 := 0#32
  let c1_i32_125 : BitVec 32 := 1#32
  let arg7 : BitVec 32 := Scf.iv c0_i32_123 c1_i32_125 k0_t13
  let c256_i32_158 : BitVec 32 := 256#32
  let v114 : BitVec 32 := Scalar.muli arg7 c256_i32_158
  let c128_i32_169 : BitVec 32 := 128#32
  let v171 : BitVec 32 := Scalar.addi v114 c128_i32_169
  let v172 : BitVec 32 := Scalar.addi v171 c0_i32_170
  let v173 : Index := Scalar.indexCast v172
  ![v173.toNat]
@[reducible] def k0_t14_loop : Scf.Loop 32 :=
  let c0_i32_133 : BitVec 32 := 0#32
  let c128_i32_134 : BitVec 32 := 128#32
  let v98 : BitVec 32 := Scalar.addi c0_i32_133 c128_i32_134
  let c1_i32_135 : BitVec 32 := 1#32
  ⟨c0_i32_133, v98, c1_i32_135⟩
def k0_off120 (k0_t14 : Fin k0_t14_loop.trips) : Fin 1 → Nat :=
  let c0_i32_133 : BitVec 32 := 0#32
  let c1_i32_135 : BitVec 32 := 1#32
  let arg7 : BitVec 32 := Scf.iv c0_i32_133 c1_i32_135 k0_t14
  let c128_i32_159 : BitVec 32 := 128#32
  let v115 : BitVec 32 := Scalar.muli arg7 c128_i32_159
  let c0_i32_160 : BitVec 32 := 0#32
  let v116 : BitVec 32 := Scalar.addi v115 c0_i32_160
  let v117 : Index := Scalar.indexCast v116
  ![v117.toNat]

def k0_chk105 (v120 : IVec S16 32) : Prop :=
  (∀ a x, ((![v120] : Fin 1 → IVec S16 32) a x).toNat < S32768.size a)
theorem k0_idx105_inb : ∀ (v120 : IVec S16 32) (k0_hw105 : k0_chk105 v120), ∀ a x, ((![v120] : Fin 1 → IVec S16 32) a x).toNat < S32768.size a := fun v120 k0_hw105 => k0_hw105
def k0_off121 (k0_t14 : Fin k0_t14_loop.trips) : Fin 1 → Nat :=
  let c0_i32_133 : BitVec 32 := 0#32
  let c1_i32_135 : BitVec 32 := 1#32
  let arg7 : BitVec 32 := Scf.iv c0_i32_133 c1_i32_135 k0_t14
  let c128_i32_161 : BitVec 32 := 128#32
  let v122 : BitVec 32 := Scalar.muli arg7 c128_i32_161
  let c16_i32_162 : BitVec 32 := 16#32
  let v123 : BitVec 32 := Scalar.addi v122 c16_i32_162
  let v124 : Index := Scalar.indexCast v123
  ![v124.toNat]

def k0_chk106 (v127 : IVec S16 32) : Prop :=
  (∀ a x, ((![v127] : Fin 1 → IVec S16 32) a x).toNat < S32768.size a)
theorem k0_idx106_inb : ∀ (v127 : IVec S16 32) (k0_hw106 : k0_chk106 v127), ∀ a x, ((![v127] : Fin 1 → IVec S16 32) a x).toNat < S32768.size a := fun v127 k0_hw106 => k0_hw106
def k0_off122 (k0_t14 : Fin k0_t14_loop.trips) : Fin 1 → Nat :=
  let c0_i32_133 : BitVec 32 := 0#32
  let c1_i32_135 : BitVec 32 := 1#32
  let arg7 : BitVec 32 := Scf.iv c0_i32_133 c1_i32_135 k0_t14
  let c128_i32_163 : BitVec 32 := 128#32
  let v129 : BitVec 32 := Scalar.muli arg7 c128_i32_163
  let c32_i32 : BitVec 32 := 32#32
  let v130 : BitVec 32 := Scalar.addi v129 c32_i32
  let v131 : Index := Scalar.indexCast v130
  ![v131.toNat]

def k0_chk107 (v134 : IVec S16 32) : Prop :=
  (∀ a x, ((![v134] : Fin 1 → IVec S16 32) a x).toNat < S32768.size a)
theorem k0_idx107_inb : ∀ (v134 : IVec S16 32) (k0_hw107 : k0_chk107 v134), ∀ a x, ((![v134] : Fin 1 → IVec S16 32) a x).toNat < S32768.size a := fun v134 k0_hw107 => k0_hw107
def k0_off123 (k0_t14 : Fin k0_t14_loop.trips) : Fin 1 → Nat :=
  let c0_i32_133 : BitVec 32 := 0#32
  let c1_i32_135 : BitVec 32 := 1#32
  let arg7 : BitVec 32 := Scf.iv c0_i32_133 c1_i32_135 k0_t14
  let c128_i32_164 : BitVec 32 := 128#32
  let v136 : BitVec 32 := Scalar.muli arg7 c128_i32_164
  let c48_i32 : BitVec 32 := 48#32
  let v137 : BitVec 32 := Scalar.addi v136 c48_i32
  let v138 : Index := Scalar.indexCast v137
  ![v138.toNat]

def k0_chk108 (v141 : IVec S16 32) : Prop :=
  (∀ a x, ((![v141] : Fin 1 → IVec S16 32) a x).toNat < S32768.size a)
theorem k0_idx108_inb : ∀ (v141 : IVec S16 32) (k0_hw108 : k0_chk108 v141), ∀ a x, ((![v141] : Fin 1 → IVec S16 32) a x).toNat < S32768.size a := fun v141 k0_hw108 => k0_hw108
def k0_off124 (k0_t14 : Fin k0_t14_loop.trips) : Fin 1 → Nat :=
  let c0_i32_133 : BitVec 32 := 0#32
  let c1_i32_135 : BitVec 32 := 1#32
  let arg7 : BitVec 32 := Scf.iv c0_i32_133 c1_i32_135 k0_t14
  let c128_i32_165 : BitVec 32 := 128#32
  let v143 : BitVec 32 := Scalar.muli arg7 c128_i32_165
  let c64_i32 : BitVec 32 := 64#32
  let v144 : BitVec 32 := Scalar.addi v143 c64_i32
  let v145 : Index := Scalar.indexCast v144
  ![v145.toNat]

def k0_chk109 (v148 : IVec S16 32) : Prop :=
  (∀ a x, ((![v148] : Fin 1 → IVec S16 32) a x).toNat < S32768.size a)
theorem k0_idx109_inb : ∀ (v148 : IVec S16 32) (k0_hw109 : k0_chk109 v148), ∀ a x, ((![v148] : Fin 1 → IVec S16 32) a x).toNat < S32768.size a := fun v148 k0_hw109 => k0_hw109
def k0_off125 (k0_t14 : Fin k0_t14_loop.trips) : Fin 1 → Nat :=
  let c0_i32_133 : BitVec 32 := 0#32
  let c1_i32_135 : BitVec 32 := 1#32
  let arg7 : BitVec 32 := Scf.iv c0_i32_133 c1_i32_135 k0_t14
  let c128_i32_166 : BitVec 32 := 128#32
  let v150 : BitVec 32 := Scalar.muli arg7 c128_i32_166
  let c80_i32 : BitVec 32 := 80#32
  let v151 : BitVec 32 := Scalar.addi v150 c80_i32
  let v152 : Index := Scalar.indexCast v151
  ![v152.toNat]

def k0_chk110 (v155 : IVec S16 32) : Prop :=
  (∀ a x, ((![v155] : Fin 1 → IVec S16 32) a x).toNat < S32768.size a)
theorem k0_idx110_inb : ∀ (v155 : IVec S16 32) (k0_hw110 : k0_chk110 v155), ∀ a x, ((![v155] : Fin 1 → IVec S16 32) a x).toNat < S32768.size a := fun v155 k0_hw110 => k0_hw110
def k0_off126 (k0_t14 : Fin k0_t14_loop.trips) : Fin 1 → Nat :=
  let c0_i32_133 : BitVec 32 := 0#32
  let c1_i32_135 : BitVec 32 := 1#32
  let arg7 : BitVec 32 := Scf.iv c0_i32_133 c1_i32_135 k0_t14
  let c128_i32_167 : BitVec 32 := 128#32
  let v157 : BitVec 32 := Scalar.muli arg7 c128_i32_167
  let c96_i32 : BitVec 32 := 96#32
  let v158 : BitVec 32 := Scalar.addi v157 c96_i32
  let v159 : Index := Scalar.indexCast v158
  ![v159.toNat]

def k0_chk111 (v162 : IVec S16 32) : Prop :=
  (∀ a x, ((![v162] : Fin 1 → IVec S16 32) a x).toNat < S32768.size a)
theorem k0_idx111_inb : ∀ (v162 : IVec S16 32) (k0_hw111 : k0_chk111 v162), ∀ a x, ((![v162] : Fin 1 → IVec S16 32) a x).toNat < S32768.size a := fun v162 k0_hw111 => k0_hw111
def k0_off127 (k0_t14 : Fin k0_t14_loop.trips) : Fin 1 → Nat :=
  let c0_i32_133 : BitVec 32 := 0#32
  let c1_i32_135 : BitVec 32 := 1#32
  let arg7 : BitVec 32 := Scf.iv c0_i32_133 c1_i32_135 k0_t14
  let c128_i32_168 : BitVec 32 := 128#32
  let v164 : BitVec 32 := Scalar.muli arg7 c128_i32_168
  let c112_i32 : BitVec 32 := 112#32
  let v165 : BitVec 32 := Scalar.addi v164 c112_i32
  let v166 : Index := Scalar.indexCast v165
  ![v166.toNat]

def k0_chk112 (v169 : IVec S16 32) : Prop :=
  (∀ a x, ((![v169] : Fin 1 → IVec S16 32) a x).toNat < S32768.size a)
theorem k0_idx112_inb : ∀ (v169 : IVec S16 32) (k0_hw112 : k0_chk112 v169), ∀ a x, ((![v169] : Fin 1 → IVec S16 32) a x).toNat < S32768.size a := fun v169 k0_hw112 => k0_hw112
def k0_off128 (k0_t14 : Fin k0_t14_loop.trips) (c0_i32_170 : BitVec 32) : Fin 1 → Nat :=
  let c0_i32_133 : BitVec 32 := 0#32
  let c1_i32_135 : BitVec 32 := 1#32
  let arg7 : BitVec 32 := Scf.iv c0_i32_133 c1_i32_135 k0_t14
  let c256_i32_158 : BitVec 32 := 256#32
  let v114 : BitVec 32 := Scalar.muli arg7 c256_i32_158
  let c128_i32_169 : BitVec 32 := 128#32
  let v171 : BitVec 32 := Scalar.addi v114 c128_i32_169
  let v172 : BitVec 32 := Scalar.addi v171 c0_i32_170
  let v173 : Index := Scalar.indexCast v172
  ![v173.toNat]
@[reducible] def k0_t15_loop : Scf.Loop 32 :=
  let c0_i32_143 : BitVec 32 := 0#32
  let c128_i32_144 : BitVec 32 := 128#32
  let v105 : BitVec 32 := Scalar.addi c0_i32_143 c128_i32_144
  let c1_i32_145 : BitVec 32 := 1#32
  ⟨c0_i32_143, v105, c1_i32_145⟩
def k0_off129 (k0_t15 : Fin k0_t15_loop.trips) : Fin 1 → Nat :=
  let c0_i32_143 : BitVec 32 := 0#32
  let c1_i32_145 : BitVec 32 := 1#32
  let arg7 : BitVec 32 := Scf.iv c0_i32_143 c1_i32_145 k0_t15
  let c128_i32_159 : BitVec 32 := 128#32
  let v115 : BitVec 32 := Scalar.muli arg7 c128_i32_159
  let c0_i32_160 : BitVec 32 := 0#32
  let v116 : BitVec 32 := Scalar.addi v115 c0_i32_160
  let v117 : Index := Scalar.indexCast v116
  ![v117.toNat]

def k0_chk113 (v120 : IVec S16 32) : Prop :=
  (∀ a x, ((![v120] : Fin 1 → IVec S16 32) a x).toNat < S32768.size a)
theorem k0_idx113_inb : ∀ (v120 : IVec S16 32) (k0_hw113 : k0_chk113 v120), ∀ a x, ((![v120] : Fin 1 → IVec S16 32) a x).toNat < S32768.size a := fun v120 k0_hw113 => k0_hw113
def k0_off130 (k0_t15 : Fin k0_t15_loop.trips) : Fin 1 → Nat :=
  let c0_i32_143 : BitVec 32 := 0#32
  let c1_i32_145 : BitVec 32 := 1#32
  let arg7 : BitVec 32 := Scf.iv c0_i32_143 c1_i32_145 k0_t15
  let c128_i32_161 : BitVec 32 := 128#32
  let v122 : BitVec 32 := Scalar.muli arg7 c128_i32_161
  let c16_i32_162 : BitVec 32 := 16#32
  let v123 : BitVec 32 := Scalar.addi v122 c16_i32_162
  let v124 : Index := Scalar.indexCast v123
  ![v124.toNat]

def k0_chk114 (v127 : IVec S16 32) : Prop :=
  (∀ a x, ((![v127] : Fin 1 → IVec S16 32) a x).toNat < S32768.size a)
theorem k0_idx114_inb : ∀ (v127 : IVec S16 32) (k0_hw114 : k0_chk114 v127), ∀ a x, ((![v127] : Fin 1 → IVec S16 32) a x).toNat < S32768.size a := fun v127 k0_hw114 => k0_hw114
def k0_off131 (k0_t15 : Fin k0_t15_loop.trips) : Fin 1 → Nat :=
  let c0_i32_143 : BitVec 32 := 0#32
  let c1_i32_145 : BitVec 32 := 1#32
  let arg7 : BitVec 32 := Scf.iv c0_i32_143 c1_i32_145 k0_t15
  let c128_i32_163 : BitVec 32 := 128#32
  let v129 : BitVec 32 := Scalar.muli arg7 c128_i32_163
  let c32_i32 : BitVec 32 := 32#32
  let v130 : BitVec 32 := Scalar.addi v129 c32_i32
  let v131 : Index := Scalar.indexCast v130
  ![v131.toNat]

def k0_chk115 (v134 : IVec S16 32) : Prop :=
  (∀ a x, ((![v134] : Fin 1 → IVec S16 32) a x).toNat < S32768.size a)
theorem k0_idx115_inb : ∀ (v134 : IVec S16 32) (k0_hw115 : k0_chk115 v134), ∀ a x, ((![v134] : Fin 1 → IVec S16 32) a x).toNat < S32768.size a := fun v134 k0_hw115 => k0_hw115
def k0_off132 (k0_t15 : Fin k0_t15_loop.trips) : Fin 1 → Nat :=
  let c0_i32_143 : BitVec 32 := 0#32
  let c1_i32_145 : BitVec 32 := 1#32
  let arg7 : BitVec 32 := Scf.iv c0_i32_143 c1_i32_145 k0_t15
  let c128_i32_164 : BitVec 32 := 128#32
  let v136 : BitVec 32 := Scalar.muli arg7 c128_i32_164
  let c48_i32 : BitVec 32 := 48#32
  let v137 : BitVec 32 := Scalar.addi v136 c48_i32
  let v138 : Index := Scalar.indexCast v137
  ![v138.toNat]

def k0_chk116 (v141 : IVec S16 32) : Prop :=
  (∀ a x, ((![v141] : Fin 1 → IVec S16 32) a x).toNat < S32768.size a)
theorem k0_idx116_inb : ∀ (v141 : IVec S16 32) (k0_hw116 : k0_chk116 v141), ∀ a x, ((![v141] : Fin 1 → IVec S16 32) a x).toNat < S32768.size a := fun v141 k0_hw116 => k0_hw116
def k0_off133 (k0_t15 : Fin k0_t15_loop.trips) : Fin 1 → Nat :=
  let c0_i32_143 : BitVec 32 := 0#32
  let c1_i32_145 : BitVec 32 := 1#32
  let arg7 : BitVec 32 := Scf.iv c0_i32_143 c1_i32_145 k0_t15
  let c128_i32_165 : BitVec 32 := 128#32
  let v143 : BitVec 32 := Scalar.muli arg7 c128_i32_165
  let c64_i32 : BitVec 32 := 64#32
  let v144 : BitVec 32 := Scalar.addi v143 c64_i32
  let v145 : Index := Scalar.indexCast v144
  ![v145.toNat]

def k0_chk117 (v148 : IVec S16 32) : Prop :=
  (∀ a x, ((![v148] : Fin 1 → IVec S16 32) a x).toNat < S32768.size a)
theorem k0_idx117_inb : ∀ (v148 : IVec S16 32) (k0_hw117 : k0_chk117 v148), ∀ a x, ((![v148] : Fin 1 → IVec S16 32) a x).toNat < S32768.size a := fun v148 k0_hw117 => k0_hw117
def k0_off134 (k0_t15 : Fin k0_t15_loop.trips) : Fin 1 → Nat :=
  let c0_i32_143 : BitVec 32 := 0#32
  let c1_i32_145 : BitVec 32 := 1#32
  let arg7 : BitVec 32 := Scf.iv c0_i32_143 c1_i32_145 k0_t15
  let c128_i32_166 : BitVec 32 := 128#32
  let v150 : BitVec 32 := Scalar.muli arg7 c128_i32_166
  let c80_i32 : BitVec 32 := 80#32
  let v151 : BitVec 32 := Scalar.addi v150 c80_i32
  let v152 : Index := Scalar.indexCast v151
  ![v152.toNat]

def k0_chk118 (v155 : IVec S16 32) : Prop :=
  (∀ a x, ((![v155] : Fin 1 → IVec S16 32) a x).toNat < S32768.size a)
theorem k0_idx118_inb : ∀ (v155 : IVec S16 32) (k0_hw118 : k0_chk118 v155), ∀ a x, ((![v155] : Fin 1 → IVec S16 32) a x).toNat < S32768.size a := fun v155 k0_hw118 => k0_hw118
def k0_off135 (k0_t15 : Fin k0_t15_loop.trips) : Fin 1 → Nat :=
  let c0_i32_143 : BitVec 32 := 0#32
  let c1_i32_145 : BitVec 32 := 1#32
  let arg7 : BitVec 32 := Scf.iv c0_i32_143 c1_i32_145 k0_t15
  let c128_i32_167 : BitVec 32 := 128#32
  let v157 : BitVec 32 := Scalar.muli arg7 c128_i32_167
  let c96_i32 : BitVec 32 := 96#32
  let v158 : BitVec 32 := Scalar.addi v157 c96_i32
  let v159 : Index := Scalar.indexCast v158
  ![v159.toNat]

def k0_chk119 (v162 : IVec S16 32) : Prop :=
  (∀ a x, ((![v162] : Fin 1 → IVec S16 32) a x).toNat < S32768.size a)
theorem k0_idx119_inb : ∀ (v162 : IVec S16 32) (k0_hw119 : k0_chk119 v162), ∀ a x, ((![v162] : Fin 1 → IVec S16 32) a x).toNat < S32768.size a := fun v162 k0_hw119 => k0_hw119
def k0_off136 (k0_t15 : Fin k0_t15_loop.trips) : Fin 1 → Nat :=
  let c0_i32_143 : BitVec 32 := 0#32
  let c1_i32_145 : BitVec 32 := 1#32
  let arg7 : BitVec 32 := Scf.iv c0_i32_143 c1_i32_145 k0_t15
  let c128_i32_168 : BitVec 32 := 128#32
  let v164 : BitVec 32 := Scalar.muli arg7 c128_i32_168
  let c112_i32 : BitVec 32 := 112#32
  let v165 : BitVec 32 := Scalar.addi v164 c112_i32
  let v166 : Index := Scalar.indexCast v165
  ![v166.toNat]

def k0_chk120 (v169 : IVec S16 32) : Prop :=
  (∀ a x, ((![v169] : Fin 1 → IVec S16 32) a x).toNat < S32768.size a)
theorem k0_idx120_inb : ∀ (v169 : IVec S16 32) (k0_hw120 : k0_chk120 v169), ∀ a x, ((![v169] : Fin 1 → IVec S16 32) a x).toNat < S32768.size a := fun v169 k0_hw120 => k0_hw120
def k0_off137 (k0_t15 : Fin k0_t15_loop.trips) (c0_i32_170 : BitVec 32) : Fin 1 → Nat :=
  let c0_i32_143 : BitVec 32 := 0#32
  let c1_i32_145 : BitVec 32 := 1#32
  let arg7 : BitVec 32 := Scf.iv c0_i32_143 c1_i32_145 k0_t15
  let c256_i32_158 : BitVec 32 := 256#32
  let v114 : BitVec 32 := Scalar.muli arg7 c256_i32_158
  let c128_i32_169 : BitVec 32 := 128#32
  let v171 : BitVec 32 := Scalar.addi v114 c128_i32_169
  let v172 : BitVec 32 := Scalar.addi v171 c0_i32_170
  let v173 : Index := Scalar.indexCast v172
  ![v173.toNat]
@[reducible] def k0_t16_loop : Scf.Loop 32 :=
  let c0_i32_153 : BitVec 32 := 0#32
  let c128_i32_154 : BitVec 32 := 128#32
  let v112 : BitVec 32 := Scalar.addi c0_i32_153 c128_i32_154
  let c1_i32_155 : BitVec 32 := 1#32
  ⟨c0_i32_153, v112, c1_i32_155⟩
def k0_off138 (k0_t16 : Fin k0_t16_loop.trips) : Fin 1 → Nat :=
  let c0_i32_153 : BitVec 32 := 0#32
  let c1_i32_155 : BitVec 32 := 1#32
  let arg7 : BitVec 32 := Scf.iv c0_i32_153 c1_i32_155 k0_t16
  let c128_i32_159 : BitVec 32 := 128#32
  let v115 : BitVec 32 := Scalar.muli arg7 c128_i32_159
  let c0_i32_160 : BitVec 32 := 0#32
  let v116 : BitVec 32 := Scalar.addi v115 c0_i32_160
  let v117 : Index := Scalar.indexCast v116
  ![v117.toNat]

def k0_chk121 (v120 : IVec S16 32) : Prop :=
  (∀ a x, ((![v120] : Fin 1 → IVec S16 32) a x).toNat < S32768.size a)
theorem k0_idx121_inb : ∀ (v120 : IVec S16 32) (k0_hw121 : k0_chk121 v120), ∀ a x, ((![v120] : Fin 1 → IVec S16 32) a x).toNat < S32768.size a := fun v120 k0_hw121 => k0_hw121
def k0_off139 (k0_t16 : Fin k0_t16_loop.trips) : Fin 1 → Nat :=
  let c0_i32_153 : BitVec 32 := 0#32
  let c1_i32_155 : BitVec 32 := 1#32
  let arg7 : BitVec 32 := Scf.iv c0_i32_153 c1_i32_155 k0_t16
  let c128_i32_161 : BitVec 32 := 128#32
  let v122 : BitVec 32 := Scalar.muli arg7 c128_i32_161
  let c16_i32_162 : BitVec 32 := 16#32
  let v123 : BitVec 32 := Scalar.addi v122 c16_i32_162
  let v124 : Index := Scalar.indexCast v123
  ![v124.toNat]

def k0_chk122 (v127 : IVec S16 32) : Prop :=
  (∀ a x, ((![v127] : Fin 1 → IVec S16 32) a x).toNat < S32768.size a)
theorem k0_idx122_inb : ∀ (v127 : IVec S16 32) (k0_hw122 : k0_chk122 v127), ∀ a x, ((![v127] : Fin 1 → IVec S16 32) a x).toNat < S32768.size a := fun v127 k0_hw122 => k0_hw122
def k0_off140 (k0_t16 : Fin k0_t16_loop.trips) : Fin 1 → Nat :=
  let c0_i32_153 : BitVec 32 := 0#32
  let c1_i32_155 : BitVec 32 := 1#32
  let arg7 : BitVec 32 := Scf.iv c0_i32_153 c1_i32_155 k0_t16
  let c128_i32_163 : BitVec 32 := 128#32
  let v129 : BitVec 32 := Scalar.muli arg7 c128_i32_163
  let c32_i32 : BitVec 32 := 32#32
  let v130 : BitVec 32 := Scalar.addi v129 c32_i32
  let v131 : Index := Scalar.indexCast v130
  ![v131.toNat]

def k0_chk123 (v134 : IVec S16 32) : Prop :=
  (∀ a x, ((![v134] : Fin 1 → IVec S16 32) a x).toNat < S32768.size a)
theorem k0_idx123_inb : ∀ (v134 : IVec S16 32) (k0_hw123 : k0_chk123 v134), ∀ a x, ((![v134] : Fin 1 → IVec S16 32) a x).toNat < S32768.size a := fun v134 k0_hw123 => k0_hw123
def k0_off141 (k0_t16 : Fin k0_t16_loop.trips) : Fin 1 → Nat :=
  let c0_i32_153 : BitVec 32 := 0#32
  let c1_i32_155 : BitVec 32 := 1#32
  let arg7 : BitVec 32 := Scf.iv c0_i32_153 c1_i32_155 k0_t16
  let c128_i32_164 : BitVec 32 := 128#32
  let v136 : BitVec 32 := Scalar.muli arg7 c128_i32_164
  let c48_i32 : BitVec 32 := 48#32
  let v137 : BitVec 32 := Scalar.addi v136 c48_i32
  let v138 : Index := Scalar.indexCast v137
  ![v138.toNat]

def k0_chk124 (v141 : IVec S16 32) : Prop :=
  (∀ a x, ((![v141] : Fin 1 → IVec S16 32) a x).toNat < S32768.size a)
theorem k0_idx124_inb : ∀ (v141 : IVec S16 32) (k0_hw124 : k0_chk124 v141), ∀ a x, ((![v141] : Fin 1 → IVec S16 32) a x).toNat < S32768.size a := fun v141 k0_hw124 => k0_hw124
def k0_off142 (k0_t16 : Fin k0_t16_loop.trips) : Fin 1 → Nat :=
  let c0_i32_153 : BitVec 32 := 0#32
  let c1_i32_155 : BitVec 32 := 1#32
  let arg7 : BitVec 32 := Scf.iv c0_i32_153 c1_i32_155 k0_t16
  let c128_i32_165 : BitVec 32 := 128#32
  let v143 : BitVec 32 := Scalar.muli arg7 c128_i32_165
  let c64_i32 : BitVec 32 := 64#32
  let v144 : BitVec 32 := Scalar.addi v143 c64_i32
  let v145 : Index := Scalar.indexCast v144
  ![v145.toNat]

def k0_chk125 (v148 : IVec S16 32) : Prop :=
  (∀ a x, ((![v148] : Fin 1 → IVec S16 32) a x).toNat < S32768.size a)
theorem k0_idx125_inb : ∀ (v148 : IVec S16 32) (k0_hw125 : k0_chk125 v148), ∀ a x, ((![v148] : Fin 1 → IVec S16 32) a x).toNat < S32768.size a := fun v148 k0_hw125 => k0_hw125
def k0_off143 (k0_t16 : Fin k0_t16_loop.trips) : Fin 1 → Nat :=
  let c0_i32_153 : BitVec 32 := 0#32
  let c1_i32_155 : BitVec 32 := 1#32
  let arg7 : BitVec 32 := Scf.iv c0_i32_153 c1_i32_155 k0_t16
  let c128_i32_166 : BitVec 32 := 128#32
  let v150 : BitVec 32 := Scalar.muli arg7 c128_i32_166
  let c80_i32 : BitVec 32 := 80#32
  let v151 : BitVec 32 := Scalar.addi v150 c80_i32
  let v152 : Index := Scalar.indexCast v151
  ![v152.toNat]

def k0_chk126 (v155 : IVec S16 32) : Prop :=
  (∀ a x, ((![v155] : Fin 1 → IVec S16 32) a x).toNat < S32768.size a)
theorem k0_idx126_inb : ∀ (v155 : IVec S16 32) (k0_hw126 : k0_chk126 v155), ∀ a x, ((![v155] : Fin 1 → IVec S16 32) a x).toNat < S32768.size a := fun v155 k0_hw126 => k0_hw126
def k0_off144 (k0_t16 : Fin k0_t16_loop.trips) : Fin 1 → Nat :=
  let c0_i32_153 : BitVec 32 := 0#32
  let c1_i32_155 : BitVec 32 := 1#32
  let arg7 : BitVec 32 := Scf.iv c0_i32_153 c1_i32_155 k0_t16
  let c128_i32_167 : BitVec 32 := 128#32
  let v157 : BitVec 32 := Scalar.muli arg7 c128_i32_167
  let c96_i32 : BitVec 32 := 96#32
  let v158 : BitVec 32 := Scalar.addi v157 c96_i32
  let v159 : Index := Scalar.indexCast v158
  ![v159.toNat]

def k0_chk127 (v162 : IVec S16 32) : Prop :=
  (∀ a x, ((![v162] : Fin 1 → IVec S16 32) a x).toNat < S32768.size a)
theorem k0_idx127_inb : ∀ (v162 : IVec S16 32) (k0_hw127 : k0_chk127 v162), ∀ a x, ((![v162] : Fin 1 → IVec S16 32) a x).toNat < S32768.size a := fun v162 k0_hw127 => k0_hw127
def k0_off145 (k0_t16 : Fin k0_t16_loop.trips) : Fin 1 → Nat :=
  let c0_i32_153 : BitVec 32 := 0#32
  let c1_i32_155 : BitVec 32 := 1#32
  let arg7 : BitVec 32 := Scf.iv c0_i32_153 c1_i32_155 k0_t16
  let c128_i32_168 : BitVec 32 := 128#32
  let v164 : BitVec 32 := Scalar.muli arg7 c128_i32_168
  let c112_i32 : BitVec 32 := 112#32
  let v165 : BitVec 32 := Scalar.addi v164 c112_i32
  let v166 : Index := Scalar.indexCast v165
  ![v166.toNat]

def k0_chk128 (v169 : IVec S16 32) : Prop :=
  (∀ a x, ((![v169] : Fin 1 → IVec S16 32) a x).toNat < S32768.size a)
theorem k0_idx128_inb : ∀ (v169 : IVec S16 32) (k0_hw128 : k0_chk128 v169), ∀ a x, ((![v169] : Fin 1 → IVec S16 32) a x).toNat < S32768.size a := fun v169 k0_hw128 => k0_hw128
def k0_off146 (k0_t16 : Fin k0_t16_loop.trips) (c0_i32_170 : BitVec 32) : Fin 1 → Nat :=
  let c0_i32_153 : BitVec 32 := 0#32
  let c1_i32_155 : BitVec 32 := 1#32
  let arg7 : BitVec 32 := Scf.iv c0_i32_153 c1_i32_155 k0_t16
  let c256_i32_158 : BitVec 32 := 256#32
  let v114 : BitVec 32 := Scalar.muli arg7 c256_i32_158
  let c128_i32_169 : BitVec 32 := 128#32
  let v171 : BitVec 32 := Scalar.addi v114 c128_i32_169
  let v172 : BitVec 32 := Scalar.addi v171 c0_i32_170
  let v173 : Index := Scalar.indexCast v172
  ![v173.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x4096x256 : Shape := ⟨3, ![16, 4096, 256]⟩
abbrev S_ : Shape := ⟨0, ![]⟩
abbrev S1 : Shape := ⟨1, ![1]⟩
abbrev S2 : Shape := ⟨1, ![2]⟩
abbrev S1x1x1 : Shape := ⟨3, ![1, 1, 1]⟩
abbrev S16x4096x128 : Shape := ⟨3, ![16, 4096, 128]⟩
abbrev S128 : Shape := ⟨1, ![128]⟩
abbrev S16x4096x256x1 : Shape := ⟨4, ![16, 4096, 256, 1]⟩
abbrev S1x1x1x1 : Shape := ⟨4, ![1, 1, 1, 1]⟩

abbrev nBuf : Space → Nat
  | .hbm => 311
  | .vmem => 0
  | .smem => 0
  | _ => 0

abbrev hbmTy0_0 (i : Nat) : BufTy := match i % 128 with
  | 0 => ⟨S16x4096x256, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S_, .f32⟩
  | 12 => ⟨S_, .f32⟩
  | 13 => ⟨S_, .f32⟩
  | 14 => ⟨S_, .f32⟩
  | 15 => ⟨S1x1x1, .f32⟩
  | 16 => ⟨S1x1x1, .f32⟩
  | 17 => ⟨S1, .i32⟩
  | 18 => ⟨S_, .i32⟩
  | 19 => ⟨S1, .i32⟩
  | 20 => ⟨S_, .i32⟩
  | 21 => ⟨S16x4096x128, .i64⟩
  | 22 => ⟨S16x4096x128, .i64⟩
  | 23 => ⟨S16x4096x128, .i64⟩
  | 24 => ⟨S_, .i64⟩
  | 25 => ⟨S16x4096x128, .i64⟩
  | 26 => ⟨S16x4096x128, .i64⟩
  | 27 => ⟨S_, .i64⟩
  | 28 => ⟨S16x4096x128, .i64⟩
  | 29 => ⟨S16x4096x128, .i64⟩
  | 30 => ⟨S_, .i64⟩
  | 31 => ⟨S16x4096x128, .i64⟩
  | 32 => ⟨S16x4096x128, .i64⟩
  | 33 => ⟨S16x4096x128, .i64⟩
  | 34 => ⟨S16x4096x128, .i64⟩
  | 35 => ⟨S_, .i64⟩
  | 36 => ⟨S16x4096x128, .i64⟩
  | 37 => ⟨S16x4096x128, .i64⟩
  | 38 => ⟨S16x4096x128, .i32⟩
  | 39 => ⟨S16x4096x128, .i32⟩
  | 40 => ⟨S_, .i32⟩
  | 41 => ⟨S_, .i32⟩
  | 42 => ⟨S_, .i32⟩
  | 43 => ⟨S16x4096x128, .i32⟩
  | 44 => ⟨S16x4096x128, .i32⟩
  | 45 => ⟨S16x4096x128, .i32⟩
  | 46 => ⟨S16x4096x128, .i32⟩
  | 47 => ⟨S16x4096x128, .i32⟩
  | 48 => ⟨S_, .i32⟩
  | 49 => ⟨S16x4096x128, .i32⟩
  | 50 => ⟨S16x4096x128, .i32⟩
  | 51 => ⟨S_, .i32⟩
  | 52 => ⟨S16x4096x128, .i32⟩
  | 53 => ⟨S16x4096x128, .i32⟩
  | 54 => ⟨S16x4096x128, .i32⟩
  | 55 => ⟨S16x4096x128, .i32⟩
  | 56 => ⟨S16x4096x128, .i32⟩
  | 57 => ⟨S_, .i32⟩
  | 58 => ⟨S16x4096x128, .i32⟩
  | 59 => ⟨S16x4096x128, .i32⟩
  | 60 => ⟨S_, .i32⟩
  | 61 => ⟨S16x4096x128, .i32⟩
  | 62 => ⟨S16x4096x128, .i32⟩
  | 63 => ⟨S16x4096x128, .i32⟩
  | 64 => ⟨S16x4096x128, .i32⟩
  | 65 => ⟨S16x4096x128, .i32⟩
  | 66 => ⟨S_, .i32⟩
  | 67 => ⟨S16x4096x128, .i32⟩
  | 68 => ⟨S16x4096x128, .i32⟩
  | 69 => ⟨S_, .i32⟩
  | 70 => ⟨S16x4096x128, .i32⟩
  | 71 => ⟨S16x4096x128, .i32⟩
  | 72 => ⟨S16x4096x128, .i32⟩
  | 73 => ⟨S16x4096x128, .i32⟩
  | 74 => ⟨S16x4096x128, .i32⟩
  | 75 => ⟨S_, .i32⟩
  | 76 => ⟨S16x4096x128, .i32⟩
  | 77 => ⟨S16x4096x128, .i32⟩
  | 78 => ⟨S_, .i32⟩
  | 79 => ⟨S16x4096x128, .i32⟩
  | 80 => ⟨S16x4096x128, .i32⟩
  | 81 => ⟨S16x4096x128, .i32⟩
  | 82 => ⟨S16x4096x128, .i32⟩
  | 83 => ⟨S16x4096x128, .i32⟩
  | 84 => ⟨S16x4096x128, .i32⟩
  | 85 => ⟨S16x4096x128, .i32⟩
  | 86 => ⟨S16x4096x128, .i32⟩
  | 87 => ⟨S_, .i32⟩
  | 88 => ⟨S16x4096x128, .i32⟩
  | 89 => ⟨S16x4096x128, .i32⟩
  | 90 => ⟨S16x4096x128, .i32⟩
  | 91 => ⟨S_, .i32⟩
  | 92 => ⟨S16x4096x128, .i32⟩
  | 93 => ⟨S16x4096x128, .i32⟩
  | 94 => ⟨S_, .i32⟩
  | 95 => ⟨S16x4096x128, .i32⟩
  | 96 => ⟨S16x4096x128, .i32⟩
  | 97 => ⟨S16x4096x128, .i32⟩
  | 98 => ⟨S16x4096x128, .i32⟩
  | 99 => ⟨S16x4096x128, .i32⟩
  | 100 => ⟨S_, .i32⟩
  | 101 => ⟨S16x4096x128, .i32⟩
  | 102 => ⟨S16x4096x128, .i32⟩
  | 103 => ⟨S_, .i32⟩
  | 104 => ⟨S16x4096x128, .i32⟩
  | 105 => ⟨S16x4096x128, .i32⟩
  | 106 => ⟨S16x4096x128, .i32⟩
  | 107 => ⟨S16x4096x128, .i32⟩
  | 108 => ⟨S16x4096x128, .i32⟩
  | 109 => ⟨S_, .i32⟩
  | 110 => ⟨S16x4096x128, .i32⟩
  | 111 => ⟨S16x4096x128, .i32⟩
  | 112 => ⟨S_, .i32⟩
  | 113 => ⟨S16x4096x128, .i32⟩
  | 114 => ⟨S16x4096x128, .i32⟩
  | 115 => ⟨S16x4096x128, .i32⟩
  | 116 => ⟨S16x4096x128, .i32⟩
  | 117 => ⟨S16x4096x128, .i32⟩
  | 118 => ⟨S_, .i32⟩
  | 119 => ⟨S16x4096x128, .i32⟩
  | 120 => ⟨S16x4096x128, .i32⟩
  | 121 => ⟨S_, .i32⟩
  | 122 => ⟨S16x4096x128, .i32⟩
  | 123 => ⟨S16x4096x128, .i32⟩
  | 124 => ⟨S16x4096x128, .i32⟩
  | 125 => ⟨S16x4096x128, .i32⟩
  | 126 => ⟨S16x4096x128, .i32⟩
  | 127 => ⟨S16x4096x128, .i32⟩
  | _ => ⟨S16x4096x256, .f32⟩

abbrev hbmTy0_1 (i : Nat) : BufTy := match i % 128 with
  | 0 => ⟨S16x4096x128, .i32⟩
  | 1 => ⟨S16x4096x128, .i32⟩
  | 2 => ⟨S_, .i32⟩
  | 3 => ⟨S16x4096x128, .i32⟩
  | 4 => ⟨S16x4096x128, .i32⟩
  | 5 => ⟨S16x4096x128, .i32⟩
  | 6 => ⟨S_, .i32⟩
  | 7 => ⟨S16x4096x128, .i32⟩
  | 8 => ⟨S16x4096x128, .i32⟩
  | 9 => ⟨S_, .i32⟩
  | 10 => ⟨S16x4096x128, .i32⟩
  | 11 => ⟨S16x4096x128, .i32⟩
  | 12 => ⟨S16x4096x128, .i32⟩
  | 13 => ⟨S16x4096x128, .i32⟩
  | 14 => ⟨S16x4096x128, .i32⟩
  | 15 => ⟨S_, .i32⟩
  | 16 => ⟨S16x4096x128, .i32⟩
  | 17 => ⟨S16x4096x128, .i32⟩
  | 18 => ⟨S_, .i32⟩
  | 19 => ⟨S16x4096x128, .i32⟩
  | 20 => ⟨S16x4096x128, .i32⟩
  | 21 => ⟨S16x4096x128, .i32⟩
  | 22 => ⟨S16x4096x128, .i32⟩
  | 23 => ⟨S16x4096x128, .i32⟩
  | 24 => ⟨S_, .i32⟩
  | 25 => ⟨S16x4096x128, .i32⟩
  | 26 => ⟨S16x4096x128, .i32⟩
  | 27 => ⟨S_, .i32⟩
  | 28 => ⟨S16x4096x128, .i32⟩
  | 29 => ⟨S16x4096x128, .i32⟩
  | 30 => ⟨S16x4096x128, .i32⟩
  | 31 => ⟨S16x4096x128, .i32⟩
  | 32 => ⟨S16x4096x128, .i32⟩
  | 33 => ⟨S_, .i32⟩
  | 34 => ⟨S16x4096x128, .i32⟩
  | 35 => ⟨S16x4096x128, .i32⟩
  | 36 => ⟨S_, .i32⟩
  | 37 => ⟨S16x4096x128, .i32⟩
  | 38 => ⟨S16x4096x128, .i32⟩
  | 39 => ⟨S16x4096x128, .i32⟩
  | 40 => ⟨S16x4096x128, .i32⟩
  | 41 => ⟨S16x4096x128, .i32⟩
  | 42 => ⟨S16x4096x128, .i32⟩
  | 43 => ⟨S16x4096x128, .i32⟩
  | 44 => ⟨S16x4096x128, .i32⟩
  | 45 => ⟨S_, .i32⟩
  | 46 => ⟨S16x4096x128, .i32⟩
  | 47 => ⟨S16x4096x128, .i32⟩
  | 48 => ⟨S16x4096x128, .i32⟩
  | 49 => ⟨S_, .i32⟩
  | 50 => ⟨S16x4096x128, .i32⟩
  | 51 => ⟨S16x4096x128, .i32⟩
  | 52 => ⟨S_, .i32⟩
  | 53 => ⟨S16x4096x128, .i32⟩
  | 54 => ⟨S16x4096x128, .i32⟩
  | 55 => ⟨S16x4096x128, .i32⟩
  | 56 => ⟨S16x4096x128, .i32⟩
  | 57 => ⟨S16x4096x128, .i32⟩
  | 58 => ⟨S_, .i32⟩
  | 59 => ⟨S16x4096x128, .i32⟩
  | 60 => ⟨S16x4096x128, .i32⟩
  | 61 => ⟨S_, .i32⟩
  | 62 => ⟨S16x4096x128, .i32⟩
  | 63 => ⟨S16x4096x128, .i32⟩
  | 64 => ⟨S16x4096x128, .i32⟩
  | 65 => ⟨S16x4096x128, .i32⟩
  | 66 => ⟨S16x4096x128, .i32⟩
  | 67 => ⟨S_, .i32⟩
  | 68 => ⟨S16x4096x128, .i32⟩
  | 69 => ⟨S16x4096x128, .i32⟩
  | 70 => ⟨S_, .i32⟩
  | 71 => ⟨S16x4096x128, .i32⟩
  | 72 => ⟨S16x4096x128, .i32⟩
  | 73 => ⟨S16x4096x128, .i32⟩
  | 74 => ⟨S16x4096x128, .i32⟩
  | 75 => ⟨S16x4096x128, .i32⟩
  | 76 => ⟨S_, .i32⟩
  | 77 => ⟨S16x4096x128, .i32⟩
  | 78 => ⟨S16x4096x128, .i32⟩
  | 79 => ⟨S_, .i32⟩
  | 80 => ⟨S16x4096x128, .i32⟩
  | 81 => ⟨S16x4096x128, .i32⟩
  | 82 => ⟨S16x4096x128, .i32⟩
  | 83 => ⟨S16x4096x128, .i32⟩
  | 84 => ⟨S16x4096x128, .i32⟩
  | 85 => ⟨S16x4096x128, .i32⟩
  | 86 => ⟨S16x4096x128, .i32⟩
  | 87 => ⟨S16x4096x128, .i32⟩
  | 88 => ⟨S_, .i32⟩
  | 89 => ⟨S16x4096x128, .i32⟩
  | 90 => ⟨S16x4096x128, .i32⟩
  | 91 => ⟨S16x4096x128, .i32⟩
  | 92 => ⟨S_, .i32⟩
  | 93 => ⟨S16x4096x128, .i32⟩
  | 94 => ⟨S16x4096x128, .i32⟩
  | 95 => ⟨S_, .i32⟩
  | 96 => ⟨S16x4096x128, .i32⟩
  | 97 => ⟨S16x4096x128, .i32⟩
  | 98 => ⟨S16x4096x128, .i32⟩
  | 99 => ⟨S16x4096x128, .i32⟩
  | 100 => ⟨S16x4096x128, .i32⟩
  | 101 => ⟨S_, .i32⟩
  | 102 => ⟨S16x4096x128, .i32⟩
  | 103 => ⟨S16x4096x128, .i32⟩
  | 104 => ⟨S_, .i32⟩
  | 105 => ⟨S16x4096x128, .i32⟩
  | 106 => ⟨S16x4096x128, .i32⟩
  | 107 => ⟨S16x4096x128, .i32⟩
  | 108 => ⟨S16x4096x128, .i32⟩
  | 109 => ⟨S16x4096x128, .i32⟩
  | 110 => ⟨S_, .i32⟩
  | 111 => ⟨S16x4096x128, .i32⟩
  | 112 => ⟨S16x4096x128, .i32⟩
  | 113 => ⟨S_, .i32⟩
  | 114 => ⟨S16x4096x128, .i32⟩
  | 115 => ⟨S16x4096x128, .i32⟩
  | 116 => ⟨S16x4096x128, .i32⟩
  | 117 => ⟨S16x4096x128, .i32⟩
  | 118 => ⟨S16x4096x128, .i32⟩
  | 119 => ⟨S_, .i32⟩
  | 120 => ⟨S16x4096x128, .i32⟩
  | 121 => ⟨S16x4096x128, .i32⟩
  | 122 => ⟨S_, .i32⟩
  | 123 => ⟨S16x4096x128, .i32⟩
  | 124 => ⟨S16x4096x128, .i32⟩
  | 125 => ⟨S16x4096x128, .i32⟩
  | 126 => ⟨S16x4096x128, .i32⟩
  | 127 => ⟨S16x4096x128, .i32⟩
  | _ => ⟨S16x4096x256, .f32⟩

abbrev hbmTy0_2 (i : Nat) : BufTy := match i % 128 with
  | 0 => ⟨S16x4096x128, .i32⟩
  | 1 => ⟨S16x4096x128, .i32⟩
  | 2 => ⟨S16x4096x128, .i32⟩
  | 3 => ⟨S_, .i32⟩
  | 4 => ⟨S16x4096x128, .i32⟩
  | 5 => ⟨S16x4096x128, .i32⟩
  | 6 => ⟨S16x4096x128, .i32⟩
  | 7 => ⟨S_, .i32⟩
  | 8 => ⟨S16x4096x128, .i32⟩
  | 9 => ⟨S16x4096x128, .i32⟩
  | 10 => ⟨S_, .i32⟩
  | 11 => ⟨S16x4096x128, .i32⟩
  | 12 => ⟨S16x4096x128, .i32⟩
  | 13 => ⟨S16x4096x128, .f32⟩
  | 14 => ⟨S_, .f32⟩
  | 15 => ⟨S16x4096x128, .f32⟩
  | 16 => ⟨S16x4096x128, .f32⟩
  | 17 => ⟨S1x1x1, .f32⟩
  | 18 => ⟨S16x4096x128, .f32⟩
  | 19 => ⟨S16x4096x128, .f32⟩
  | 20 => ⟨S16x4096x128, .f32⟩
  | 21 => ⟨S16x4096x128, .f32⟩
  | 22 => ⟨S16x4096x128, .f32⟩
  | 23 => ⟨S16x4096x128, .f32⟩
  | 24 => ⟨S16x4096x128, .i32⟩
  | 25 => ⟨S16x4096x128, .f32⟩
  | 26 => ⟨S16x4096x128, .i32⟩
  | 27 => ⟨S_, .i32⟩
  | 28 => ⟨S16x4096x128, .i32⟩
  | 29 => ⟨S16x4096x128, .i32⟩
  | 30 => ⟨S128, .i32⟩
  | 31 => ⟨S16x4096x128, .i32⟩
  | 32 => ⟨S16x4096x256, .i32⟩
  | 33 => ⟨S_, .i32⟩
  | 34 => ⟨S16x4096x256, .i32⟩
  | 35 => ⟨S16x4096x256, .i1⟩
  | 36 => ⟨S_, .i32⟩
  | 37 => ⟨S16x4096x256, .i32⟩
  | 38 => ⟨S16x4096x256, .i32⟩
  | 39 => ⟨S16x4096x256, .i32⟩
  | 40 => ⟨S16x4096x256x1, .i32⟩
  | 41 => ⟨S1, .i32⟩
  | 42 => ⟨S_, .i32⟩
  | 43 => ⟨S16x4096x256x1, .i32⟩
  | 44 => ⟨S16x4096x256x1, .i1⟩
  | 45 => ⟨S1x1x1x1, .i32⟩
  | 46 => ⟨S16x4096x256x1, .i32⟩
  | 47 => ⟨S16x4096x256x1, .i1⟩
  | 48 => ⟨S16x4096x256x1, .i1⟩
  | 49 => ⟨S_, .i1⟩
  | 50 => ⟨S16x4096x256, .i1⟩
  | 51 => ⟨S16x4096x256, .f32⟩
  | 52 => ⟨S_, .f32⟩
  | 53 => ⟨S16x4096x256, .f32⟩
  | 54 => ⟨S16x4096x256, .f32⟩
  | _ => ⟨S16x4096x256, .f32⟩

abbrev hbmTy (i : Nat) : BufTy := match i / 128 with
  | 0 => hbmTy0_0 i
  | 1 => hbmTy0_1 i
  | 2 => hbmTy0_2 i
  | _ => ⟨S16x4096x256, .f32⟩

abbrev bufTy : (tb : Table) → Fin (tcTables nBuf tb) → BufTy
  | .hbm, ⟨i, _⟩ => hbmTy i
  | _, _ => ⟨S16x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_cst_2 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_c : Ref sig .tc := ⟨.hbm, 24, rfl⟩
abbrev main_call0_v11 : Ref sig .tc := ⟨.hbm, 25, rfl⟩
abbrev main_call0_v12 : Ref sig .tc := ⟨.hbm, 26, rfl⟩
abbrev main_call0_c_0 : Ref sig .tc := ⟨.hbm, 27, rfl⟩
abbrev main_call0_v13 : Ref sig .tc := ⟨.hbm, 28, rfl⟩
abbrev main_call0_v14 : Ref sig .tc := ⟨.hbm, 29, rfl⟩
abbrev main_call0_c_1 : Ref sig .tc := ⟨.hbm, 30, rfl⟩
abbrev main_call0_v15 : Ref sig .tc := ⟨.hbm, 31, rfl⟩
abbrev main_call0_v16 : Ref sig .tc := ⟨.hbm, 32, rfl⟩
abbrev main_call0_v17 : Ref sig .tc := ⟨.hbm, 33, rfl⟩
abbrev main_call0_v18 : Ref sig .tc := ⟨.hbm, 34, rfl⟩
abbrev main_call0_c_2 : Ref sig .tc := ⟨.hbm, 35, rfl⟩
abbrev main_call0_v19 : Ref sig .tc := ⟨.hbm, 36, rfl⟩
abbrev main_call0_v20 : Ref sig .tc := ⟨.hbm, 37, rfl⟩
abbrev main_call0_v21 : Ref sig .tc := ⟨.hbm, 38, rfl⟩
abbrev main_call0_v22 : Ref sig .tc := ⟨.hbm, 39, rfl⟩
abbrev main_call0_call0_v0 : Ref sig .tc := ⟨.hbm, 40, rfl⟩
abbrev main_call0_call0_c : Ref sig .tc := ⟨.hbm, 41, rfl⟩
abbrev main_call0_call0_v1 : Ref sig .tc := ⟨.hbm, 42, rfl⟩
abbrev main_call0_call0_v2 : Ref sig .tc := ⟨.hbm, 43, rfl⟩
abbrev main_call0_call0_v3 : Ref sig .tc := ⟨.hbm, 44, rfl⟩
abbrev main_call0_call0_v4 : Ref sig .tc := ⟨.hbm, 45, rfl⟩
abbrev main_call0_call0_v5 : Ref sig .tc := ⟨.hbm, 46, rfl⟩
abbrev main_call0_call0_v6 : Ref sig .tc := ⟨.hbm, 47, rfl⟩
abbrev main_call0_call0_c_0 : Ref sig .tc := ⟨.hbm, 48, rfl⟩
abbrev main_call0_call0_v7 : Ref sig .tc := ⟨.hbm, 49, rfl⟩
abbrev main_call0_call0_v8 : Ref sig .tc := ⟨.hbm, 50, rfl⟩
abbrev main_call0_call0_c_1 : Ref sig .tc := ⟨.hbm, 51, rfl⟩
abbrev main_call0_call0_v9 : Ref sig .tc := ⟨.hbm, 52, rfl⟩
abbrev main_call0_call0_v10 : Ref sig .tc := ⟨.hbm, 53, rfl⟩
abbrev main_call0_call0_v11 : Ref sig .tc := ⟨.hbm, 54, rfl⟩
abbrev main_call0_call0_v12 : Ref sig .tc := ⟨.hbm, 55, rfl⟩
abbrev main_call0_call0_v13 : Ref sig .tc := ⟨.hbm, 56, rfl⟩
abbrev main_call0_call0_c_2 : Ref sig .tc := ⟨.hbm, 57, rfl⟩
abbrev main_call0_call0_v14 : Ref sig .tc := ⟨.hbm, 58, rfl⟩
abbrev main_call0_call0_v15 : Ref sig .tc := ⟨.hbm, 59, rfl⟩
abbrev main_call0_call0_c_3 : Ref sig .tc := ⟨.hbm, 60, rfl⟩
abbrev main_call0_call0_v16 : Ref sig .tc := ⟨.hbm, 61, rfl⟩
abbrev main_call0_call0_v17 : Ref sig .tc := ⟨.hbm, 62, rfl⟩
abbrev main_call0_call0_v18 : Ref sig .tc := ⟨.hbm, 63, rfl⟩
abbrev main_call0_call0_v19 : Ref sig .tc := ⟨.hbm, 64, rfl⟩
abbrev main_call0_call0_v20 : Ref sig .tc := ⟨.hbm, 65, rfl⟩
abbrev main_call0_call0_c_4 : Ref sig .tc := ⟨.hbm, 66, rfl⟩
abbrev main_call0_call0_v21 : Ref sig .tc := ⟨.hbm, 67, rfl⟩
abbrev main_call0_call0_v22 : Ref sig .tc := ⟨.hbm, 68, rfl⟩
abbrev main_call0_call0_c_5 : Ref sig .tc := ⟨.hbm, 69, rfl⟩
abbrev main_call0_call0_v23 : Ref sig .tc := ⟨.hbm, 70, rfl⟩
abbrev main_call0_call0_v24 : Ref sig .tc := ⟨.hbm, 71, rfl⟩
abbrev main_call0_call0_v25 : Ref sig .tc := ⟨.hbm, 72, rfl⟩
abbrev main_call0_call0_v26 : Ref sig .tc := ⟨.hbm, 73, rfl⟩
abbrev main_call0_call0_v27 : Ref sig .tc := ⟨.hbm, 74, rfl⟩
abbrev main_call0_call0_c_6 : Ref sig .tc := ⟨.hbm, 75, rfl⟩
abbrev main_call0_call0_v28 : Ref sig .tc := ⟨.hbm, 76, rfl⟩
abbrev main_call0_call0_v29 : Ref sig .tc := ⟨.hbm, 77, rfl⟩
abbrev main_call0_call0_c_7 : Ref sig .tc := ⟨.hbm, 78, rfl⟩
abbrev main_call0_call0_v30 : Ref sig .tc := ⟨.hbm, 79, rfl⟩
abbrev main_call0_call0_v31 : Ref sig .tc := ⟨.hbm, 80, rfl⟩
abbrev main_call0_call0_v32 : Ref sig .tc := ⟨.hbm, 81, rfl⟩
abbrev main_call0_call0_v33 : Ref sig .tc := ⟨.hbm, 82, rfl⟩
abbrev main_call0_call0_v34 : Ref sig .tc := ⟨.hbm, 83, rfl⟩
abbrev main_call0_call0_v35 : Ref sig .tc := ⟨.hbm, 84, rfl⟩
abbrev main_call0_call0_v36 : Ref sig .tc := ⟨.hbm, 85, rfl⟩
abbrev main_call0_call0_v37 : Ref sig .tc := ⟨.hbm, 86, rfl⟩
abbrev main_call0_call0_c_8 : Ref sig .tc := ⟨.hbm, 87, rfl⟩
abbrev main_call0_call0_v38 : Ref sig .tc := ⟨.hbm, 88, rfl⟩
abbrev main_call0_call0_v39 : Ref sig .tc := ⟨.hbm, 89, rfl⟩
abbrev main_call0_call0_v40 : Ref sig .tc := ⟨.hbm, 90, rfl⟩
abbrev main_call0_call0_c_9 : Ref sig .tc := ⟨.hbm, 91, rfl⟩
abbrev main_call0_call0_v41 : Ref sig .tc := ⟨.hbm, 92, rfl⟩
abbrev main_call0_call0_v42 : Ref sig .tc := ⟨.hbm, 93, rfl⟩
abbrev main_call0_call0_c_10 : Ref sig .tc := ⟨.hbm, 94, rfl⟩
abbrev main_call0_call0_v43 : Ref sig .tc := ⟨.hbm, 95, rfl⟩
abbrev main_call0_call0_v44 : Ref sig .tc := ⟨.hbm, 96, rfl⟩
abbrev main_call0_call0_v45 : Ref sig .tc := ⟨.hbm, 97, rfl⟩
abbrev main_call0_call0_v46 : Ref sig .tc := ⟨.hbm, 98, rfl⟩
abbrev main_call0_call0_v47 : Ref sig .tc := ⟨.hbm, 99, rfl⟩
abbrev main_call0_call0_c_11 : Ref sig .tc := ⟨.hbm, 100, rfl⟩
abbrev main_call0_call0_v48 : Ref sig .tc := ⟨.hbm, 101, rfl⟩
abbrev main_call0_call0_v49 : Ref sig .tc := ⟨.hbm, 102, rfl⟩
abbrev main_call0_call0_c_12 : Ref sig .tc := ⟨.hbm, 103, rfl⟩
abbrev main_call0_call0_v50 : Ref sig .tc := ⟨.hbm, 104, rfl⟩
abbrev main_call0_call0_v51 : Ref sig .tc := ⟨.hbm, 105, rfl⟩
abbrev main_call0_call0_v52 : Ref sig .tc := ⟨.hbm, 106, rfl⟩
abbrev main_call0_call0_v53 : Ref sig .tc := ⟨.hbm, 107, rfl⟩
abbrev main_call0_call0_v54 : Ref sig .tc := ⟨.hbm, 108, rfl⟩
abbrev main_call0_call0_c_13 : Ref sig .tc := ⟨.hbm, 109, rfl⟩
abbrev main_call0_call0_v55 : Ref sig .tc := ⟨.hbm, 110, rfl⟩
abbrev main_call0_call0_v56 : Ref sig .tc := ⟨.hbm, 111, rfl⟩
abbrev main_call0_call0_c_14 : Ref sig .tc := ⟨.hbm, 112, rfl⟩
abbrev main_call0_call0_v57 : Ref sig .tc := ⟨.hbm, 113, rfl⟩
abbrev main_call0_call0_v58 : Ref sig .tc := ⟨.hbm, 114, rfl⟩
abbrev main_call0_call0_v59 : Ref sig .tc := ⟨.hbm, 115, rfl⟩
abbrev main_call0_call0_v60 : Ref sig .tc := ⟨.hbm, 116, rfl⟩
abbrev main_call0_call0_v61 : Ref sig .tc := ⟨.hbm, 117, rfl⟩
abbrev main_call0_call0_c_15 : Ref sig .tc := ⟨.hbm, 118, rfl⟩
abbrev main_call0_call0_v62 : Ref sig .tc := ⟨.hbm, 119, rfl⟩
abbrev main_call0_call0_v63 : Ref sig .tc := ⟨.hbm, 120, rfl⟩
abbrev main_call0_call0_c_16 : Ref sig .tc := ⟨.hbm, 121, rfl⟩
abbrev main_call0_call0_v64 : Ref sig .tc := ⟨.hbm, 122, rfl⟩
abbrev main_call0_call0_v65 : Ref sig .tc := ⟨.hbm, 123, rfl⟩
abbrev main_call0_call0_v66 : Ref sig .tc := ⟨.hbm, 124, rfl⟩
abbrev main_call0_call0_v67 : Ref sig .tc := ⟨.hbm, 125, rfl⟩
abbrev main_call0_call0_v68 : Ref sig .tc := ⟨.hbm, 126, rfl⟩
abbrev main_call0_call0_v69 : Ref sig .tc := ⟨.hbm, 127, rfl⟩
abbrev main_call0_call0_v70 : Ref sig .tc := ⟨.hbm, 128, rfl⟩
abbrev main_call0_call0_v71 : Ref sig .tc := ⟨.hbm, 129, rfl⟩
abbrev main_call0_call0_c_17 : Ref sig .tc := ⟨.hbm, 130, rfl⟩
abbrev main_call0_call0_v72 : Ref sig .tc := ⟨.hbm, 131, rfl⟩
abbrev main_call0_call0_v73 : Ref sig .tc := ⟨.hbm, 132, rfl⟩
abbrev main_call0_call0_v74 : Ref sig .tc := ⟨.hbm, 133, rfl⟩
abbrev main_call0_call0_c_18 : Ref sig .tc := ⟨.hbm, 134, rfl⟩
abbrev main_call0_call0_v75 : Ref sig .tc := ⟨.hbm, 135, rfl⟩
abbrev main_call0_call0_v76 : Ref sig .tc := ⟨.hbm, 136, rfl⟩
abbrev main_call0_call0_c_19 : Ref sig .tc := ⟨.hbm, 137, rfl⟩
abbrev main_call0_call0_v77 : Ref sig .tc := ⟨.hbm, 138, rfl⟩
abbrev main_call0_call0_v78 : Ref sig .tc := ⟨.hbm, 139, rfl⟩
abbrev main_call0_call0_v79 : Ref sig .tc := ⟨.hbm, 140, rfl⟩
abbrev main_call0_call0_v80 : Ref sig .tc := ⟨.hbm, 141, rfl⟩
abbrev main_call0_call0_v81 : Ref sig .tc := ⟨.hbm, 142, rfl⟩
abbrev main_call0_call0_c_20 : Ref sig .tc := ⟨.hbm, 143, rfl⟩
abbrev main_call0_call0_v82 : Ref sig .tc := ⟨.hbm, 144, rfl⟩
abbrev main_call0_call0_v83 : Ref sig .tc := ⟨.hbm, 145, rfl⟩
abbrev main_call0_call0_c_21 : Ref sig .tc := ⟨.hbm, 146, rfl⟩
abbrev main_call0_call0_v84 : Ref sig .tc := ⟨.hbm, 147, rfl⟩
abbrev main_call0_call0_v85 : Ref sig .tc := ⟨.hbm, 148, rfl⟩
abbrev main_call0_call0_v86 : Ref sig .tc := ⟨.hbm, 149, rfl⟩
abbrev main_call0_call0_v87 : Ref sig .tc := ⟨.hbm, 150, rfl⟩
abbrev main_call0_call0_v88 : Ref sig .tc := ⟨.hbm, 151, rfl⟩
abbrev main_call0_call0_c_22 : Ref sig .tc := ⟨.hbm, 152, rfl⟩
abbrev main_call0_call0_v89 : Ref sig .tc := ⟨.hbm, 153, rfl⟩
abbrev main_call0_call0_v90 : Ref sig .tc := ⟨.hbm, 154, rfl⟩
abbrev main_call0_call0_c_23 : Ref sig .tc := ⟨.hbm, 155, rfl⟩
abbrev main_call0_call0_v91 : Ref sig .tc := ⟨.hbm, 156, rfl⟩
abbrev main_call0_call0_v92 : Ref sig .tc := ⟨.hbm, 157, rfl⟩
abbrev main_call0_call0_v93 : Ref sig .tc := ⟨.hbm, 158, rfl⟩
abbrev main_call0_call0_v94 : Ref sig .tc := ⟨.hbm, 159, rfl⟩
abbrev main_call0_call0_v95 : Ref sig .tc := ⟨.hbm, 160, rfl⟩
abbrev main_call0_call0_c_24 : Ref sig .tc := ⟨.hbm, 161, rfl⟩
abbrev main_call0_call0_v96 : Ref sig .tc := ⟨.hbm, 162, rfl⟩
abbrev main_call0_call0_v97 : Ref sig .tc := ⟨.hbm, 163, rfl⟩
abbrev main_call0_call0_c_25 : Ref sig .tc := ⟨.hbm, 164, rfl⟩
abbrev main_call0_call0_v98 : Ref sig .tc := ⟨.hbm, 165, rfl⟩
abbrev main_call0_call0_v99 : Ref sig .tc := ⟨.hbm, 166, rfl⟩
abbrev main_call0_call0_v100 : Ref sig .tc := ⟨.hbm, 167, rfl⟩
abbrev main_call0_call0_v101 : Ref sig .tc := ⟨.hbm, 168, rfl⟩
abbrev main_call0_call0_v102 : Ref sig .tc := ⟨.hbm, 169, rfl⟩
abbrev main_call0_call0_v103 : Ref sig .tc := ⟨.hbm, 170, rfl⟩
abbrev main_call0_call0_v104 : Ref sig .tc := ⟨.hbm, 171, rfl⟩
abbrev main_call0_call0_v105 : Ref sig .tc := ⟨.hbm, 172, rfl⟩
abbrev main_call0_call0_c_26 : Ref sig .tc := ⟨.hbm, 173, rfl⟩
abbrev main_call0_call0_v106 : Ref sig .tc := ⟨.hbm, 174, rfl⟩
abbrev main_call0_call0_v107 : Ref sig .tc := ⟨.hbm, 175, rfl⟩
abbrev main_call0_call0_v108 : Ref sig .tc := ⟨.hbm, 176, rfl⟩
abbrev main_call0_call0_c_27 : Ref sig .tc := ⟨.hbm, 177, rfl⟩
abbrev main_call0_call0_v109 : Ref sig .tc := ⟨.hbm, 178, rfl⟩
abbrev main_call0_call0_v110 : Ref sig .tc := ⟨.hbm, 179, rfl⟩
abbrev main_call0_call0_c_28 : Ref sig .tc := ⟨.hbm, 180, rfl⟩
abbrev main_call0_call0_v111 : Ref sig .tc := ⟨.hbm, 181, rfl⟩
abbrev main_call0_call0_v112 : Ref sig .tc := ⟨.hbm, 182, rfl⟩
abbrev main_call0_call0_v113 : Ref sig .tc := ⟨.hbm, 183, rfl⟩
abbrev main_call0_call0_v114 : Ref sig .tc := ⟨.hbm, 184, rfl⟩
abbrev main_call0_call0_v115 : Ref sig .tc := ⟨.hbm, 185, rfl⟩
abbrev main_call0_call0_c_29 : Ref sig .tc := ⟨.hbm, 186, rfl⟩
abbrev main_call0_call0_v116 : Ref sig .tc := ⟨.hbm, 187, rfl⟩
abbrev main_call0_call0_v117 : Ref sig .tc := ⟨.hbm, 188, rfl⟩
abbrev main_call0_call0_c_30 : Ref sig .tc := ⟨.hbm, 189, rfl⟩
abbrev main_call0_call0_v118 : Ref sig .tc := ⟨.hbm, 190, rfl⟩
abbrev main_call0_call0_v119 : Ref sig .tc := ⟨.hbm, 191, rfl⟩
abbrev main_call0_call0_v120 : Ref sig .tc := ⟨.hbm, 192, rfl⟩
abbrev main_call0_call0_v121 : Ref sig .tc := ⟨.hbm, 193, rfl⟩
abbrev main_call0_call0_v122 : Ref sig .tc := ⟨.hbm, 194, rfl⟩
abbrev main_call0_call0_c_31 : Ref sig .tc := ⟨.hbm, 195, rfl⟩
abbrev main_call0_call0_v123 : Ref sig .tc := ⟨.hbm, 196, rfl⟩
abbrev main_call0_call0_v124 : Ref sig .tc := ⟨.hbm, 197, rfl⟩
abbrev main_call0_call0_c_32 : Ref sig .tc := ⟨.hbm, 198, rfl⟩
abbrev main_call0_call0_v125 : Ref sig .tc := ⟨.hbm, 199, rfl⟩
abbrev main_call0_call0_v126 : Ref sig .tc := ⟨.hbm, 200, rfl⟩
abbrev main_call0_call0_v127 : Ref sig .tc := ⟨.hbm, 201, rfl⟩
abbrev main_call0_call0_v128 : Ref sig .tc := ⟨.hbm, 202, rfl⟩
abbrev main_call0_call0_v129 : Ref sig .tc := ⟨.hbm, 203, rfl⟩
abbrev main_call0_call0_c_33 : Ref sig .tc := ⟨.hbm, 204, rfl⟩
abbrev main_call0_call0_v130 : Ref sig .tc := ⟨.hbm, 205, rfl⟩
abbrev main_call0_call0_v131 : Ref sig .tc := ⟨.hbm, 206, rfl⟩
abbrev main_call0_call0_c_34 : Ref sig .tc := ⟨.hbm, 207, rfl⟩
abbrev main_call0_call0_v132 : Ref sig .tc := ⟨.hbm, 208, rfl⟩
abbrev main_call0_call0_v133 : Ref sig .tc := ⟨.hbm, 209, rfl⟩
abbrev main_call0_call0_v134 : Ref sig .tc := ⟨.hbm, 210, rfl⟩
abbrev main_call0_call0_v135 : Ref sig .tc := ⟨.hbm, 211, rfl⟩
abbrev main_call0_call0_v136 : Ref sig .tc := ⟨.hbm, 212, rfl⟩
abbrev main_call0_call0_v137 : Ref sig .tc := ⟨.hbm, 213, rfl⟩
abbrev main_call0_call0_v138 : Ref sig .tc := ⟨.hbm, 214, rfl⟩
abbrev main_call0_call0_v139 : Ref sig .tc := ⟨.hbm, 215, rfl⟩
abbrev main_call0_call0_c_35 : Ref sig .tc := ⟨.hbm, 216, rfl⟩
abbrev main_call0_call0_v140 : Ref sig .tc := ⟨.hbm, 217, rfl⟩
abbrev main_call0_call0_v141 : Ref sig .tc := ⟨.hbm, 218, rfl⟩
abbrev main_call0_call0_v142 : Ref sig .tc := ⟨.hbm, 219, rfl⟩
abbrev main_call0_call0_c_36 : Ref sig .tc := ⟨.hbm, 220, rfl⟩
abbrev main_call0_call0_v143 : Ref sig .tc := ⟨.hbm, 221, rfl⟩
abbrev main_call0_call0_v144 : Ref sig .tc := ⟨.hbm, 222, rfl⟩
abbrev main_call0_call0_c_37 : Ref sig .tc := ⟨.hbm, 223, rfl⟩
abbrev main_call0_call0_v145 : Ref sig .tc := ⟨.hbm, 224, rfl⟩
abbrev main_call0_call0_v146 : Ref sig .tc := ⟨.hbm, 225, rfl⟩
abbrev main_call0_call0_v147 : Ref sig .tc := ⟨.hbm, 226, rfl⟩
abbrev main_call0_call0_v148 : Ref sig .tc := ⟨.hbm, 227, rfl⟩
abbrev main_call0_call0_v149 : Ref sig .tc := ⟨.hbm, 228, rfl⟩
abbrev main_call0_call0_c_38 : Ref sig .tc := ⟨.hbm, 229, rfl⟩
abbrev main_call0_call0_v150 : Ref sig .tc := ⟨.hbm, 230, rfl⟩
abbrev main_call0_call0_v151 : Ref sig .tc := ⟨.hbm, 231, rfl⟩
abbrev main_call0_call0_c_39 : Ref sig .tc := ⟨.hbm, 232, rfl⟩
abbrev main_call0_call0_v152 : Ref sig .tc := ⟨.hbm, 233, rfl⟩
abbrev main_call0_call0_v153 : Ref sig .tc := ⟨.hbm, 234, rfl⟩
abbrev main_call0_call0_v154 : Ref sig .tc := ⟨.hbm, 235, rfl⟩
abbrev main_call0_call0_v155 : Ref sig .tc := ⟨.hbm, 236, rfl⟩
abbrev main_call0_call0_v156 : Ref sig .tc := ⟨.hbm, 237, rfl⟩
abbrev main_call0_call0_c_40 : Ref sig .tc := ⟨.hbm, 238, rfl⟩
abbrev main_call0_call0_v157 : Ref sig .tc := ⟨.hbm, 239, rfl⟩
abbrev main_call0_call0_v158 : Ref sig .tc := ⟨.hbm, 240, rfl⟩
abbrev main_call0_call0_c_41 : Ref sig .tc := ⟨.hbm, 241, rfl⟩
abbrev main_call0_call0_v159 : Ref sig .tc := ⟨.hbm, 242, rfl⟩
abbrev main_call0_call0_v160 : Ref sig .tc := ⟨.hbm, 243, rfl⟩
abbrev main_call0_call0_v161 : Ref sig .tc := ⟨.hbm, 244, rfl⟩
abbrev main_call0_call0_v162 : Ref sig .tc := ⟨.hbm, 245, rfl⟩
abbrev main_call0_call0_v163 : Ref sig .tc := ⟨.hbm, 246, rfl⟩
abbrev main_call0_call0_c_42 : Ref sig .tc := ⟨.hbm, 247, rfl⟩
abbrev main_call0_call0_v164 : Ref sig .tc := ⟨.hbm, 248, rfl⟩
abbrev main_call0_call0_v165 : Ref sig .tc := ⟨.hbm, 249, rfl⟩
abbrev main_call0_call0_c_43 : Ref sig .tc := ⟨.hbm, 250, rfl⟩
abbrev main_call0_call0_v166 : Ref sig .tc := ⟨.hbm, 251, rfl⟩
abbrev main_call0_call0_v167 : Ref sig .tc := ⟨.hbm, 252, rfl⟩
abbrev main_call0_call0_v168 : Ref sig .tc := ⟨.hbm, 253, rfl⟩
abbrev main_call0_call0_v169 : Ref sig .tc := ⟨.hbm, 254, rfl⟩
abbrev main_call0_call0_v170 : Ref sig .tc := ⟨.hbm, 255, rfl⟩
abbrev main_call0_v23_0 : Ref sig .tc := ⟨.hbm, 256, rfl⟩
abbrev main_call0_call0_v172 : Ref sig .tc := ⟨.hbm, 257, rfl⟩
abbrev main_call0_call0_v173 : Ref sig .tc := ⟨.hbm, 258, rfl⟩
abbrev main_call0_call0_c_44 : Ref sig .tc := ⟨.hbm, 259, rfl⟩
abbrev main_call0_call0_v174 : Ref sig .tc := ⟨.hbm, 260, rfl⟩
abbrev main_call0_v23_1 : Ref sig .tc := ⟨.hbm, 261, rfl⟩
abbrev main_call0_v24 : Ref sig .tc := ⟨.hbm, 262, rfl⟩
abbrev main_call0_c_3 : Ref sig .tc := ⟨.hbm, 263, rfl⟩
abbrev main_call0_v25 : Ref sig .tc := ⟨.hbm, 264, rfl⟩
abbrev main_call0_v26 : Ref sig .tc := ⟨.hbm, 265, rfl⟩
abbrev main_call0_c_4 : Ref sig .tc := ⟨.hbm, 266, rfl⟩
abbrev main_call0_v27 : Ref sig .tc := ⟨.hbm, 267, rfl⟩
abbrev main_call0_v28 : Ref sig .tc := ⟨.hbm, 268, rfl⟩
abbrev main_call0_v29 : Ref sig .tc := ⟨.hbm, 269, rfl⟩
abbrev main_call0_cst : Ref sig .tc := ⟨.hbm, 270, rfl⟩
abbrev main_call0_v30 : Ref sig .tc := ⟨.hbm, 271, rfl⟩
abbrev main_call0_v31 : Ref sig .tc := ⟨.hbm, 272, rfl⟩
abbrev main_call0_v32 : Ref sig .tc := ⟨.hbm, 273, rfl⟩
abbrev main_call0_v33 : Ref sig .tc := ⟨.hbm, 274, rfl⟩
abbrev main_call0_v34 : Ref sig .tc := ⟨.hbm, 275, rfl⟩
abbrev main_call0_v35 : Ref sig .tc := ⟨.hbm, 276, rfl⟩
abbrev main_call0_v36 : Ref sig .tc := ⟨.hbm, 277, rfl⟩
abbrev main_call0_v37 : Ref sig .tc := ⟨.hbm, 278, rfl⟩
abbrev main_v7 : Ref sig .tc := ⟨.hbm, 279, rfl⟩
abbrev main_call1_v0 : Ref sig .tc := ⟨.hbm, 280, rfl⟩
abbrev main_call1_v1_0 : Ref sig .tc := ⟨.hbm, 281, rfl⟩
abbrev main_v8 : Ref sig .tc := ⟨.hbm, 282, rfl⟩
abbrev main_c_3 : Ref sig .tc := ⟨.hbm, 283, rfl⟩
abbrev main_v9 : Ref sig .tc := ⟨.hbm, 284, rfl⟩
abbrev main_v10 : Ref sig .tc := ⟨.hbm, 285, rfl⟩
abbrev main_v11 : Ref sig .tc := ⟨.hbm, 286, rfl⟩
abbrev main_v12 : Ref sig .tc := ⟨.hbm, 287, rfl⟩
abbrev main_v13 : Ref sig .tc := ⟨.hbm, 288, rfl⟩
abbrev main_call2_c : Ref sig .tc := ⟨.hbm, 289, rfl⟩
abbrev main_call2_v0 : Ref sig .tc := ⟨.hbm, 290, rfl⟩
abbrev main_call2_v1 : Ref sig .tc := ⟨.hbm, 291, rfl⟩
abbrev main_call2_c_0 : Ref sig .tc := ⟨.hbm, 292, rfl⟩
abbrev main_call2_v2 : Ref sig .tc := ⟨.hbm, 293, rfl⟩
abbrev main_call2_v3 : Ref sig .tc := ⟨.hbm, 294, rfl⟩
abbrev main_call2_v4 : Ref sig .tc := ⟨.hbm, 295, rfl⟩
abbrev main_call2_v5 : Ref sig .tc := ⟨.hbm, 296, rfl⟩
abbrev main_call2_c_1 : Ref sig .tc := ⟨.hbm, 297, rfl⟩
abbrev main_call2_c_2 : Ref sig .tc := ⟨.hbm, 298, rfl⟩
abbrev main_call2_v6 : Ref sig .tc := ⟨.hbm, 299, rfl⟩
abbrev main_call2_v7 : Ref sig .tc := ⟨.hbm, 300, rfl⟩
abbrev main_call2_v8 : Ref sig .tc := ⟨.hbm, 301, rfl⟩
abbrev main_call2_v9 : Ref sig .tc := ⟨.hbm, 302, rfl⟩
abbrev main_call2_v10 : Ref sig .tc := ⟨.hbm, 303, rfl⟩
abbrev main_call2_v11 : Ref sig .tc := ⟨.hbm, 304, rfl⟩
abbrev main_call2_c_3 : Ref sig .tc := ⟨.hbm, 305, rfl⟩
abbrev main_call2_v12 : Ref sig .tc := ⟨.hbm, 306, rfl⟩
abbrev main_call2_v13 : Ref sig .tc := ⟨.hbm, 307, rfl⟩
abbrev main_call2_cst : Ref sig .tc := ⟨.hbm, 308, rfl⟩
abbrev main_call2_v14 : Ref sig .tc := ⟨.hbm, 309, rfl⟩
abbrev main_v14 : Ref sig .tc := ⟨.hbm, 310, rfl⟩

abbrev nD : Nat := 1
abbrev τ : Topo := Topo.v7x

variable {F : FTy → Type} [FloatOps F]
-- ==== Proof.Rows.lean ====
/-
  The permutation of the rows' upper halves, on flat buffers: a row is 256 words, its upper 128 words are replaced
  sixteen at a time by words of the same row that 128 indices name. Everything here is plain arithmetic of positions.
-/
module

public import Idealize.ShloMosaic.Lib.SparseCore.Ops
public import Idealize.ShloMosaic.Lib.ViewIndex

@[expose] public section

noncomputable section

namespace Cert.Proof.Rows

open Idealize.ShloMosaic

/-- A flat shape of `n` elements. -/
abbrev Flat (n : ℕ) : Shape := ⟨1, ![n]⟩

/-- The flat position `k` (taken modulo the length, so that it is one). -/
def pos {n : ℕ} (hn : 0 < n) (k : ℕ) : (Flat n).Idx := fun a => ⟨k % n, by
  obtain rfl : a = 0 := Subsingleton.elim _ _; exact Nat.mod_lt _ hn⟩

/-- The value of a flat position below the length. -/
theorem pos_val {n : ℕ} (hn : 0 < n) {k : ℕ} (hk : k < n) : (pos hn k 0).val = k := Nat.mod_eq_of_lt hk

/-- A flat position is the one of its value. -/
theorem pos_eq {n : ℕ} (hn : 0 < n) (y : (Flat n).Idx) : pos hn (y 0).val = y :=
  Shape.idx1_ext (pos_val hn (y 0).isLt)

/-- The word that belongs at position `y` of an upper half: the one of the same row that the index of `y` names. -/
def moved {n m : ℕ} (hn : 0 < n) (hm : 0 < m) {α : Type} (X : (Flat n).Idx → α) (I : (Flat m).Idx → BitVec 32) (y : ℕ) : α :=
  X (pos hn (y / 256 * 256 + (I (pos hm (y / 256 * 128 + (y % 256 - 128)))).toNat))

/-- The rows when the first `k` pieces of sixteen words have been replaced (eight pieces to a row). -/
def mixed {n m : ℕ} (hn : 0 < n) (hm : 0 < m) {α : Type} (X : (Flat n).Idx → α) (I : (Flat m).Idx → BitVec 32) (k : ℕ) :
    (Flat n).Idx → α :=
  fun y => if 128 ≤ (y 0).val % 256 ∧ 8 * ((y 0).val / 256) + ((y 0).val % 256 - 128) / 16 < k
    then moved hn hm X I (y 0).val else X y

/-- The rows when all is done. -/
def permuted {n m : ℕ} (hn : 0 < n) (hm : 0 < m) {α : Type} (X : (Flat n).Idx → α) (I : (Flat m).Idx → BitVec 32) :
    (Flat n).Idx → α :=
  fun y => if 128 ≤ (y 0).val % 256 then moved hn hm X I (y 0).val else X y

/-- Sixteen words of piece `k`. -/
def piece {n m : ℕ} (hn : 0 < n) (hm : 0 < m) {α : Type} (X : (Flat n).Idx → α) (I : (Flat m).Idx → BitVec 32) (k : ℕ) :
    (Flat 16).Idx → α :=
  fun l => moved hn hm X I (k / 8 * 256 + 128 + 16 * (k % 8) + (l 0).val)

variable {n m : ℕ} (hn : 0 < n) (hm : 0 < m) {α : Type} (X : (Flat n).Idx → α) (I : (Flat m).Idx → BitVec 32)

/-- Nothing replaced yet. -/
theorem mixed_zero : mixed hn hm X I 0 = X := by
  funext y; unfold mixed; rw [if_neg (by omega)]

/-- All pieces replaced. -/
theorem mixed_all {k : ℕ} (h : n ≤ 32 * k) : mixed hn hm X I k = permuted hn hm X I := by
  funext y; unfold mixed permuted
  have := (y 0).isLt
  replace this : (y 0).val < n := this
  by_cases h128 : 128 ≤ (y 0).val % 256
  · rw [if_pos h128, if_pos ⟨h128, by omega⟩]
  · rw [if_neg h128, if_neg fun h => h128 h.1]

/-- Replacing piece `k` by its words. -/
theorem mixed_step {k : ℕ} {g : (Flat n).Idx → α} {o : ℕ} (ho : o = k / 8 * 256 + 128 + 16 * (k % 8))
    (hin : ∀ (l : (Flat 16).Idx) (y : (Flat n).Idx), (y 0).val = o + (l 0).val → g y = piece hn hm X I k l)
    (hout : ∀ y : (Flat n).Idx, ¬ (o ≤ (y 0).val ∧ (y 0).val < o + 16) → g y = mixed hn hm X I k y) :
    g = mixed hn hm X I (k + 1) := by
  funext y
  by_cases hy : o ≤ (y 0).val ∧ (y 0).val < o + 16
  · have h16 : (y 0).val - o < 16 := by omega
    let l : (Flat 16).Idx := pos (by decide) ((y 0).val - o)
    have hl : (l 0).val = (y 0).val - o := pos_val _ h16
    rw [hin l y (by omega)]
    unfold mixed piece
    rw [if_pos ⟨by omega, by omega⟩, hl]
    congr 1; omega
  · rw [hout y hy]
    unfold mixed
    refine if_congr ⟨fun h => ⟨h.1, by omega⟩, fun h => ⟨h.1, ?_⟩⟩ rfl rfl
    rcases Nat.lt_or_ge (8 * ((y 0).val / 256) + ((y 0).val % 256 - 128) / 16) k with h' | h'
    · exact h'
    · exact absurd (show o ≤ (y 0).val ∧ (y 0).val < o + 16 by omega) hy

/-- The words of piece `k`, read while only earlier rows have been replaced. -/
theorem piece_read {t s : ℕ} (hs : s < 8) {a : ℕ} (l : (Flat 16).Idx)
    (hI : ∀ z, 128 ≤ (I z).toNat ∧ (I z).toNat < 256) (hb : t * 256 + 256 ≤ n)
    (z : (Flat m).Idx) (hz : (z 0).val = t * 128 + 16 * s + (l 0).val) (ha : a = t * 256 + (I z).toNat)
    (y : (Flat n).Idx) (hy : (y 0).val = a) :
    mixed hn hm X I (8 * t) y = piece hn hm X I (8 * t + s) l := by
  obtain ⟨h1, h2⟩ := hI z
  have hl : (l 0).val < 16 := (l 0).isLt
  unfold mixed piece
  rw [if_neg (by omega)]
  unfold moved
  have e : pos hm (((8 * t + s) / 8 * 256 + 128 + 16 * ((8 * t + s) % 8) + (l 0).val) / 256 * 128
      + (((8 * t + s) / 8 * 256 + 128 + 16 * ((8 * t + s) % 8) + (l 0).val) % 256 - 128)) = z := by
    rw [← pos_eq hm z]; congr 1; omega
  rw [e, ← pos_eq hn y]
  congr 2; omega

/-- A chunk of whole rows permuted on its own is that chunk of the permutation of all rows. -/
theorem permuted_chunk {n' m' : ℕ} (hn' : 0 < n') (hm' : 0 < m') (q r : ℕ) (hr : n' = r * 256) (hr' : m' = r * 128)
    (hle : q * n' + n' ≤ n)
    (hI : ∀ z, (I z).toNat < 256) (l : (Flat n').Idx) (y : (Flat n).Idx) (hy : (y 0).val = q * n' + (l 0).val) :
    permuted hn' hm' (fun u => X (pos hn (q * n' + (u 0).val))) (fun z => I (pos hm (q * m' + (z 0).val))) l
      = permuted hn hm X I y := by
  have hl : (l 0).val < n' := (l 0).isLt
  subst hr hr'
  have e1 : q * (r * 256) = q * r * 256 := (Nat.mul_assoc _ _ _).symm
  have e2 : q * (r * 128) = q * r * 128 := (Nat.mul_assoc _ _ _).symm
  rw [e1] at hy hle
  simp only [e1, e2]
  have hyr : (y 0).val / 256 = q * r + (l 0).val / 256 := by omega
  have hym : (y 0).val % 256 = (l 0).val % 256 := by omega
  have hlr : (l 0).val / 256 < r := by omega
  unfold permuted
  rw [hym]
  by_cases h : 128 ≤ (l 0).val % 256
  · rw [if_pos h, if_pos h]
    unfold moved
    have hz : (pos hm' ((l 0).val / 256 * 128 + ((l 0).val % 256 - 128)) 0).val = (l 0).val / 256 * 128 + ((l 0).val % 256 - 128) :=
      pos_val hm' (by omega)
    have hz' : q * r * 128 + (pos hm' ((l 0).val / 256 * 128 + ((l 0).val % 256 - 128)) 0).val
        = (y 0).val / 256 * 128 + ((y 0).val % 256 - 128) := by rw [hz]; omega
    simp only [hz']
    have hw := hI (pos hm ((y 0).val / 256 * 128 + ((y 0).val % 256 - 128)))
    rw [pos_val hn' (show (l 0).val / 256 * 256 + (I (pos hm ((y 0).val / 256 * 128 + ((y 0).val % 256 - 128)))).toNat < r * 256 by omega)]
    congr 2; omega
  · rw [if_neg h, if_neg h]
    show X (pos hn (q * r * 256 + (l 0).val)) = X y
    rw [← hy, pos_eq]

end Cert.Proof.Rows

end
-- ==== Proof.Host.lean ====
/-
  Straight lines of host operations, for any program: how a `main` that starts with such a line is read as
  the line and the rest, why the contents a line leaves solve every one of its operations as an equation
  (each buffer is written once, after everything it is computed from), and how two programs that carry the
  same line over buffers of their own are seen to compute the same values, one operation after the other.
-/
module

public import Idealize.ShloMosaic.Lib.StableHlo.Run
public import Idealize.ShloMosaic.Lib.StableHlo.RunHlo

@[expose] public section

noncomputable section

namespace Cert.Proof.Host

open Idealize.ShloMosaic Idealize.ShloMosaic.StableHlo Idealize.SL.Sem

variable {nD : Nat} {τ : Topo} {sig : RefSig} {Val : EltTy → Type} {Λ : Labels}

/-! ## Reading a program as a line and the rest -/

/-- `p` runs the line `ops` and goes on as `k`. -/
def Begins (p : Prog (TpuEff nD τ sig Val Λ .tc) PUnit) (ops : List (HloOp τ sig Val))
    (k : Prog (TpuEff nD τ sig Val Λ .tc) PUnit) : Prop := p = seq ops >>= fun _ => k

/-- Nothing of the line left: the rest. -/
theorem Begins.stop {k : Prog (TpuEff nD τ sig Val Λ .tc) PUnit} : Begins k [] k := rfl

/-- One operation at the head. -/
theorem Begins.op {op : HloOp τ sig Val} {p k : Prog (TpuEff nD τ sig Val Λ .tc) PUnit} {ops : List (HloOp τ sig Val)}
    (h : Begins p ops k) : Begins ((hlo rfl op fun _ => .ret (⟨⟩ : PUnit)) >>= fun _ => p) (op :: ops) k := by
  unfold Begins at h ⊢; rw [h]; rfl

/-- A function's line at the head. -/
theorem Begins.line {q p k : Prog (TpuEff nD τ sig Val Λ .tc) PUnit} {l ops : List (HloOp τ sig Val)}
    (hq : IsSeq q l) (h : Begins p ops k) : Begins (q >>= fun _ => p) (l ++ ops) k := by
  unfold Begins at h ⊢; unfold IsSeq at hq; rw [hq, h, seq_append, bind_assoc]

/-- A line that goes on with nothing is the line. -/
theorem Begins.isSeq {p : Prog (TpuEff nD τ sig Val Λ .tc) PUnit} {ops : List (HloOp τ sig Val)}
    (h : Begins p ops (pure ⟨⟩)) : IsSeq p ops := by
  unfold Begins at h; unfold IsSeq; rw [h]; exact bind_pure _

/-- A function's line at the end of a function's body. -/
theorem Begins.last {q : Prog (TpuEff nD τ sig Val Λ .tc) PUnit} {l : List (HloOp τ sig Val)}
    (hq : IsSeq q l) : Begins q l (pure ⟨⟩) := by
  unfold Begins; unfold IsSeq at hq; rw [hq]; exact (bind_pure _).symm

/-- One operation at the end of a part of a function's body. -/
theorem Begins.lastOp {op : HloOp τ sig Val} :
    Begins (hlo rfl op fun _ => .ret (⟨⟩ : PUnit) : Prog (TpuEff nD τ sig Val Λ .tc) PUnit) [op] (pure ⟨⟩) := rfl

/-! ## A line whose every buffer is written once solves its operations -/

/-- A number telling buffers apart: the buffer's index. -/
def rank (r : Ref sig .tc) : ℕ := r.idx.val

/-- Buffers of different numbers are different. -/
theorem ne_of_rank {x y : Ref sig .tc} (h : rank x ≠ rank y) : x ≠ y := fun e => h (congrArg rank e)

/-- `op` writes the one buffer `r`, computed from buffers of smaller numbers only. -/
structure Step (op : HloOp τ sig Val) (r : Ref sig .tc) : Prop where
  writes : op.writes = {(Proc.devRef .tc r : DevRef τ sig)}
  fresh : op.fresh = ∅
  tc : op.bufs ⊆ tcRefs τ sig
  result : ∀ F G : Valuation τ sig Val, (∀ x : Ref sig .tc, rank x < rank r → F (Proc.devRef .tc x) = G (Proc.devRef .tc x)) →
    op.result F (Proc.devRef .tc r) = op.result G (Proc.devRef .tc r)

/-- A line in which every operation writes a buffer numbered above those written before it, from smaller ones:
    nothing below `lo` is written, and what is written stays below `hi`. -/
inductive Ordered : ℕ → List (HloOp τ sig Val) → ℕ → Prop
  | nil {lo : ℕ} : Ordered lo [] lo
  | cons {lo hi : ℕ} {op : HloOp τ sig Val} {ops : List (HloOp τ sig Val)} (r : Ref sig .tc) (h : Step op r) (hlo : lo ≤ rank r)
      (hs : Ordered (rank r + 1) ops hi) : Ordered lo (op :: ops) hi

/-- The contents `W` solve every operation of the line: none would change them. -/
def Solves (W : Valuation τ sig Val) (ops : List (HloOp τ sig Val)) : Prop := ∀ op ∈ ops, op.result W = W

/-- A line leaves every buffer numbered below what it writes. -/
theorem Ordered.keeps {lo hi : ℕ} {ops : List (HloOp τ sig Val)} (h : Ordered lo ops hi) :
    ∀ (V : Valuation τ sig Val) {x : Ref sig .tc}, rank x < lo → after ops V (Proc.devRef .tc x) = V (Proc.devRef .tc x) := by
  induction h with
  | nil => intro V x _; rfl
  | cons r hr hlo _ ih =>
    intro V x hx
    rw [after_cons, ih _ (by omega)]
    exact HloOp.result_of_not_mem _ _ (by
      rw [hr.writes, Finset.mem_singleton]; exact devRef_ne_of_ne (ne_of_rank (by omega)))

/-- What an ordered line leaves solves the line. -/
theorem Ordered.solves {lo hi : ℕ} {ops : List (HloOp τ sig Val)} (h : Ordered lo ops hi) :
    ∀ V : Valuation τ sig Val, Solves (after ops V) ops := by
  induction h with
  | nil => intro V op ho; exact nomatch ho
  | @cons lo hi op ops r hr hlo hs ih =>
    intro V o ho
    rcases List.mem_cons.mp ho with rfl | ho
    · funext b
      by_cases hb : b ∈ o.writes
      · rw [hr.writes, Finset.mem_singleton] at hb
        subst hb
        rw [after_cons, hs.keeps _ (Nat.lt_succ_self _)]
        refine hr.result _ _ fun x hx => ?_
        rw [hs.keeps _ (by omega)]
        exact HloOp.result_of_not_mem _ _ (by
          rw [hr.writes, Finset.mem_singleton]; exact devRef_ne_of_ne (ne_of_rank (by omega)))
      · exact HloOp.result_of_not_mem _ _ hb
    · exact ih _ o ho

/-- The operations of an ordered line touch TensorCore buffers only. -/
theorem Ordered.tc {lo hi : ℕ} {ops : List (HloOp τ sig Val)} (h : Ordered lo ops hi) : ∀ op ∈ ops, op.bufs ⊆ tcRefs τ sig := by
  induction h with
  | nil => intro op ho; exact nomatch ho
  | cons r hr _ _ ih =>
    intro o ho
    rcases List.mem_cons.mp ho with rfl | ho
    · exact hr.tc
    · exact ih o ho

/-- The operations of an ordered line determine what they write. -/
theorem Ordered.fresh {lo hi : ℕ} {ops : List (HloOp τ sig Val)} (h : Ordered lo ops hi) : ∀ op ∈ ops, op.fresh = ∅ := by
  induction h with
  | nil => intro op ho; exact nomatch ho
  | cons r hr _ _ ih =>
    intro o ho
    rcases List.mem_cons.mp ho with rfl | ho
    · exact hr.fresh
    · exact ih o ho

section Steps

variable {x a b c y : Ref sig .tc}

/-- A constant is a step. -/
theorem Step.nullary (v : y.ty.Contents Val) (hy) : Step (StableHlo.nullary (τ := τ) y v hy) y where
  writes := rfl
  fresh := rfl
  tc := by rw [nullary_bufs]; exact Finset.singleton_subset_iff.mpr (devRef_mem_tcRefs _)
  result F G _ := by rw [nullary_result, nullary_result]

/-- An operation of one operand is a step. -/
theorem Step.unary (f : x.ty.Contents Val → y.ty.Contents Val) (hx hy) (h : rank x < rank y) :
    Step (StableHlo.unary (τ := τ) x y f hx hy) y where
  writes := rfl
  fresh := rfl
  tc := by
    rw [unary_bufs]
    exact Finset.insert_subset (devRef_mem_tcRefs _) (Finset.singleton_subset_iff.mpr (devRef_mem_tcRefs _))
  result F G e := by rw [unary_result, unary_result, e x h]

/-- An operation of two operands is a step. -/
theorem Step.binary (f : a.ty.Contents Val → b.ty.Contents Val → y.ty.Contents Val) (ha hb hy)
    (h₁ : rank a < rank y) (h₂ : rank b < rank y) : Step (StableHlo.binary (τ := τ) a b y f ha hb hy) y where
  writes := rfl
  fresh := rfl
  tc := by
    rw [binary_bufs]
    exact Finset.insert_subset (devRef_mem_tcRefs _) (Finset.insert_subset (devRef_mem_tcRefs _)
      (Finset.singleton_subset_iff.mpr (devRef_mem_tcRefs _)))
  result F G e := by rw [binary_result, binary_result, e a h₁, e b h₂]

/-- An operation of three operands is a step. -/
theorem Step.ternary (f : c.ty.Contents Val → a.ty.Contents Val → b.ty.Contents Val → y.ty.Contents Val) (hc ha hb hy)
    (h₀ : rank c < rank y) (h₁ : rank a < rank y) (h₂ : rank b < rank y) :
    Step (StableHlo.ternary (τ := τ) c a b y f hc ha hb hy) y where
  writes := rfl
  fresh := rfl
  tc := by
    rw [ternary_bufs]
    exact Finset.insert_subset (devRef_mem_tcRefs _) (Finset.insert_subset (devRef_mem_tcRefs _)
      (Finset.insert_subset (devRef_mem_tcRefs _) (Finset.singleton_subset_iff.mpr (devRef_mem_tcRefs _))))
  result F G e := by rw [ternary_result, ternary_result, e c h₀, e a h₁, e b h₂]

/-- A reshape is a step. -/
theorem Step.reshape (he hn hx hy) (h : rank x < rank y) :
    Step (StableHlo.reshape (τ := τ) (Val := Val) x y he hn hx hy) y where
  writes := rfl
  fresh := rfl
  tc := by
    rw [reshape_bufs]
    exact Finset.insert_subset (devRef_mem_tcRefs _) (Finset.singleton_subset_iff.mpr (devRef_mem_tcRefs _))
  result F G e := by rw [reshape_result, reshape_result, e x h]

/-- A constant at the head of an ordered line. -/
theorem Ordered.nullary {T : BufTy} {y : TRef sig T} {lo hi : ℕ} {ops : List (HloOp τ sig Val)} {v : T.Contents Val}
    (hlo : lo ≤ rank y.ref) (hs : Ordered (rank y.ref + 1) ops hi) : Ordered lo (TRef.nullary (τ := τ) y v :: ops) hi :=
  .cons y.ref (.nullary _ _) hlo hs
/-- An operation of one operand at the head of an ordered line. -/
theorem Ordered.unary {T Tx : BufTy} {x : TRef sig Tx} {y : TRef sig T} {lo hi : ℕ} {ops : List (HloOp τ sig Val)}
    {f : Tx.Contents Val → T.Contents Val} (hlo : lo ≤ rank y.ref)
    (h : rank x.ref < rank y.ref) (hs : Ordered (rank y.ref + 1) ops hi) : Ordered lo (TRef.unary (τ := τ) x y f :: ops) hi :=
  .cons y.ref (.unary _ _ _ h) hlo hs
/-- An operation of two operands at the head of an ordered line. -/
theorem Ordered.binary {T Ta Tb : BufTy} {a : TRef sig Ta} {b : TRef sig Tb} {y : TRef sig T} {lo hi : ℕ}
    {ops : List (HloOp τ sig Val)} {f : Ta.Contents Val → Tb.Contents Val → T.Contents Val}
    (hlo : lo ≤ rank y.ref) (h₁ : rank a.ref < rank y.ref) (h₂ : rank b.ref < rank y.ref) (hs : Ordered (rank y.ref + 1) ops hi) :
    Ordered lo (TRef.binary (τ := τ) a b y f :: ops) hi := .cons y.ref (.binary _ _ _ _ h₁ h₂) hlo hs
/-- An operation of three operands at the head of an ordered line. -/
theorem Ordered.ternary {T Ta Tb Tc : BufTy} {c : TRef sig Tc} {a : TRef sig Ta} {b : TRef sig Tb} {y : TRef sig T} {lo hi : ℕ}
    {ops : List (HloOp τ sig Val)} {f : Tc.Contents Val → Ta.Contents Val → Tb.Contents Val → T.Contents Val}
    (hlo : lo ≤ rank y.ref) (h₀ : rank c.ref < rank y.ref) (h₁ : rank a.ref < rank y.ref) (h₂ : rank b.ref < rank y.ref)
    (hs : Ordered (rank y.ref + 1) ops hi) :
    Ordered lo (TRef.ternary (τ := τ) c a b y f :: ops) hi := .cons y.ref (.ternary _ _ _ _ _ h₀ h₁ h₂) hlo hs
/-- A reshape at the head of an ordered line. -/
theorem Ordered.reshape {T Tx : BufTy} {x : TRef sig Tx} {y : TRef sig T} {lo hi : ℕ} {ops : List (HloOp τ sig Val)}
    {he : Tx.elt = T.elt} {hn : Tx.shape.ShapeCasts T.shape} (hlo : lo ≤ rank y.ref)
    (h : rank x.ref < rank y.ref) (hs : Ordered (rank y.ref + 1) ops hi) :
    Ordered lo (TRef.reshape (τ := τ) (Val := Val) x y he hn :: ops) hi := .cons y.ref (.reshape _ _ _ _ h) hlo hs
/-- One ordered line after another. -/
theorem Ordered.append {lo mid hi : ℕ} {l₁ l₂ : List (HloOp τ sig Val)} (h₁ : Ordered lo l₁ mid) (h₂ : Ordered mid l₂ hi) :
    Ordered lo (l₁ ++ l₂) hi := by
  induction h₁ with
  | nil => exact h₂
  | cons r h hlo _ ih => exact .cons r h hlo (ih h₂)

end Steps

/-- Solving a line is solving its head and its tail. -/
theorem Solves.head {W : Valuation τ sig Val} {op : HloOp τ sig Val} {ops : List (HloOp τ sig Val)} (h : Solves W (op :: ops)) :
    op.result W = W := h op List.mem_cons_self
/-- It solves the rest. -/
theorem Solves.tail {W : Valuation τ sig Val} {op : HloOp τ sig Val} {ops : List (HloOp τ sig Val)} (h : Solves W (op :: ops)) :
    Solves W ops := fun o ho => h o (List.mem_cons_of_mem _ ho)
/-- Solving two lines run one after the other is solving each. -/
theorem Solves.left {W : Valuation τ sig Val} {l₁ l₂ : List (HloOp τ sig Val)} (h : Solves W (l₁ ++ l₂)) : Solves W l₁ :=
  fun o ho => h o (List.mem_append_left _ ho)
/-- The second. -/
theorem Solves.right {W : Valuation τ sig Val} {l₁ l₂ : List (HloOp τ sig Val)} (h : Solves W (l₁ ++ l₂)) : Solves W l₂ :=
  fun o ho => h o (List.mem_append_right _ ho)

/-! ## Values at typed references -/

variable {T Tx Ta Tb Tc Ty : BufTy}

/-- The value a typed reference's buffer holds. -/
def val (W : Valuation τ sig Val) (t : TRef sig T) : T.Contents Val := t.ofBuf (W (Proc.devRef .tc t.ref))

/-- At a literal reference it is the buffer's contents. -/
theorem val_of (W : Valuation τ sig Val) (r : Ref sig .tc) (h₁ : r.space ≠ .host) (h₂ : r.isScoped = false) :
    val W (⟨r, rfl, h₁, h₂⟩ : TRef sig r.ty) = W (Proc.devRef .tc r) := rfl

variable {W : Valuation τ sig Val} {x : TRef sig Tx} {a : TRef sig Ta} {b : TRef sig Tb} {c : TRef sig Tc} {y : TRef sig Ty}

/-- A solved constant. -/
theorem val_nullary {v : Ty.Contents Val} (h : (TRef.nullary (τ := τ) y v).result W = W) : val W y = v := by
  obtain ⟨y, rfl, _, _⟩ := y
  have e := congrFun h (Proc.devRef .tc y)
  rw [nullary_result] at e
  exact e.symm
/-- A solved operation of one operand. -/
theorem val_unary {f : Tx.Contents Val → Ty.Contents Val} (h : (TRef.unary (τ := τ) x y f).result W = W) :
    val W y = f (val W x) := by
  obtain ⟨x, rfl, _, _⟩ := x; obtain ⟨y, rfl, _, _⟩ := y
  have e := congrFun h (Proc.devRef .tc y)
  rw [unary_result] at e
  exact e.symm
/-- A solved operation of two operands. -/
theorem val_binary {f : Ta.Contents Val → Tb.Contents Val → Ty.Contents Val} (h : (TRef.binary (τ := τ) a b y f).result W = W) :
    val W y = f (val W a) (val W b) := by
  obtain ⟨a, rfl, _, _⟩ := a; obtain ⟨b, rfl, _, _⟩ := b; obtain ⟨y, rfl, _, _⟩ := y
  have e := congrFun h (Proc.devRef .tc y)
  rw [binary_result] at e
  exact e.symm
/-- A solved operation of three operands. -/
theorem val_ternary {f : Tc.Contents Val → Ta.Contents Val → Tb.Contents Val → Ty.Contents Val}
    (h : (TRef.ternary (τ := τ) c a b y f).result W = W) : val W y = f (val W c) (val W a) (val W b) := by
  obtain ⟨c, rfl, _, _⟩ := c; obtain ⟨a, rfl, _, _⟩ := a; obtain ⟨b, rfl, _, _⟩ := b; obtain ⟨y, rfl, _, _⟩ := y
  have e := congrFun h (Proc.devRef .tc y)
  rw [ternary_result] at e
  exact e.symm
/-- A solved reshape. -/
theorem val_reshape {he : Tx.elt = Ty.elt} {hn : Tx.shape.ShapeCasts Ty.shape} (h : (TRef.reshape (τ := τ) (Val := Val) x y he hn).result W = W) :
    val W y = fun i => he ▸ shapeCast Ty.shape (val W x) hn i := by
  obtain ⟨x, rfl, _, _⟩ := x; obtain ⟨y, rfl, _, _⟩ := y
  have e := congrFun h (Proc.devRef .tc y)
  rw [reshape_result] at e
  exact e.symm

/-! ## Two programs' lines, operation against operation -/

section Both

variable {τ' : Topo} {sig' : RefSig} {W' : Valuation τ' sig' Val}
  {x' : TRef sig' Tx} {a' : TRef sig' Ta} {b' : TRef sig' Tb} {c' : TRef sig' Tc} {y' : TRef sig' Ty}
  {l : List (HloOp τ sig Val)} {l' : List (HloOp τ' sig' Val)} {C : Prop}

/-- `C` follows from the two lines being solved, each by its own program's contents. -/
def Both (W : Valuation τ sig Val) (W' : Valuation τ' sig' Val) (l : List (HloOp τ sig Val)) (l' : List (HloOp τ' sig' Val))
    (C : Prop) : Prop := Solves W l → Solves W' l' → C

/-- The same constant on both sides: equal values from here on. -/
theorem Both.nullary {v : Ty.Contents Val} (k : val W y = val W' y' → Both W W' l l' C) :
    Both W W' (TRef.nullary y v :: l) (TRef.nullary y' v :: l') C := fun h h' =>
  k ((val_nullary h.head).trans (val_nullary h'.head).symm) h.tail h'.tail
/-- The same operation of one operand. -/
theorem Both.unary {f : Tx.Contents Val → Ty.Contents Val} (hx : val W x = val W' x') (k : val W y = val W' y' → Both W W' l l' C) :
    Both W W' (TRef.unary x y f :: l) (TRef.unary x' y' f :: l') C := fun h h' =>
  k ((val_unary h.head).trans ((congrArg f hx).trans (val_unary h'.head).symm)) h.tail h'.tail
/-- The same operation of two operands. -/
theorem Both.binary {f : Ta.Contents Val → Tb.Contents Val → Ty.Contents Val} (ha : val W a = val W' a') (hb : val W b = val W' b')
    (k : val W y = val W' y' → Both W W' l l' C) : Both W W' (TRef.binary a b y f :: l) (TRef.binary a' b' y' f :: l') C := fun h h' =>
  k ((val_binary h.head).trans ((congrArg₂ f ha hb).trans (val_binary h'.head).symm)) h.tail h'.tail
/-- The same reshape. -/
theorem Both.reshape {he : Tx.elt = Ty.elt} {hn : Tx.shape.ShapeCasts Ty.shape} (hx : val W x = val W' x')
    (k : val W y = val W' y' → Both W W' l l' C) : Both W W' (TRef.reshape x y he hn :: l) (TRef.reshape x' y' he hn :: l') C := fun h h' =>
  k ((val_reshape h.head).trans ((congrArg (fun v => fun i => he ▸ shapeCast Ty.shape v hn i) hx).trans (val_reshape h'.head).symm)) h.tail h'.tail
/-- A function's line on both sides, by its own theorem. -/
theorem Both.line {m : List (HloOp τ sig Val)} {m' : List (HloOp τ' sig' Val)} {D : Prop} (hD : Both W W' m m' D)
    (k : D → Both W W' l l' C) : Both W W' (m ++ l) (m' ++ l') C := fun h h' =>
  k (hD h.left h'.left) h.right h'.right
/-- Nothing left of either line. -/
theorem Both.stop (h : C) : Both W W' l l' C := fun _ _ => h

end Both

end Cert.Proof.Host

end
-- ==== Proof.KernelIdealBody.lean ====
/-
  The SparseCore body of one subcore, read as sixteen runs of one program: bring a chunk of 128 rows and its
  indices into the subcore's memory, permute each row's upper half in place, write the chunk back.
-/
module

public import proofs.«01_k».proof.KernelIdeal

@[expose] public section

set_option maxRecDepth 4000

noncomputable section

namespace Cert.KernelIdeal.Tile

open Idealize.ShloMosaic Idealize.SL.Sem
open Facts₀ Facts

variable {F : FTy → Type} [FloatOps F] [Facts]

/-- The labels of a subcore's program. -/
abbrev TileProg (i : grid0.Coords) (α : Type) : Type 1 :=
  Prog (TpuEff nD τ sig (Elt F) Λ₀ (.scVector ((i 0).castLE hcore0) ((i 1).castLE hsub0))) α

section Body

variable (i : grid0.Coords) (x : Memref sig .scVector .vmem S32768 .f32) (ix : Memref sig .scVector .vmem S16384 .i32)

/-- Sixteen of a row's indices, the row's offset added, and the words they name. -/
def gatherAt (base : BitVec 32) (off : Fin 1 → ℕ) (h : ∀ a, off a + S16.size a ≤ S16384.size a) :
    TileProg (F := F) i (Vec F S16 .f32) := do
  let v : Vec F S16 .i32 ← Prog.lift (.load ix (Rect.unit (s := S16384) off S16.size h).toLoadRect (View.loadsAt_vmem h_S16))
  have hw := (← Prog.lift (TpuEff.assume (k0_chk1 (addi v (broadcast S16 base))) (k0_chk1.dec _))).down
  SparseCore.vectorLoadIdx x ![addi v (broadcast S16 base)] (k0_idx1_inb _ hw) (View.loads_vmem h_S32768)

/-- Sixteen words put at one place of a row (the kernel reads the place first, for nothing). -/
def putAt (off : Fin 1 → ℕ) (h : ∀ a, off a + S16.size a ≤ S32768.size a) (v : Vec F S16 .f32) : TileProg (F := F) i PUnit := do
  let _ ← Prog.lift (.load x (Rect.unit (s := S32768) off S16.size h).toLoadRect (View.loadsAt_vmem h_S16))
  Prog.lift (.store x (Rect.unit (s := S32768) off S16.size h) v Finset.univ (View.stores_vmem_bits_univ h_S16 rfl) (.inl rfl))

/-- One row: its eight gathers, then its eight writes. -/
def trip (t : Fin k0_t1_loop.trips) : TileProg (F := F) i PUnit := do
  let b : BitVec 32 := Scalar.muli (Scf.iv (0#32) (1#32) t) 256#32
  let g0 ← gatherAt i x ix b (k0_off3 t) (k0_off3_inb t)
  let g1 ← gatherAt i x ix b (k0_off4 t) (k0_off4_inb t)
  let g2 ← gatherAt i x ix b (k0_off5 t) (k0_off5_inb t)
  let g3 ← gatherAt i x ix b (k0_off6 t) (k0_off6_inb t)
  let g4 ← gatherAt i x ix b (k0_off7 t) (k0_off7_inb t)
  let g5 ← gatherAt i x ix b (k0_off8 t) (k0_off8_inb t)
  let g6 ← gatherAt i x ix b (k0_off9 t) (k0_off9_inb t)
  let g7 ← gatherAt i x ix b (k0_off10 t) (k0_off10_inb t)
  putAt i x (k0_off11 t 0#32) (k0_off11_inb t 0) g0
  putAt i x (k0_off11 t 16#32) (k0_off11_inb t 1) g1
  putAt i x (k0_off11 t 32#32) (k0_off11_inb t 2) g2
  putAt i x (k0_off11 t 48#32) (k0_off11_inb t 3) g3
  putAt i x (k0_off11 t 64#32) (k0_off11_inb t 4) g4
  putAt i x (k0_off11 t 80#32) (k0_off11_inb t 5) g5
  putAt i x (k0_off11 t 96#32) (k0_off11_inb t 6) g6
  putAt i x (k0_off11 t 112#32) (k0_off11_inb t 7) g7

variable (hx : x.IsWhole) (hix : ix.IsWhole)
  (ax : Memref sig .scVector .hbm S16777216 .f32) (aix : Memref sig .scVector .hbm S8388608 .i32)
  (out : Memref sig .scVector .hbm S16777216 .f32)

/-- A chunk of the flat rows. -/
abbrev rows (a : Memref sig .scVector .hbm S16777216 .f32) (n : Fin 16) : Memref sig .scVector .hbm S32768 .f32 :=
  a.slice (Rect.unit (s := S16777216) (k0_off1 i (BitVec.ofNat 32 n.val)) S32768.size (k0_off1_inb i n)) (fun _ => rfl)
/-- A chunk of the flat indices. -/
abbrev idxs (a : Memref sig .scVector .hbm S8388608 .i32) (n : Fin 16) : Memref sig .scVector .hbm S16384 .i32 :=
  a.slice (Rect.unit (s := S8388608) (k0_off2 i (BitVec.ofNat 32 n.val)) S16384.size (k0_off2_inb i n)) (fun _ => rfl)

/-- One chunk: in, its 128 rows, out. -/
def chunk (n : Fin 16) (s₀ s₁ s₂ : DmaSems sig S_) : TileProg (F := F) i PUnit := do
  Prog.lift (.enqueueDma (rows i ax n) (.here x) (.dma s₀.sem) (View.wordExact_bits rfl) hx.wordExact ⟨Or.inl rfl, trivial⟩)
  Prog.lift (.waitDma2 s₀.sem (rows i ax n) x (View.wordExact_bits rfl) hx.wordExact)
  Prog.lift (.enqueueDma (idxs i aix n) (.here ix) (.dma s₁.sem) (View.wordExact_bits rfl) hix.wordExact ⟨Or.inl rfl, trivial⟩)
  Prog.lift (.waitDma2 s₁.sem (idxs i aix n) ix (View.wordExact_bits rfl) hix.wordExact)
  Scf.Loop.for k0_t1_loop k0_t1_ok ⟨⟩ fun t _ => trip i x ix t
  Prog.lift (.enqueueDma x (.here (rows i out n)) (.dma s₂.sem) hx.wordExact (View.wordExact_bits rfl) ⟨Or.inl rfl, trivial⟩)
  Prog.lift (.waitDma2 s₂.sem x (rows i out n) hx.wordExact (View.wordExact_bits rfl))

end Body

/-- The printed body is its sixteen chunks, one after the other. -/
theorem cc0_k_eq (i : grid0.Coords) (ax : Memref sig .scVector .hbm S16777216 .f32) (hax : ax.IsWhole)
    (aix : Memref sig .scVector .hbm S8388608 .i32) (haix : aix.IsWhole) (out : Memref sig .scVector .hbm S16777216 .f32)
    (hout : out.IsWhole) (x : Memref sig .scVector .vmem S32768 .f32) (hx : x.IsWhole)
    (ix : Memref sig .scVector .vmem S16384 .i32) (hix : ix.IsWhole)
    (r0 r1 r2 r3 r4 r5 r6 r7 r8 r9 r10 r11 r12 r13 r14 r15 r16 r17 r18 r19 r20 r21 r22 r23 r24 r25 r26 r27 r28 r29 r30 r31 r32 r33 r34 r35 r36 r37 r38 r39 r40 r41 r42 r43 r44 r45 r46 r47 : DmaSems sig S_) :
    cc0_k (F := F) i ax hax aix haix out hout x hx ix hix r0 r1 r2 r3 r4 r5 r6 r7 r8 r9 r10 r11 r12 r13 r14 r15 r16 r17 r18 r19 r20 r21 r22 r23 r24 r25 r26 r27 r28 r29 r30 r31 r32 r33 r34 r35 r36 r37 r38 r39 r40 r41 r42 r43 r44 r45 r46 r47 = (do
      chunk i x ix hx hix ax aix out 0 r0 r1 r2
      chunk i x ix hx hix ax aix out 1 r3 r4 r5
      chunk i x ix hx hix ax aix out 2 r6 r7 r8
      chunk i x ix hx hix ax aix out 3 r9 r10 r11
      chunk i x ix hx hix ax aix out 4 r12 r13 r14
      chunk i x ix hx hix ax aix out 5 r15 r16 r17
      chunk i x ix hx hix ax aix out 6 r18 r19 r20
      chunk i x ix hx hix ax aix out 7 r21 r22 r23
      chunk i x ix hx hix ax aix out 8 r24 r25 r26
      chunk i x ix hx hix ax aix out 9 r27 r28 r29
      chunk i x ix hx hix ax aix out 10 r30 r31 r32
      chunk i x ix hx hix ax aix out 11 r33 r34 r35
      chunk i x ix hx hix ax aix out 12 r36 r37 r38
      chunk i x ix hx hix ax aix out 13 r39 r40 r41
      chunk i x ix hx hix ax aix out 14 r42 r43 r44
      chunk i x ix hx hix ax aix out 15 r45 r46 r47) := by
  simp only [cc0_k, k0_part42, k0_part41, k0_part40, k0_part39, k0_part38, k0_part37, k0_part36, k0_part35, k0_part34, k0_part33, k0_part32, k0_part31, k0_part30, k0_part29, k0_part28, k0_part27, k0_part26, k0_part25, k0_part24, k0_part23, k0_part22, k0_part21, k0_part20, k0_part19, k0_part18, k0_part17, k0_part16, k0_part15, k0_part14, k0_part13, k0_part12, k0_part11, k0_part10, k0_part9, k0_part8, k0_part7, k0_part6, k0_part5, k0_part4, k0_part3, k0_part2, k0_part1, chunk, trip, gatherAt, putAt, bind_assoc, pure_bind]
  rfl

end Cert.KernelIdeal.Tile

end
-- ==== Proof.KernelIdealTrip.lean ====
/-
  One row of a chunk, run on a subcore: eight gathers of sixteen words and eight writes of sixteen words, which
  together replace eight pieces of the rows (`Rows.mixed`).
-/
module

public import proofs.«01_k».proof.Proof.KernelIdealBody
public import proofs.«01_k».proof.Proof.Rows
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

set_option maxRecDepth 4000

noncomputable section

namespace Cert.KernelIdeal.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Rows
open Facts₀ Facts

variable {F : FTy → Type}

/-- The kernel launches no pipeline: no variants to count down. -/
abbrev 𝒱₀ : Variants := Variants.none

/-- The handshakes' rounds beside the copies' counters. -/
abbrev UH : Type := URounds (GSem nD τ sig) ℕ
/-- The ghost state: the launch handshakes' and the counters. -/
abbrev UU : Type := UH × Counters

local notation "𝕄" => MT nD τ sig (HIx 1) (Elt F) ℕ UU ℕ

variable [Facts]

/-- The subcore that runs the body at `i`. -/
abbrev thr (d : Dev nD) (i : grid0.Coords) : Thread nD τ := V d ((i 0).castLE hcore0) ((i 1).castLE hsub0)

/-- A subcore's memory for a chunk's rows and for its indices. -/
abbrev xW : Memref sig .scVector .vmem S32768 .f32 := Memref.whole cc0_scratch0
/-- A subcore's index buffer, whole. -/
abbrev iW : Memref sig .scVector .vmem S16384 .i32 := Memref.whole cc0_scratch1

variable (d : Dev nD) (i : grid0.Coords)

/-- Where a subcore's row buffer lies. -/
abbrev xLoc : Loc nD τ sig := (thr d i).loc cc0_scratch0
/-- Where its index buffer lies. -/
abbrev iLoc : Loc nD τ sig := (thr d i).loc cc0_scratch1

/-- The subcore's memory: a chunk's rows at `f`, its indices at `g`. -/
def memAt (f : S32768.Idx → F .f32) (g : S16384.Idx → BitVec 32) : sProp 𝕄 :=
  iprop((xLoc d i ↦{fullShare} (f : Buf (Elt F) (xLoc d i))) ∗ (iLoc d i ↦{fullShare} (g : Buf (Elt F) (iLoc d i))))

/-- The row buffer is not empty. -/
theorem pos32768 : 0 < 32768 := by decide
/-- The index buffer is not empty. -/
theorem pos16384 : 0 < 16384 := by decide

/-! ## The offsets -/

section Offsets

/-- Where a trip reads its indices 0 to 15. -/
theorem off3 : ∀ t : Fin k0_t1_loop.trips, k0_off3 t 0 = t.val * 128 + 16 * 0 := by decide +kernel
/-- Where a trip reads its indices 16 to 31. -/
theorem off4 : ∀ t : Fin k0_t1_loop.trips, k0_off4 t 0 = t.val * 128 + 16 * 1 := by decide +kernel
/-- Where a trip reads its indices 32 to 47. -/
theorem off5 : ∀ t : Fin k0_t1_loop.trips, k0_off5 t 0 = t.val * 128 + 16 * 2 := by decide +kernel
/-- Where a trip reads its indices 48 to 63. -/
theorem off6 : ∀ t : Fin k0_t1_loop.trips, k0_off6 t 0 = t.val * 128 + 16 * 3 := by decide +kernel
/-- Where a trip reads its indices 64 to 79. -/
theorem off7 : ∀ t : Fin k0_t1_loop.trips, k0_off7 t 0 = t.val * 128 + 16 * 4 := by decide +kernel
/-- Where a trip reads its indices 80 to 95. -/
theorem off8 : ∀ t : Fin k0_t1_loop.trips, k0_off8 t 0 = t.val * 128 + 16 * 5 := by decide +kernel
/-- Where a trip reads its indices 96 to 111. -/
theorem off9 : ∀ t : Fin k0_t1_loop.trips, k0_off9 t 0 = t.val * 128 + 16 * 6 := by decide +kernel
/-- Where a trip reads its indices 112 to 127. -/
theorem off10 : ∀ t : Fin k0_t1_loop.trips, k0_off10 t 0 = t.val * 128 + 16 * 7 := by decide +kernel
/-- Where a row's writes go. -/
theorem off11 : ∀ (s : Fin 8) (t : Fin k0_t1_loop.trips),
    k0_off11 t (BitVec.ofNat 32 (16 * s.val)) 0 = t.val * 256 + 128 + 16 * s.val := by decide +kernel
/-- A row's base. -/
theorem base_val : ∀ t : Fin k0_t1_loop.trips, (Scalar.muli (Scf.iv (0#32) (1#32) t) 256#32 : BitVec 32).toNat = t.val * 256 := by
  decide +kernel
/-- The loop over the rows of a chunk has 128 trips. -/
theorem trips_eq : k0_t1_loop.trips = 128 := by decide +kernel

end Offsets

/-! ## A gather and a write -/

variable [FloatOps F]

/-- A gather of sixteen words: the memory unchanged, the words those of piece `8 t + s`. -/
theorem gather_then (X : S32768.Idx → F .f32) (I : S16384.Idx → BitVec 32)
    (hI : ∀ z, 128 ≤ (I z).toNat ∧ (I z).toNat < 256) (t : Fin k0_t1_loop.trips) (s : Fin 8)
    {off : Fin 1 → ℕ} {h : ∀ a, off a + S16.size a ≤ S16384.size a} (ho : off 0 = t.val * 128 + 16 * s.val)
    {α : Type} {k : Vec F S16 .f32 → TileProg (F := F) i α} {Q : α → sProp 𝕄}
    (hk : memAt d i (mixed pos32768 pos16384 X I (8 * t.val)) I
      ⊢ wp frame (wpE (defs₀ (F := F)) 𝒱₀ (thr d i) none) Set.univ (k (piece pos32768 pos16384 X I (8 * t.val + s.val))) Q) :
    memAt d i (mixed pos32768 pos16384 X I (8 * t.val)) I
      ⊢ wp frame (wpE (defs₀ (F := F)) 𝒱₀ (thr d i) none) Set.univ
          (gatherAt i xW iW (Scalar.muli (Scf.iv (0#32) (1#32) t) 256#32) off h >>= k) Q := by
  have ht : t.val < 128 := trips_eq ▸ t.isLt
  have hs := s.isLt
  have hz : ∀ l : S16.Idx, (((Rect.unit (s := S16384) off S16.size h).emb l) 0).val = t.val * 128 + 16 * s.val + (l 0).val := by
    intro l
    rw [Rect.emb_apply, Rect.off_unit, Rect.stride_unit, ho, Nat.one_mul]
  have hw : ∀ l : S16.Idx, (addi ((Memref.view iW).readAt (Elt F) (Rect.unit (s := S16384) off S16.size h).toLoadRect (I : Buf (Elt F) (iLoc d i)))
      (broadcast S16 (Scalar.muli (Scf.iv (0#32) (1#32) t) 256#32)) l).toNat
      = t.val * 256 + (I ((Rect.unit (s := S16384) off S16.size h).emb l)).toNat := by
    intro l
    show (I ((Rect.unit (s := S16384) off S16.size h).emb l) + Scalar.muli (Scf.iv (0#32) (1#32) t) 256#32).toNat = _
    have := hI ((Rect.unit (s := S16384) off S16.size h).emb l)
    rw [BitVec.toNat_add, base_val]
    omega
  have hchk : k0_chk1 (addi ((Memref.view iW).readAt (Elt F) (Rect.unit (s := S16384) off S16.size h).toLoadRect (I : Buf (Elt F) (iLoc d i)))
      (broadcast S16 (Scalar.muli (Scf.iv (0#32) (1#32) t) 256#32))) := by
    intro a l
    obtain rfl : a = 0 := Subsingleton.elim _ _
    show (addi _ _ l).toNat < 32768
    rw [hw l]
    have := hI ((Rect.unit (s := S16384) off S16.size h).emb l)
    omega
  unfold gatherAt
  simp only [Prog.lift, Prog.bind_op, Prog.bind_ret, Prog.pure_eq_ret, bind_assoc]
  unfold memAt
  iintro ⟨Hx, Hi⟩
  iapply (wp_load 𝒱₀ (thr d i) none Set.univ (m := iW) (S := Finset.univ) (Finset.subset_univ _)) $$ Hi
  iintro Hi
  rw [wp_assume_of _ _ _ _ hchk]
  iapply (SparseCore.wp_vectorLoadIdx 𝒱₀ (thr d i) none Set.univ (base := xW) (S := Finset.univ) (q := fullShare) (Finset.subset_univ _)) $$ Hx
  iintro Hx
  have hv : loadIdx (F := F) (((xW).access (.whole S32768)).read (Elt F) (mixed pos32768 pos16384 X I (8 * t.val) : Buf (Elt F) (xLoc d i)))
      ![addi ((Memref.view iW).readAt (Elt F) (Rect.unit (s := S16384) off S16.size h).toLoadRect (I : Buf (Elt F) (iLoc d i)))
      (broadcast S16 (Scalar.muli (Scf.iv (0#32) (1#32) t) 256#32))] (k0_idx1_inb _ hchk) = piece pos32768 pos16384 X I (8 * t.val + s.val) := by
    funext l
    refine piece_read pos32768 pos16384 X I hs l hI (by omega) _ (hz l) rfl _ ?_
    show 0 + 1 * (addi _ _ l).toNat = _
    rw [Nat.zero_add, Nat.one_mul, hw l]
  rw [hv]
  iapply hk
  unfold memAt
  isplitl [Hx]; · iexact Hx
  iexact Hi

/-- A write of piece `8 t + s`, at its place. -/
theorem put_then (X : S32768.Idx → F .f32) (I : S16384.Idx → BitVec 32) (t : Fin k0_t1_loop.trips) (s : Fin 8)
    {off : Fin 1 → ℕ} {h : ∀ a, off a + S16.size a ≤ S32768.size a} (ho : off 0 = t.val * 256 + 128 + 16 * s.val)
    {α : Type} {k : PUnit → TileProg (F := F) i α} {Q : α → sProp 𝕄}
    (hk : memAt d i (mixed pos32768 pos16384 X I (8 * t.val + s.val + 1)) I
      ⊢ wp frame (wpE (defs₀ (F := F)) 𝒱₀ (thr d i) none) Set.univ (k ⟨⟩) Q) :
    memAt d i (mixed pos32768 pos16384 X I (8 * t.val + s.val)) I
      ⊢ wp frame (wpE (defs₀ (F := F)) 𝒱₀ (thr d i) none) Set.univ
          (putAt i xW off h (piece pos32768 pos16384 X I (8 * t.val + s.val)) >>= k) Q := by
  have hs := s.isLt
  have hz : ∀ l : S16.Idx, (((Rect.unit (s := S32768) off S16.size h).emb l) 0).val = t.val * 256 + 128 + 16 * s.val + (l 0).val := by
    intro l
    rw [Rect.emb_apply, Rect.off_unit, Rect.stride_unit, ho, Nat.one_mul]
  have hv : (((xW).access (Rect.unit (s := S32768) off S16.size h)).write (Elt F)
      (mixed pos32768 pos16384 X I (8 * t.val + s.val) : Buf (Elt F) (xLoc d i))
      (piece pos32768 pos16384 X I (8 * t.val + s.val)) Finset.univ : Buf (Elt F) (xLoc d i))
      = mixed pos32768 pos16384 X I (8 * t.val + s.val + 1) := by
    refine mixed_step pos32768 pos16384 X I (o := t.val * 256 + 128 + 16 * s.val) (by omega) ?_ ?_
    · intro l y hy
      obtain rfl : (Rect.unit (s := S32768) off S16.size h).emb l = y := Shape.idx1_ext ((hz l).trans hy.symm)
      exact View.write_emb_of_mem (v := (xW).access (Rect.unit (s := S32768) off S16.size h)) _ _ (Finset.mem_univ l)
    · intro y hy
      refine View.write_of_not_mem (v := (xW).access (Rect.unit (s := S32768) off S16.size h)) _ _ Finset.univ fun hm => hy ?_
      obtain ⟨l, -, rfl⟩ := Finset.mem_map.mp hm
      have h16 : (l 0).val < 16 := (l 0).isLt
      have := hz l
      show _ ≤ (((Rect.unit (s := S32768) off S16.size h).emb l) 0).val ∧ (((Rect.unit (s := S32768) off S16.size h).emb l) 0).val < _
      omega
  unfold putAt
  simp only [Prog.lift, Prog.bind_op, Prog.bind_ret, Prog.pure_eq_ret, bind_assoc]
  unfold memAt at hk ⊢
  iintro ⟨Hx, Hi⟩
  iapply (wp_load 𝒱₀ (thr d i) none Set.univ (m := xW) (S := Finset.univ) (Finset.subset_univ _)) $$ Hx
  iintro Hx
  ihave Hx' := (show (xLoc d i ↦{fullShare} (mixed pos32768 pos16384 X I (8 * t.val + s.val) : Buf (Elt F) (xLoc d i)) : sProp 𝕄)
      ⊢ (((xW).access (Rect.unit (s := S32768) off S16.size h)).loc (thr d i) ↦{fullShare}
        (mixed pos32768 pos16384 X I (8 * t.val + s.val) : Buf (Elt F) (xLoc d i))) from .rfl) $$ Hx
  iapply (wp_store 𝒱₀ (thr d i) none Set.univ (m := xW) (r := Rect.unit (s := S32768) off S16.size h) (S := Finset.univ) (Finset.subset_univ _)) $$ Hx'
  rw [hv]
  iintro Hx
  iapply hk
  isplitl [Hx]; · iexact Hx
  iexact Hi

/-- One row. -/
theorem trip_wp (X : S32768.Idx → F .f32) (I : S16384.Idx → BitVec 32)
    (hI : ∀ z, 128 ≤ (I z).toNat ∧ (I z).toNat < 256) (t : Fin k0_t1_loop.trips) :
    memAt d i (mixed pos32768 pos16384 X I (8 * t.val)) I
      ⊢ wp frame (wpE (defs₀ (F := F)) 𝒱₀ (thr d i) none) Set.univ (trip i xW iW t)
          fun _ => memAt d i (mixed pos32768 pos16384 X I (8 * (t.val + 1))) I := by
  unfold trip
  refine gather_then d i X I hI t 0 (off3 t) ?_
  refine gather_then d i X I hI t 1 (off4 t) ?_
  refine gather_then d i X I hI t 2 (off5 t) ?_
  refine gather_then d i X I hI t 3 (off6 t) ?_
  refine gather_then d i X I hI t 4 (off7 t) ?_
  refine gather_then d i X I hI t 5 (off8 t) ?_
  refine gather_then d i X I hI t 6 (off9 t) ?_
  refine gather_then d i X I hI t 7 (off10 t) ?_
  refine put_then d i X I t 0 (off11 0 t) ?_
  refine put_then d i X I t 1 (off11 1 t) ?_
  refine put_then d i X I t 2 (off11 2 t) ?_
  refine put_then d i X I t 3 (off11 3 t) ?_
  refine put_then d i X I t 4 (off11 4 t) ?_
  refine put_then d i X I t 5 (off11 5 t) ?_
  refine put_then d i X I t 6 (off11 6 t) ?_
  rw [← bind_pure (putAt i xW (k0_off11 t 112#32) _ _)]
  refine put_then d i X I t 7 (off11 7 t) ?_
  rw [show 8 * t.val + (7 : Fin 8).val + 1 = 8 * (t.val + 1) from rfl, Prog.pure_eq_ret, wp_ret]
  iintro H
  imodintro
  iexact H

/-- The loop over a chunk's rows replaces every upper half. -/
theorem rows_then (X : S32768.Idx → F .f32) (I : S16384.Idx → BitVec 32)
    (hI : ∀ z, 128 ≤ (I z).toNat ∧ (I z).toNat < 256) {α : Type} {k : PUnit → TileProg (F := F) i α} {Q : α → sProp 𝕄} :
    iprop(memAt d i X I ∗ (memAt d i (permuted pos32768 pos16384 X I) I
        -∗ wp frame (wpE (defs₀ (F := F)) 𝒱₀ (thr d i) none) Set.univ (k ⟨⟩) Q))
      ⊢ wp frame (wpE (defs₀ (F := F)) 𝒱₀ (thr d i) none) Set.univ
          ((Scf.Loop.for k0_t1_loop k0_t1_ok ⟨⟩ fun t _ => trip i xW iW t) >>= k) Q := by
  have key := (Scf.wp_for_bind frame (wpE (defs₀ (F := F)) 𝒱₀ (thr d i) none) Set.univ _ _ _ k0_t1_ok ⟨⟩
    (fun t _ => trip i xW iW t) (fun k _ => memAt d i (mixed pos32768 pos16384 X I (8 * k)) I) (fun t _ => trip_wp d i X I hI t) (kk := k) (Q := Q))
  iintro ⟨H, Hk⟩
  iapply key $$ [H]
  · rw [Nat.mul_zero, mixed_zero]; iexact H
  · iintro %_ H
    iapply Hk
    rw [mixed_all pos32768 pos16384 X I (by rw [show Scf.trips k0_t1_loop.lb k0_t1_loop.ub k0_t1_loop.st = 128 from trips_eq])]
    iexact H

end Cert.KernelIdeal.Tile

end
-- ==== Proof.KernelIdealChunk.lean ====
/-
  One chunk of 128 rows, run on a subcore: its rows and its indices copied in, the upper halves permuted, the rows
  copied out.
-/
module

public import proofs.«01_k».proof.Proof.KernelIdealTrip

@[expose] public section

set_option maxRecDepth 4000

noncomputable section

namespace Cert.KernelIdeal.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Rows
open Facts₀ Facts

variable {F : FTy → Type} [FloatOps F] [Facts]

local notation "𝕄" => MT nD τ sig (HIx 1) (Elt F) ℕ UU ℕ

variable (d : Dev nD) (i : grid0.Coords)

/-- What a subcore holds between copies: its counters at zero, the leave to wait, and what it owes (every wait it
    recorded beyond `W` is at no index of the handshakes). -/
def ready (O : CellTallies nD τ sig (HIx 1)) (W : Waits sig (HIx 1)) : sProp 𝕄 :=
  iprop(Transfers.MayWaits (thr d i) (none : HIx 1) O ∗ ownSems0 (thr d i)
    ∗ ∃ W', ⌜∀ p ∈ W', p ∈ W ∨ p.2 = none⌝ ∗ owes (thr d i) O W')

/-- A copy and its wait. -/
theorem copy_then {O : CellTallies nD τ sig (HIx 1)} {W : Waits sig (HIx 1)} {sp sp' : Space} {s : Shape} {e : EltTy}
    (src : Memref sig .scVector sp s e) (dst : Memref sig .scVector sp' s e) (sem : DmaSem sig)
    (hsem : (SemLoc.dma sem : SemLoc sig).isScoped .scVector = true)
    {hs : src.view.WordExact} {hd : dst.view.WordExact} {ht} (h0 : 0 < s.numel)
    {fs : Buf (Elt F) (src.view.loc (thr d i))} {fd : Buf (Elt F) (dst.view.loc (thr d i))}
    {α : Type} {k : PUnit → TileProg (F := F) i α} {Q : α → sProp 𝕄} :
    iprop(ready (F := F) d i O W ∗ (src.view.loc (thr d i) ↦[src.view.set]{fullShare} fs)
        ∗ (dst.view.loc (thr d i) ↦[dst.view.set]{fullShare} fd)
        ∗ ((ready (F := F) d i O W ∗ (src.view.loc (thr d i) ↦[src.view.set]{fullShare} fs)
            ∗ (dst.view.loc (thr d i) ↦[dst.view.set]{fullShare} (dst.view.write (Elt F) fd (src.view.read (Elt F) fs) Finset.univ)))
          -∗ wp frame (wpE (defs₀ (F := F)) 𝒱₀ (thr d i) none) Set.univ (k ⟨⟩) Q))
      ⊢ wp frame (wpE (defs₀ (F := F)) 𝒱₀ (thr d i) none) Set.univ
          (Prog.lift (TpuEff.enqueueDma src (.here dst) (.dma sem) hs hd ht) >>= fun _ =>
            Prog.lift (TpuEff.waitDma2 sem src dst hs hd) >>= k) Q := by
  simp only [Prog.lift, Prog.bind_op, Prog.bind_ret, Prog.pure_eq_ret, bind_assoc]
  unfold ready
  have hmem : ((thr d i, SemLoc.dma sem) : GSem nD τ sig) ∈ ownCells (thr d i) := mem_ownCells.mpr ⟨rfl, hsem⟩
  have hsplit : (ownSems0 (thr d i) : sProp 𝕄) = iprop(semVal (thr d i, SemLoc.dma sem) 0
      ∗ bigSep ((ownCells (thr d i)).erase (thr d i, SemLoc.dma sem)) fun g => semVal g 0) := by
    unfold SparseCore.Cfg.ownSems0
    exact SparseCore.bigSep_erase' hmem
  rw [hsplit]
  iintro ⟨⟨#Hmw, ⟨Hv, Hsems⟩, %W', %hW', HO⟩, Hs, Hd, Hk⟩
  iapply (Transfers.wp_dmaLocal countersEmb 𝒱₀ (thr d i) none (none : HIx 1) _ rfl (View.amount_pos _ _ h0) (Finset.Subset.refl _)) $$ [Hs Hd Hv]
  · isplitl [Hs]; · iexact Hs
    isplitl [Hd]; · iexact Hd
    iexact Hv
  iintro Hf
  iapply (Transfers.wp_waitLocalO countersEmb 𝒱₀ (thr d i) none (none : HIx 1) rfl (O := O) (W := W')) $$ [Hf HO]
  · isplitl [Hf]; · iexact Hf
    isplitl [HO]; · iexact HO
    iapply (Transfers.MayWaits.elim (SemLoc.dma sem)) $$ Hmw
  iintro ⟨⟨Hd, Hs⟩, Hv, HO⟩
  iapply Hk
  isplitl [Hv Hsems HO]
  · isplitr; · iexact Hmw
    isplitl [Hv Hsems]
    · isplitl [Hv] <;> iassumption
    iexists (insert (SemLoc.dma sem, (none : HIx 1)) W')
    isplitr
    · ipureintro; intro p hp
      rcases Finset.mem_insert.mp hp with hp | hp
      · exact .inr (hp ▸ rfl)
      · exact hW' p hp
    · iexact HO
  isplitl [Hs] <;> iassumption

/-! ## The chunks of the flat arrays -/

/-- The flat rows, the flat indices and the flat result, as the kernel names them. -/
abbrev xH : Memref sig .scVector .hbm S16777216 .f32 := Memref.whole main_v11_scv
/-- The flat indices, whole. -/
abbrev iH : Memref sig .scVector .hbm S8388608 .i32 := Memref.whole main_v12_scv
/-- The flat result, whole. -/
abbrev oH : Memref sig .scVector .hbm S16777216 .f32 := Memref.whole main_v13_scv

/-- The same three arrays, as the TensorCore holds them. -/
abbrev xaLoc : Loc nD τ sig := (SparseCore.T d).loc main_v11
/-- Where the flat indices lie. -/
abbrev iaLoc : Loc nD τ sig := (SparseCore.T d).loc main_v12
/-- Where the flat result lies. -/
abbrev oaLoc : Loc nD τ sig := (SparseCore.T d).loc main_v13

/-- The flat rows are not empty. -/
theorem pos16777216 : 0 < 16777216 := by decide
/-- The flat indices are not empty. -/
theorem pos8388608 : 0 < 8388608 := by decide

/-- The number of the `n`-th chunk of the subcore at `i`, among all 512. -/
def number (i : grid0.Coords) (n : Fin 16) : ℕ := ((i 1).val * 2 + (i 0).val) * 16 + n.val

/-- There are 512 chunks. -/
theorem number_lt (i : grid0.Coords) (n : Fin 16) : number i n < 512 := by
  have h0 : (i 0).val < 2 := (i 0).isLt
  have h1 : (i 1).val < 16 := (i 1).isLt
  have := n.isLt
  unfold number; omega

omit [Facts] in
/-- A chunk's rows begin at its number times 32768. -/
theorem off1 : ∀ (i : grid0.Coords) (n : Fin 16), k0_off1 i (BitVec.ofNat 32 n.val) 0 = number i n * 32768 := by decide +kernel
omit [Facts] in
/-- A chunk's indices begin at its number times 16384. -/
theorem off2 : ∀ (i : grid0.Coords) (n : Fin 16), k0_off2 i (BitVec.ofNat 32 n.val) 0 = number i n * 16384 := by decide +kernel

/-- The positions of chunk `q`, of `w` elements. -/
def region {n : ℕ} (w q : ℕ) : Finset (Flat n).Idx := Finset.univ.filter fun y => q * w ≤ (y 0).val ∧ (y 0).val < q * w + w

/-- The positions of a chunk. -/
theorem mem_region {n w q : ℕ} {y : (Flat n).Idx} : y ∈ region w q ↔ q * w ≤ (y 0).val ∧ (y 0).val < q * w + w := by
  unfold region; rw [Finset.mem_filter]; exact and_iff_right (Finset.mem_univ y)

/-- A rectangle that begins at a chunk covers it. -/
theorem rect_region {n w q : ℕ} {off : Fin 1 → ℕ} {h : ∀ a, off a + (Flat w).size a ≤ (Flat n).size a} (ho : off 0 = q * w) :
    (Rect.unit (s := Flat n) off (Flat w).size h).set = region w q := by
  ext y
  rw [Rect.mem_set_unit, mem_region, ← ho]
  exact ⟨fun h => h 0, fun h a => by obtain rfl : a = 0 := Subsingleton.elim _ _; exact h⟩

/-- The rows that a copy in reads are its chunk's. -/
theorem rows_set (n : Fin 16) : (rows i xH n).view.set = region (n := 16777216) 32768 (number i n) :=
  (View.set_slice_whole _ _).trans (rect_region (off1 i n))
/-- The rows that a copy out writes are its chunk's. -/
theorem out_set (n : Fin 16) : (rows i oH n).view.set = region (n := 16777216) 32768 (number i n) :=
  (View.set_slice_whole _ _).trans (rect_region (off1 i n))
/-- The indices that a copy reads are its chunk's. -/
theorem idxs_set (n : Fin 16) : (idxs i iH n).view.set = region (n := 8388608) 16384 (number i n) :=
  (View.set_slice_whole _ _).trans (rect_region (off2 i n))

/-- A rectangle's place `l` in the whole array. -/
theorem rect_emb {n w q : ℕ} {off : Fin 1 → ℕ} {h : ∀ a, off a + (Flat w).size a ≤ (Flat n).size a} (ho : off 0 = q * w) (l : (Flat w).Idx) :
    ((Rect.unit (s := Flat n) off (Flat w).size h).emb l 0).val = q * w + (l 0).val := by
  rw [Rect.emb_apply, Rect.off_unit, Rect.stride_unit, ho, Nat.one_mul]

/-- What a chunk's copy in reads: the rows, and the indices. -/
theorem read_rows (X : S16777216.Idx → F .f32) (n : Fin 16) :
    ((rows i xH n).view.read (Elt F) (X : Buf (Elt F) ((rows i xH n).view.loc (thr d i))) : S32768.Idx → F .f32)
      = fun u => X (pos pos16777216 (number i n * 32768 + (u 0).val)) := by
  funext u
  refine ((View.read_apply _ _).trans (cast_eq _ _)).trans (congrArg X ?_)
  rw [← rect_emb (off1 i n) u]
  exact (pos_eq pos16777216 _).symm
/-- The indices that a copy reads, by value. -/
theorem read_idxs (I : S8388608.Idx → BitVec 32) (n : Fin 16) :
    ((idxs i iH n).view.read (Elt F) (I : Buf (Elt F) ((idxs i iH n).view.loc (thr d i))) : S16384.Idx → BitVec 32)
      = fun u => I (pos pos8388608 (number i n * 16384 + (u 0).val)) := by
  funext u
  refine ((View.read_apply _ _).trans (cast_eq _ _)).trans (congrArg I ?_)
  rw [← rect_emb (off2 i n) u]
  exact (pos_eq pos8388608 _).symm

/-- What a chunk's copy out leaves in its region. -/
theorem write_rows (f : S16777216.Idx → F .f32) (w : S32768.Idx → F .f32) (n : Fin 16) (G : S16777216.Idx → F .f32)
    (hG : ∀ (l : S32768.Idx) (y : S16777216.Idx), (y 0).val = number i n * 32768 + (l 0).val → w l = G y) :
    ∀ y ∈ region (n := 16777216) 32768 (number i n),
      ((rows i oH n).view.write (Elt F) (f : Buf (Elt F) ((rows i oH n).view.loc (thr d i))) w Finset.univ : S16777216.Idx → F .f32) y = G y := by
  intro y hy
  obtain ⟨h1, h2⟩ := mem_region.mp hy
  have hl := pos_val pos32768 (show (y 0).val - number i n * 32768 < 32768 by omega)
  have he := rect_emb (h := k0_off1_inb i n) (off1 i n) (pos pos32768 ((y 0).val - number i n * 32768))
  have hy' : (rows i oH n).view.emb (pos pos32768 ((y 0).val - number i n * 32768)) = y :=
    Shape.idx1_ext (he.trans (by rw [hl]; omega))
  rw [← hG (pos pos32768 ((y 0).val - number i n * 32768)) y (by rw [hl]; omega)]
  exact (congrArg _ hy'.symm).trans ((View.write_emb_of_mem (v := (rows i oH n).view) _ _ (Finset.mem_univ _)).trans (cast_eq _ _))

/-- A chunk's part of the three arrays: rows, indices, result. -/
def parts (X : S16777216.Idx → F .f32) (I : S8388608.Idx → BitVec 32) (Y : S16777216.Idx → F .f32) (q : ℕ) : sProp 𝕄 :=
  iprop((xaLoc d ↦[region (n := 16777216) 32768 q]{fullShare} (X : Buf (Elt F) (xaLoc d)))
    ∗ (iaLoc d ↦[region (n := 8388608) 16384 q]{fullShare} (I : Buf (Elt F) (iaLoc d)))
    ∗ (oaLoc d ↦[region (n := 16777216) 32768 q]{fullShare} (Y : Buf (Elt F) (oaLoc d))))

/-- The subcore's memory as a copy's end, and what a copy leaves there. -/
theorem pts_x (f : S32768.Idx → F .f32) :
    ((xW).view.loc (thr d i) ↦[(xW).view.set]{fullShare} (f : Buf (Elt F) (xLoc d i)) : sProp 𝕄) = xLoc d i ↦{fullShare} (f : Buf (Elt F) (xLoc d i)) := by
  simp only [Memref.view_whole, View.set_whole]
/-- The index buffer, as its location and as its view. -/
theorem pts_i (f : S16384.Idx → BitVec 32) :
    ((iW).view.loc (thr d i) ↦[(iW).view.set]{fullShare} (f : Buf (Elt F) (iLoc d i)) : sProp 𝕄) = iLoc d i ↦{fullShare} (f : Buf (Elt F) (iLoc d i)) := by
  simp only [Memref.view_whole, View.set_whole]
/-- A copy in overwrites the whole row buffer. -/
theorem in_x (f w : S32768.Idx → F .f32) :
    ((xW).view.write (Elt F) (f : Buf (Elt F) (xLoc d i)) w Finset.univ : S32768.Idx → F .f32) = w := View.write_whole_univ _ _ _
/-- A copy in overwrites the whole index buffer. -/
theorem in_i (f w : S16384.Idx → BitVec 32) :
    ((iW).view.write (Elt F) (f : Buf (Elt F) (iLoc d i)) w Finset.univ : S16384.Idx → BitVec 32) = w := View.write_whole_univ _ _ _

/-- A chunk's run: its part of the result becomes what the permutation of all rows has there. -/
theorem chunk_then {O : CellTallies nD τ sig (HIx 1)} {W : Waits sig (HIx 1)}
    (X : S16777216.Idx → F .f32) (I : S8388608.Idx → BitVec 32) (Y : S16777216.Idx → F .f32)
    (hI : ∀ z, 128 ≤ (I z).toNat ∧ (I z).toNat < 256) (n : Fin 16) (s₀ s₁ s₂ : DmaSems sig S_)
    (h₀ : (SemLoc.dma s₀.sem : SemLoc sig).isScoped .scVector = true)
    (h₁ : (SemLoc.dma s₁.sem : SemLoc sig).isScoped .scVector = true)
    (h₂ : (SemLoc.dma s₂.sem : SemLoc sig).isScoped .scVector = true)
    {hx : (xW).IsWhole} {hix : (iW).IsWhole} {α : Type} {k : PUnit → TileProg (F := F) i α} {Q : α → sProp 𝕄} :
    iprop(ready (F := F) d i O W ∗ (∃ f g, memAt d i f g) ∗ parts d X I Y (number i n)
        ∗ ((ready (F := F) d i O W ∗ (∃ f g, memAt d i f g) ∗ parts d X I (permuted pos16777216 pos8388608 X I) (number i n))
          -∗ wp frame (wpE (defs₀ (F := F)) 𝒱₀ (thr d i) none) Set.univ (k ⟨⟩) Q))
      ⊢ wp frame (wpE (defs₀ (F := F)) 𝒱₀ (thr d i) none) Set.univ
          (chunk i xW iW hx hix xH iH oH n s₀ s₁ s₂ >>= k) Q := by
  have hq := number_lt i n
  unfold chunk parts memAt
  rw [bind_assoc]
  simp only [bind_assoc]
  iintro ⟨Hr, ⟨%f, %g, Hm, Hn⟩, ⟨HX, HI, HY⟩, Hk⟩
  iapply (copy_then d i (rows i xH n) xW s₀.sem h₀ (show 0 < S32768.numel by decide)) $$ [Hr HX Hm HI HY Hn Hk]
  rw [rows_set]
  isplitl [Hr]; · iexact Hr
  isplitl [HX]; · iexact HX
  isplitl [Hm]
  · simp only [Memref.view_whole, View.set_whole]; iexact Hm
  iintro ⟨Hr, HX, Hm⟩
  iapply (copy_then d i (idxs i iH n) iW s₁.sem h₁ (show 0 < S16384.numel by decide)) $$ [Hr HX Hm HI HY Hn Hk]
  rw [idxs_set]
  isplitl [Hr]; · iexact Hr
  isplitl [HI]; · iexact HI
  isplitl [Hn]
  · simp only [Memref.view_whole, View.set_whole]; iexact Hn
  iintro ⟨Hr, HI, Hn⟩
  iapply (rows_then d i (fun u => X (pos pos16777216 (number i n * 32768 + (u 0).val)))
    (fun z => I (pos pos8388608 (number i n * 16384 + (z 0).val))) (fun z => hI _)) $$ [Hr HX Hm HI HY Hn Hk]
  isplitl [Hm Hn]
  · unfold memAt
    isplitl [Hm]
    · iapply (Entails.of_eq ((pts_x d i _).trans (congrArg (fun v : S32768.Idx → F .f32 => (xLoc d i ↦{fullShare} (v : Buf (Elt F) (xLoc d i)) : sProp 𝕄))
        ((in_x f _).trans (read_rows i X n)))))
      iexact Hm
    · iapply (Entails.of_eq ((pts_i d i _).trans (congrArg (fun v : S16384.Idx → BitVec 32 => (iLoc d i ↦{fullShare} (v : Buf (Elt F) (iLoc d i)) : sProp 𝕄))
        ((in_i (F := F) g _).trans (read_idxs (F := F) i I n)))))
      iexact Hn
  unfold memAt
  iintro ⟨Hm, Hn⟩
  iapply (copy_then d i xW (rows i oH n) s₂.sem h₂ (show 0 < S32768.numel by decide)) $$ [Hr HX Hm HI HY Hn Hk]
  rw [out_set, pts_x]
  isplitl [Hr]; · iexact Hr
  isplitl [Hm]; · iexact Hm
  isplitl [HY]; · iexact HY
  iintro ⟨Hr, Hm, HY⟩
  iapply Hk
  isplitl [Hr]; · iexact Hr
  isplitl [Hm Hn]
  · iexists _; iexists _
    isplitl [Hm] <;> iassumption
  isplitl [HX]; · iexact HX
  isplitl [HI]; · iexact HI
  iapply (Entails.of_eq (pointsTo_congr (write_rows i Y _ n (permuted pos16777216 pos8388608 X I) fun l y hy =>
    permuted_chunk pos16777216 pos8388608 X I pos32768 pos16384 (number i n) 128 rfl rfl (by omega) (fun z => (hI z).2) l y hy)))
  iexact HY

end Cert.KernelIdeal.Tile

end
-- ==== Proof.KernelIdealTile.lean ====
/-
  A subcore's whole run: its sixteen chunks, one after the other.
-/
module

public import proofs.«01_k».proof.Proof.KernelIdealChunk

@[expose] public section

set_option maxRecDepth 4000

noncomputable section

namespace Cert.KernelIdeal.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Rows
open Facts₀ Facts

variable {F : FTy → Type} [FloatOps F] [Facts]

local notation "𝕄" => MT nD τ sig (HIx 1) (Elt F) ℕ UU ℕ

variable (d : Dev nD) (i : grid0.Coords)

/-- The sixteen chunks of a subcore when the first `k` of them are done. -/
def upTo (X : S16777216.Idx → F .f32) (I : S8388608.Idx → BitVec 32) (Y : S16777216.Idx → F .f32) (k : ℕ) : sProp 𝕄 :=
  bigSep Finset.univ fun n : Fin 16 =>
    parts d X I (if n.val < k then permuted pos16777216 pos8388608 X I else Y) (number i n)

/-- What a subcore holds between chunks. -/
def between (O : CellTallies nD τ sig (HIx 1)) (W : Waits sig (HIx 1)) (X : S16777216.Idx → F .f32) (I : S8388608.Idx → BitVec 32)
    (Y : S16777216.Idx → F .f32) (k : ℕ) : sProp 𝕄 :=
  iprop(ready (F := F) d i O W ∗ (∃ f g, memAt d i f g) ∗ upTo d i X I Y k)

/-- One chunk takes the subcore a chunk further. -/
theorem chunk_step {O : CellTallies nD τ sig (HIx 1)} {W : Waits sig (HIx 1)}
    {X : S16777216.Idx → F .f32} {I : S8388608.Idx → BitVec 32} {Y : S16777216.Idx → F .f32}
    (hI : ∀ z, 128 ≤ (I z).toNat ∧ (I z).toNat < 256) (n : Fin 16) {s₀ s₁ s₂ : DmaSems sig S_}
    (h₀ : (SemLoc.dma s₀.sem : SemLoc sig).isScoped .scVector = true)
    (h₁ : (SemLoc.dma s₁.sem : SemLoc sig).isScoped .scVector = true)
    (h₂ : (SemLoc.dma s₂.sem : SemLoc sig).isScoped .scVector = true)
    {hx : (xW).IsWhole} {hix : (iW).IsWhole} {α : Type} {k : PUnit → TileProg (F := F) i α} {Q : α → sProp 𝕄}
    (hk : between d i O W X I Y (n.val + 1) ⊢ wp frame (wpE (defs₀ (F := F)) 𝒱₀ (thr d i) none) Set.univ (k ⟨⟩) Q) :
    between d i O W X I Y n.val
      ⊢ wp frame (wpE (defs₀ (F := F)) 𝒱₀ (thr d i) none) Set.univ
          (chunk i xW iW hx hix xH iH oH n s₀ s₁ s₂ >>= k) Q := by
  have e : (upTo d i X I Y n.val : sProp 𝕄) = iprop(parts d X I Y (number i n)
      ∗ bigSep (Finset.univ.erase n) fun n' : Fin 16 =>
        parts d X I (if n'.val < n.val then permuted pos16777216 pos8388608 X I else Y) (number i n')) := by
    unfold upTo
    rw [SparseCore.bigSep_erase' (Finset.mem_univ n), if_neg (Nat.lt_irrefl _)]
  have e' : (upTo d i X I Y (n.val + 1) : sProp 𝕄) = iprop(parts d X I (permuted pos16777216 pos8388608 X I) (number i n)
      ∗ bigSep (Finset.univ.erase n) fun n' : Fin 16 =>
        parts d X I (if n'.val < n.val then permuted pos16777216 pos8388608 X I else Y) (number i n')) := by
    unfold upTo
    rw [SparseCore.bigSep_erase' (Finset.mem_univ n), if_pos (Nat.lt_succ_self _)]
    refine congrArg (fun z => iprop(_ ∗ z)) (bigSep_congr fun n' hn' => ?_)
    have hne : n'.val ≠ n.val := fun h => (Finset.mem_erase.mp hn').1 (Fin.ext h)
    rw [if_congr (show n'.val < n.val + 1 ↔ n'.val < n.val by omega) rfl rfl]
  unfold between at hk ⊢
  rw [e]
  rw [e'] at hk
  iintro ⟨Hr, Hm, Hp, Hrest⟩
  iapply (chunk_then d i X I Y hI n s₀ s₁ s₂ h₀ h₁ h₂) $$ [Hr Hm Hp Hrest]
  isplitl [Hr]; · iexact Hr
  isplitl [Hm]; · iexact Hm
  isplitl [Hp]; · iexact Hp
  iintro ⟨Hr, Hm, Hp⟩
  iapply hk
  isplitl [Hr]; · iexact Hr
  isplitl [Hm]; · iexact Hm
  isplitl [Hp] <;> iassumption

/-- The body, from nothing done to all chunks done. -/
theorem body_wp {O : CellTallies nD τ sig (HIx 1)} {W : Waits sig (HIx 1)}
    {X : S16777216.Idx → F .f32} {I : S8388608.Idx → BitVec 32} {Y : S16777216.Idx → F .f32}
    (hI : ∀ z, 128 ≤ (I z).toNat ∧ (I z).toNat < 256) :
    between d i O W X I Y 0
      ⊢ wp frame (wpE (defs₀ (F := F)) 𝒱₀ (thr d i) none) Set.univ
          (cc0_k i xH (Memref.isWhole_whole _) iH (Memref.isWhole_whole _) oH (Memref.isWhole_whole _) xW (Memref.isWhole_whole _) iW (Memref.isWhole_whole _)
            cc0_scoped0 cc0_scoped1 cc0_scoped2 cc0_scoped3 cc0_scoped4 cc0_scoped5 cc0_scoped6 cc0_scoped7 cc0_scoped8 cc0_scoped9 cc0_scoped10 cc0_scoped11
            cc0_scoped12 cc0_scoped13 cc0_scoped14 cc0_scoped15 cc0_scoped16 cc0_scoped17 cc0_scoped18 cc0_scoped19 cc0_scoped20 cc0_scoped21 cc0_scoped22 cc0_scoped23
            cc0_scoped24 cc0_scoped25 cc0_scoped26 cc0_scoped27 cc0_scoped28 cc0_scoped29 cc0_scoped30 cc0_scoped31 cc0_scoped32 cc0_scoped33 cc0_scoped34 cc0_scoped35
            cc0_scoped36 cc0_scoped37 cc0_scoped38 cc0_scoped39 cc0_scoped40 cc0_scoped41 cc0_scoped42 cc0_scoped43 cc0_scoped44 cc0_scoped45 cc0_scoped46 cc0_scoped47)
          fun _ => between d i O W X I Y 16 := by
  rw [cc0_k_eq]
  refine chunk_step d i hI 0 rfl rfl rfl ?_
  refine chunk_step d i hI 1 rfl rfl rfl ?_
  refine chunk_step d i hI 2 rfl rfl rfl ?_
  refine chunk_step d i hI 3 rfl rfl rfl ?_
  refine chunk_step d i hI 4 rfl rfl rfl ?_
  refine chunk_step d i hI 5 rfl rfl rfl ?_
  refine chunk_step d i hI 6 rfl rfl rfl ?_
  refine chunk_step d i hI 7 rfl rfl rfl ?_
  refine chunk_step d i hI 8 rfl rfl rfl ?_
  refine chunk_step d i hI 9 rfl rfl rfl ?_
  refine chunk_step d i hI 10 rfl rfl rfl ?_
  refine chunk_step d i hI 11 rfl rfl rfl ?_
  refine chunk_step d i hI 12 rfl rfl rfl ?_
  refine chunk_step d i hI 13 rfl rfl rfl ?_
  refine chunk_step d i hI 14 rfl rfl rfl ?_
  rw [← bind_pure (chunk i xW iW _ _ xH iH oH 15 _ _ _)]
  refine chunk_step d i hI 15 rfl rfl rfl ?_
  rw [Prog.pure_eq_ret, wp_ret]
  iintro H
  imodintro
  iexact H

/-! ## A subcore's obligation -/

/-- The labels of the program's tasks. -/
abbrev ΛP : Labels := Pipeline.Sig Λ₀ (Fin 0) fun p => (pcfgs (F := F) p).Adm
/-- The program's SparseCore call. -/
abbrev K : SparseCore.Cfg τ sig (ΛP (F := F)) 1 := sc (F := F)
/-- The program's definitions. -/
abbrev D : Defs nD τ sig (Elt F) (ΛP (F := F)) := Pipeline.defs pcfgs defs₀
/-- The variants of its loops. -/
abbrev 𝒱 : Variants := 𝒱₀.lift
/-- The variant of the launch. -/
abbrev v₀ : 𝒱.V := Sum.inl none

/-- The call's layout facts. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The two memories are among the subcore's own buffers. -/
theorem ownBufs_split :
    (ownBufs (thr d i) : sProp 𝕄)
      = iprop((∃ f, xLoc d i ↦{fullShare} f) ∗ (∃ f, iLoc d i ↦{fullShare} f)
          ∗ bigSep (((ownRefs (τ := τ) (thr d i).2).erase ((thr d i).2.devRef cc0_scratch0)).erase ((thr d i).2.devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := (thr d i).2) (b := (thr d i).2.devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := (thr d i).2) (b := (thr d i).2.devRef cc0_scratch1) rfl⟩)]

/-- The regions of the subcore `s` of the SparseCore `c`: rows, indices, and the result at `Y`. -/
def tile (X : S16777216.Idx → F .f32) (I : S8388608.Idx → BitVec 32) (Y : S16777216.Idx → F .f32) (c s : ℕ) : sProp 𝕄 :=
  bigSep Finset.univ fun n : Fin 16 => parts d X I Y ((s * 2 + c) * 16 + n.val)

/-- A subcore's run: its regions in, its regions out, the result's at the permutation of all rows. -/
theorem tile_body {X : S16777216.Idx → F .f32} {I : S8388608.Idx → BitVec 32} {Y : S16777216.Idx → F .f32}
    (hI : ∀ z, 128 ≤ (I z).toNat ∧ (I z).toNat < 256) (O : CellTallies nD τ sig (HIx 1)) (W : Waits sig (HIx 1)) (hO : ∀ g, O g none = 0) :
    iprop(levAts (K (F := F)).L (K (F := F)).lev ∗ emp ∗ tile d X I Y (i 0).val (i 1).val
        ∗ scopedBufs (thr d i) ∗ scopedSems0 (thr d i) ∗ owes (thr d i) O W)
      ⊢ wp frame (wpE (defs₀ (F := F)) 𝒱₀ (thr d i) none) Set.univ
          (cc0_k i xH (Memref.isWhole_whole _) iH (Memref.isWhole_whole _) oH (Memref.isWhole_whole _) xW (Memref.isWhole_whole _) iW (Memref.isWhole_whole _)
            cc0_scoped0 cc0_scoped1 cc0_scoped2 cc0_scoped3 cc0_scoped4 cc0_scoped5 cc0_scoped6 cc0_scoped7 cc0_scoped8 cc0_scoped9 cc0_scoped10 cc0_scoped11
            cc0_scoped12 cc0_scoped13 cc0_scoped14 cc0_scoped15 cc0_scoped16 cc0_scoped17 cc0_scoped18 cc0_scoped19 cc0_scoped20 cc0_scoped21 cc0_scoped22 cc0_scoped23
            cc0_scoped24 cc0_scoped25 cc0_scoped26 cc0_scoped27 cc0_scoped28 cc0_scoped29 cc0_scoped30 cc0_scoped31 cc0_scoped32 cc0_scoped33 cc0_scoped34 cc0_scoped35
            cc0_scoped36 cc0_scoped37 cc0_scoped38 cc0_scoped39 cc0_scoped40 cc0_scoped41 cc0_scoped42 cc0_scoped43 cc0_scoped44 cc0_scoped45 cc0_scoped46 cc0_scoped47)
          fun _ => iprop(tile d X I (permuted pos16777216 pos8388608 X I) (i 0).val (i 1).val ∗ scopedBufs (thr d i) ∗ scopedSems0 (thr d i)
            ∗ ∃ W', ⌜∀ p ∈ W', p ∈ W ∨ p.2 = none⌝ ∗ owes (thr d i) O W') := by
  rw [(K (F := F)).scopedBufs_V facts d _ _, SparseCore.Cfg.scopedSems0_V (Val := Elt F) d _ _, ownBufs_split]
  have h0 : (upTo d i X I Y 0 : sProp 𝕄) = tile d X I Y (i 0).val (i 1).val := by
    unfold upTo tile number
    exact bigSep_congr fun n _ => by rw [if_neg (Nat.not_lt_zero _)]
  have h16 : (upTo d i X I Y 16 : sProp 𝕄) = tile d X I (permuted pos16777216 pos8388608 X I) (i 0).val (i 1).val := by
    unfold upTo tile number
    exact bigSep_congr fun n _ => by rw [if_pos n.isLt]
  iintro ⟨#Hlv, -, Ht, ⟨⟨%f, Hx⟩, ⟨%g, Hi⟩, Hbufs⟩, Hsems, HO⟩
  ihave Hmw := ((K (F := F)).mayWaits_none (thr := thr d i) hO) $$ Hlv
  iapply (wp_wand frame (wpE (defs₀ (F := F)) 𝒱₀ (thr d i) none) Set.univ) $$ [Hmw Ht Hx Hi Hsems HO]
  · iapply (body_wp d i (O := O) (W := W) (Y := Y) hI)
    unfold between ready memAt
    rw [h0]
    isplitl [Hmw Hsems HO]
    · isplitl [Hmw]; · iexact Hmw
      isplitl [Hsems]; · iexact Hsems
      iexists W; isplitr
      · ipureintro; exact fun p hp => .inl hp
      · iexact HO
    isplitl [Hx Hi]
    · iexists f; iexists g
      isplitl [Hx] <;> iassumption
    iexact Ht
  iintro %_ H
  unfold between ready memAt
  rw [h16]
  icases H with ⟨⟨-, Hsems, HO⟩, ⟨%f', %g', Hx, Hi⟩, Ht⟩
  isplitl [Ht]; · iexact Ht
  isplitl [Hx Hi Hbufs]
  · isplitl [Hx]; · iexists f'; iexact Hx
    isplitl [Hi]; · iexists g'; iexact Hi
    iexact Hbufs
  isplitl [Hsems]; · iexact Hsems
  iexact HO

end Cert.KernelIdeal.Tile

end
-- ==== Proof.KernelIdealHost.lean ====
/-
  The kernel's `main` up to the SparseCore launch, as one line of host operations: the random numbers, their
  argsort, the shift by 128 and the two flat views. The line of each function is read off the printed body.
-/
module

public import proofs.«01_k».proof.KernelIdeal
public import proofs.«01_k».proof.Proof.Host

@[expose] public section

set_option maxRecDepth 4000

noncomputable section

namespace Cert.KernelIdeal.Host

open Idealize.ShloMosaic Idealize.ShloMosaic.StableHlo Idealize.SL.Sem Cert.Proof.Host

open Facts₀

variable {F : FTy → Type} [FloatOps F] [Facts]

/-- The line of the first part of @threefry2x32. -/
def threefry0 (a b : TRef sig ⟨S_, .i32⟩) (u v : TRef sig ⟨S16x4096x128, .i32⟩) (φ : fn_threefry2x32.Bufs) :
    { l // Begins (fn_threefry2x32.body_part0 (F := F) a b u v φ) l (pure ⟨⟩) } := by
  apply Subtype.mk
  unfold fn_threefry2x32.body_part0
  repeat (first | exact Begins.stop | exact Begins.lastOp | apply Begins.op)

/-- The line of the second part. -/
def threefry1 (a b : TRef sig ⟨S_, .i32⟩) (u v : TRef sig ⟨S16x4096x128, .i32⟩) (φ : fn_threefry2x32.Bufs) :
    { l // Begins (fn_threefry2x32.body_part1 (F := F) a b u v φ) l (pure ⟨⟩) } := by
  apply Subtype.mk
  unfold fn_threefry2x32.body_part1
  repeat (first | exact Begins.stop | exact Begins.lastOp | apply Begins.op)

/-- The line of the third part. -/
def threefry2 (a b : TRef sig ⟨S_, .i32⟩) (u v : TRef sig ⟨S16x4096x128, .i32⟩) (φ : fn_threefry2x32.Bufs) :
    { l // Begins (fn_threefry2x32.body_part2 (F := F) a b u v φ) l (pure ⟨⟩) } := by
  apply Subtype.mk
  unfold fn_threefry2x32.body_part2
  repeat (first | exact Begins.stop | exact Begins.lastOp | apply Begins.op)

/-- The line of the last part. -/
def threefry3 (a b : TRef sig ⟨S_, .i32⟩) (u v : TRef sig ⟨S16x4096x128, .i32⟩) (φ : fn_threefry2x32.Bufs) :
    { l // Begins (fn_threefry2x32.body_part3 (F := F) a b u v φ) l (pure ⟨⟩) } := by
  apply Subtype.mk
  unfold fn_threefry2x32.body_part3
  repeat (first | exact Begins.stop | exact Begins.lastOp | apply Begins.op)

/-- The line of @threefry2x32: its four parts'. -/
def threefry (a b : TRef sig ⟨S_, .i32⟩) (u v : TRef sig ⟨S16x4096x128, .i32⟩) (φ : fn_threefry2x32.Bufs) :
    { l // Begins (fn_threefry2x32.body (F := F) a b u v φ) l (pure ⟨⟩) } :=
  ⟨(threefry0 a b u v φ).1 ++ ((threefry1 a b u v φ).1 ++ ((threefry2 a b u v φ).1 ++ (threefry3 a b u v φ).1)),
    .line (threefry0 a b u v φ).2.isSeq (.line (threefry1 a b u v φ).2.isSeq
      (.line (threefry2 a b u v φ).2.isSeq (threefry3 a b u v φ).2))⟩

/-- The line of @_uniform. -/
def uniform (a : TRef sig ⟨S2, .i32⟩) (u v : TRef sig ⟨S_, .f32⟩) (φ : fn_uniform.Bufs) :
    { l // Begins (fn_uniform.body (F := F) a u v φ) l (pure ⟨⟩) } := by
  apply Subtype.mk
  unfold fn_uniform.body
  repeat (first | exact Begins.stop | exact Begins.lastOp | apply Begins.op | apply Begins.line (threefry _ _ _ _ _).2.isSeq)

/-- The line of @argsort. -/
def argsort (a : TRef sig ⟨S16x4096x128, .f32⟩) (φ : fn_argsort.Bufs) :
    { l // Begins (fn_argsort.body (F := F) a φ) l (pure ⟨⟩) } := by
  apply Subtype.mk
  unfold fn_argsort.body
  repeat (first | exact Begins.stop | exact Begins.lastOp | apply Begins.op)

/-- `main`'s first operations: the key. -/
def keyOps : List (HloOp τ sig (Elt F)) :=
  [TRef.nullary (.of main_c) (constantI S_ 32 1234#32),
   TRef.nullary (.of main_c_0) (constantI S_ 32 32#32),
   TRef.binary (.of main_c) (.of main_c_0) (.of main_v0) Host.shrui,
   TRef.unary (.of main_v0) (.of main_v1) id,
   TRef.unary (.of main_v1) (.of main_v2) (broadcastInDim S1 ![] bcast_S_S1),
   TRef.nullary (.of main_c_1) (constantI S_ 32 4294967295#32),
   TRef.binary (.of main_c) (.of main_c_1) (.of main_v3) andi,
   TRef.unary (.of main_v3) (.of main_v4) id,
   TRef.unary (.of main_v4) (.of main_v5) (broadcastInDim S1 ![] bcast_S_S1),
   TRef.binary (.of main_v2) (.of main_v5) (.of main_v6) (fun a b => concatenate S2 0 [⟨S1, a⟩, ⟨S1, b⟩] concatenates_S1_S1_S2_d0),
   TRef.nullary (.of main_cst) (constant S_ .f32 0x00000000#32),
   TRef.nullary (.of main_cst_2) (constant S_ .f32 0x3F800000#32)]

/-- The operations that follow the argsort: the shift by 128. -/
def shiftOps : List (HloOp τ sig (Elt F)) :=
  [TRef.nullary (.of main_c_3) (constantI S_ 32 128#32),
   TRef.unary (.of main_c_3) (.of main_v9) (broadcastInDim S16x4096x128 ![] bcast_S_S16x4096x128),
   TRef.binary (.of main_v8) (.of main_v9) (.of main_v10) addi]

/-- The flat views the kernel reads. -/
def flatOps : List (HloOp τ sig (Elt F)) :=
  [TRef.reshape (.of main_arg0 : TRef sig ⟨S16x4096x256, .f32⟩) (.of main_v11 : TRef sig ⟨S16777216, .f32⟩) rfl shapeCasts_S16x4096x256_S16777216,
   TRef.reshape (.of main_v10 : TRef sig ⟨S16x4096x128, .i32⟩) (.of main_v12 : TRef sig ⟨S8388608, .i32⟩) rfl shapeCasts_S16x4096x128_S8388608]

/-- What follows the launch: the result's shape. -/
def lastOps : List (HloOp τ sig (Elt F)) :=
  [TRef.reshape (.of main_v13 : TRef sig ⟨S16777216, .f32⟩) (.of main_v14 : TRef sig ⟨S16x4096x256, .f32⟩) rfl shapeCasts_S16777216_S16x4096x256]

/-- `main`'s line up to the launch. -/
def beforeOps : List (HloOp τ sig (Elt F)) :=
  keyOps ++ ((uniform (.of main_v6) (.of main_cst) (.of main_cst_2) main_call0).1 ++
    ((argsort (.of main_v7) main_call1).1 ++ (shiftOps ++ flatOps)))

/-- `main` is that line, the launch, and the last reshape. -/
theorem main_eq (d : Dev nD) :
    Begins (main (F := F) d) beforeOps (sc.run d 0 >>= fun _ => seq lastOps) := by
  unfold main beforeOps keyOps
  simp only [List.cons_append, List.nil_append]
  iterate 12 apply Begins.op
  apply Begins.line (uniform _ _ _ _).2.isSeq
  apply Begins.line (argsort _ _).2.isSeq
  unfold shiftOps flatOps
  simp only [List.cons_append, List.nil_append]
  iterate 5 apply Begins.op
  exact Begins.stop

/-- The first part's operations go upwards through the buffers. -/
theorem threefry0_ordered : Ordered (rank main_call0.v22.ref + 1) (threefry0 (F := F) main_call0.v5 main_call0.v7 main_call0.v22 main_call0.v21 main_call0.call0).1
    (rank main_call0.call0.v47.ref + 1) := by
  repeat (first
    | exact Ordered.nil
    | refine Ordered.nullary (by decide) ?_
    | refine Ordered.unary (by decide) (by decide) ?_
    | refine Ordered.binary (by decide) (by decide) (by decide) ?_
    | refine Ordered.reshape (by decide) (by decide) ?_)

/-- The second part's operations go upwards through the buffers. -/
theorem threefry1_ordered : Ordered (rank main_call0.call0.v47.ref + 1) (threefry1 (F := F) main_call0.v5 main_call0.v7 main_call0.v22 main_call0.v21 main_call0.call0).1
    (rank main_call0.call0.v94.ref + 1) := by
  repeat (first
    | exact Ordered.nil
    | refine Ordered.nullary (by decide) ?_
    | refine Ordered.unary (by decide) (by decide) ?_
    | refine Ordered.binary (by decide) (by decide) (by decide) ?_
    | refine Ordered.reshape (by decide) (by decide) ?_)

/-- The third part's operations go upwards through the buffers. -/
theorem threefry2_ordered : Ordered (rank main_call0.call0.v94.ref + 1) (threefry2 (F := F) main_call0.v5 main_call0.v7 main_call0.v22 main_call0.v21 main_call0.call0).1
    (rank main_call0.call0.v142.ref + 1) := by
  repeat (first
    | exact Ordered.nil
    | refine Ordered.nullary (by decide) ?_
    | refine Ordered.unary (by decide) (by decide) ?_
    | refine Ordered.binary (by decide) (by decide) (by decide) ?_
    | refine Ordered.reshape (by decide) (by decide) ?_)

/-- The last part's operations go upwards through the buffers. -/
theorem threefry3_ordered : Ordered (rank main_call0.call0.v142.ref + 1) (threefry3 (F := F) main_call0.v5 main_call0.v7 main_call0.v22 main_call0.v21 main_call0.call0).1
    (rank main_call0.call0.v175.ref + 1) := by
  repeat (first
    | exact Ordered.nil
    | refine Ordered.nullary (by decide) ?_
    | refine Ordered.unary (by decide) (by decide) ?_
    | refine Ordered.binary (by decide) (by decide) (by decide) ?_
    | refine Ordered.reshape (by decide) (by decide) ?_)

/-- @threefry2x32's operations go upwards. -/
theorem threefry_ordered : Ordered (rank main_call0.v22.ref + 1) (threefry (F := F) main_call0.v5 main_call0.v7 main_call0.v22 main_call0.v21 main_call0.call0).1
    (rank main_call0.call0.v175.ref + 1) :=
  threefry0_ordered.append (threefry1_ordered.append (threefry2_ordered.append threefry3_ordered))

/-- @_uniform's operations go upwards. -/
theorem uniform_ordered : Ordered (rank main_cst_2 + 1)
    (uniform (F := F) (.of main_v6) (.of main_cst) (.of main_cst_2) main_call0).1 (rank main_v7 + 1) := by
  iterate 27 (first
    | refine Ordered.nullary (by decide) ?_
    | refine Ordered.unary (by decide) (by decide) ?_
    | refine Ordered.binary (by decide) (by decide) (by decide) ?_
    | refine Ordered.reshape (by decide) (by decide) ?_)
  refine threefry_ordered.append ?_
  repeat (first
    | exact Ordered.nil
    | refine Ordered.nullary (by decide) ?_
    | refine Ordered.unary (by decide) (by decide) ?_
    | refine Ordered.binary (by decide) (by decide) (by decide) ?_
    | refine Ordered.reshape (by decide) (by decide) ?_)

/-- @argsort's operations go upwards. -/
theorem argsort_ordered : Ordered (rank main_v7 + 1) (argsort (F := F) (.of main_v7) main_call1).1 (rank main_v8 + 1) := by
  repeat (first
    | exact Ordered.nil
    | refine Ordered.nullary (by decide) ?_
    | refine Ordered.unary (by decide) (by decide) ?_
    | refine Ordered.binary (by decide) (by decide) (by decide) ?_
    | refine Ordered.reshape (by decide) (by decide) ?_)

/-- The key's operations go upwards. -/
theorem key_ordered : Ordered 1 (keyOps (F := F)) (rank main_cst_2 + 1) := by
  repeat (first
    | exact Ordered.nil
    | refine Ordered.nullary (by decide) ?_
    | refine Ordered.unary (by decide) (by decide) ?_
    | refine Ordered.binary (by decide) (by decide) (by decide) ?_
    | refine Ordered.reshape (by decide) (by decide) ?_)

/-- The shift's operations go upwards. -/
theorem shift_ordered : Ordered (rank main_v8 + 1) (shiftOps (F := F)) (rank main_v10 + 1) := by
  repeat (first
    | exact Ordered.nil
    | refine Ordered.nullary (by decide) ?_
    | refine Ordered.unary (by decide) (by decide) ?_
    | refine Ordered.binary (by decide) (by decide) (by decide) ?_
    | refine Ordered.reshape (by decide) (by decide) ?_)

/-- The flat views' operations go upwards. -/
theorem flat_ordered : Ordered (rank main_v10 + 1) (flatOps (F := F)) (rank main_v12 + 1) := by
  repeat (first
    | exact Ordered.nil
    | refine Ordered.nullary (by decide) ?_
    | refine Ordered.unary (by decide) (by decide) ?_
    | refine Ordered.binary (by decide) (by decide) (by decide) ?_
    | refine Ordered.reshape (by decide) (by decide) ?_)

/-- `main`'s line up to the launch goes upwards: every buffer is written once, from buffers written before. -/
theorem before_ordered : Ordered 1 (beforeOps (F := F)) (rank main_v12 + 1) :=
  key_ordered.append (uniform_ordered.append (argsort_ordered.append (shift_ordered.append flat_ordered)))

end Cert.KernelIdeal.Host

end
-- ==== Proof.KernelIdealIndex.lean ====
/-
  What the line before the launch leaves: the flat rows are the argument's, the flat indices the argsort's
  shifted by 128, and every flat index lies between 128 and 255.
-/
module

public import proofs.«01_k».proof.Proof.KernelIdealHost
public import Idealize.ShloMosaic.Lib.SortFacts

@[expose] public section

set_option maxRecDepth 4000

noncomputable section

namespace Cert.KernelIdeal.Host

open Idealize.ShloMosaic Idealize.ShloMosaic.StableHlo Idealize.SL.Sem Cert.Proof.Host

open Facts₀

variable {F : FTy → Type} [FloatOps F] [Facts]

/-- A sort's carried operand takes values of that operand. -/
theorem sort2_carried (s : Shape) (k : Nat) {α β : Type} (cmp : α × β → α × β → BitVec 1) (x : s.Idx → α) (y : s.Idx → β) (j : s.Idx) :
    ∃ j', (Idealize.ShloMosaic.Host.sort2 s k cmp x y).2 j = y j' := by
  unfold Idealize.ShloMosaic.Host.sort2
  split
  · exact ⟨_, rfl⟩
  · exact ⟨j, rfl⟩

/-- The shift keeps a number below 128 apart from the first 128. -/
theorem shift_range (v : ℕ) (h : v < 128) : 128 ≤ (IntOp.addi (BitVec.ofNat 32 v) 128#32).toNat ∧ (IntOp.addi (BitVec.ofNat 32 v) 128#32).toNat < 256 := by
  have e : (IntOp.addi (BitVec.ofNat 32 v) 128#32).toNat = v + 128 := by
    unfold IntOp.addi
    rw [BitVec.toNat_add, BitVec.toNat_ofNat, BitVec.toNat_ofNat]
    omega
  omega

variable {W : Valuation τ sig (Elt F)}

/-- The shifted argsort lies between 128 and 255. -/
theorem shifted_range (ha : Solves W (argsort (F := F) (.of main_v7) main_call1).1) (hs : Solves W (shiftOps (F := F))) (j : S16x4096x128.Idx) :
    128 ≤ ((val W (.of main_v10 : TRef sig ⟨S16x4096x128, .i32⟩) : S16x4096x128.Idx → BitVec 32) j).toNat
      ∧ ((val W (.of main_v10 : TRef sig ⟨S16x4096x128, .i32⟩) : S16x4096x128.Idx → BitVec 32) j).toNat < 256 := by
  have e0 := val_nullary (W := W) ha.head
  have e1 := val_binary (W := W) ha.tail.tail.head
  have e2 := val_nullary (W := W) hs.head
  have e3 := val_unary (W := W) hs.tail.head
  have e4 := val_binary (W := W) hs.tail.tail.head
  rw [e4, e3, e2]
  obtain ⟨j', hj'⟩ := sort2_carried S16x4096x128 2 (comparator_f32_i32_d2 (F := F)) (val W (.of main_v7 : TRef sig ⟨S16x4096x128, .f32⟩)) (iotaInDim S16x4096x128 32 2) j
  have e5 : (val W (.of main_v8 : TRef sig ⟨S16x4096x128, .i32⟩) : S16x4096x128.Idx → BitVec 32) j = iotaInDim S16x4096x128 32 2 j' := by
    rw [← hj', ← e0]; exact congrFun e1 j
  show 128 ≤ (IntOp.addi ((val W (.of main_v8 : TRef sig ⟨S16x4096x128, .i32⟩) : S16x4096x128.Idx → BitVec 32) j) 128#32).toNat
    ∧ (IntOp.addi ((val W (.of main_v8 : TRef sig ⟨S16x4096x128, .i32⟩) : S16x4096x128.Idx → BitVec 32) j) 128#32).toNat < 256
  rw [e5]
  exact shift_range (j' 2).val (j' 2).isLt

/-- The flat rows are the argument's. -/
theorem flat_rows (hf : Solves W (flatOps (F := F))) :
    (val W (.of main_v11 : TRef sig ⟨S16777216, .f32⟩) : S16777216.Idx → F .f32)
      = shapeCast S16777216 (val W (.of main_arg0 : TRef sig ⟨S16x4096x256, .f32⟩)) shapeCasts_S16x4096x256_S16777216 :=
  val_reshape (W := W) hf.head

/-- The flat indices are the shifted argsort's. -/
theorem flat_idxs (hf : Solves W (flatOps (F := F))) :
    (val W (.of main_v12 : TRef sig ⟨S8388608, .i32⟩) : S8388608.Idx → BitVec 32)
      = shapeCast S8388608 (val W (.of main_v10 : TRef sig ⟨S16x4096x128, .i32⟩)) shapeCasts_S16x4096x128_S8388608 :=
  val_reshape (W := W) hf.tail.head

/-- Every flat index lies between 128 and 255. -/
theorem flat_range (h : Solves W (beforeOps (F := F))) (z : S8388608.Idx) :
    128 ≤ ((val W (.of main_v12 : TRef sig ⟨S8388608, .i32⟩) : S8388608.Idx → BitVec 32) z).toNat
      ∧ ((val W (.of main_v12 : TRef sig ⟨S8388608, .i32⟩) : S8388608.Idx → BitVec 32) z).toNat < 256 := by
  rw [flat_idxs h.right.right.right.right]
  exact shifted_range h.right.right.left h.right.right.right.left _

end Cert.KernelIdeal.Host

end
-- ==== Proof.KernelIdealLaunch.lean ====
/-
  The whole program's run: `main` up to the launch, the arrays handed to the 32 subcores chunk by chunk and taken
  back, the last reshape; what it leaves, and every semaphore counter at zero.
-/
module

public import proofs.«01_k».proof.Proof.KernelIdealTile
public import proofs.«01_k».proof.Proof.KernelIdealIndex
public import Idealize.ShloMosaic.Lib.SparseCore.Quiescent
public import Idealize.ShloMosaic.Lib.Pipeline.FrameTail

@[expose] public section

set_option maxRecDepth 4000

noncomputable section

namespace Cert.KernelIdeal.Tile

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.StableHlo (held seq after)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Rows Cert.Proof.Host Cert.KernelIdeal.Host
open Facts₀ Facts

variable {F : FTy → Type} [FloatOps F] [Facts]

local notation "𝕄" => MT nD τ sig (HIx 1) (Elt F) ℕ UU ℕ

/-- The launch handshakes' part of the ghost state. -/
abbrev EH : Emb UH (MT nD τ sig (HIx 1) (Elt F) ℕ UU ℕ) := embL

/-! ## The arrays as 512 chunks -/

/-- A chunk by SparseCore, subcore and number. -/
abbrev Which : Type := Fin 2 × Fin 16 × Fin 16
/-- Its number among all. -/
def Which.number (t : Which) : ℕ := (t.2.1.val * 2 + t.1.val) * 16 + t.2.2.val

omit [Facts] in
/-- Different chunks have different numbers. -/
theorem Which.number_inj {t t' : Which} (h : t.number = t'.number) : t = t' := by
  obtain ⟨c, s, n⟩ := t; obtain ⟨c', s', n'⟩ := t'
  unfold Which.number at h
  have := c.isLt; have := s.isLt; have := n.isLt; have := c'.isLt; have := s'.isLt; have := n'.isLt
  dsimp only at h
  refine Prod.ext (Fin.ext ?_) (Prod.ext (Fin.ext ?_) (Fin.ext ?_)) <;> dsimp only <;> omega

/-- Different chunks have no position in common. -/
theorem regions_disjoint {n w : ℕ} : ∀ t ∈ (Finset.univ : Finset Which), ∀ t' ∈ (Finset.univ : Finset Which), t ≠ t' →
    Disjoint (region (n := n) w t.number) (region (n := n) w t'.number) := by
  intro t _ t' _ hne
  refine Finset.disjoint_left.mpr fun y hy hy' => hne (Which.number_inj ?_)
  rw [mem_region] at hy hy'
  by_contra hq
  rcases Nat.lt_or_gt_of_ne hq with h | h
  · have := Nat.mul_le_mul_right w (Nat.succ_le_of_lt h)
    rw [Nat.succ_mul] at this; omega
  · have := Nat.mul_le_mul_right w (Nat.succ_le_of_lt h)
    rw [Nat.succ_mul] at this; omega

/-- Every position lies in a chunk. -/
theorem regions_cover {n w : ℕ} (hn : n = 512 * w) (hw : 0 < w) :
    (Finset.univ : Finset Which).biUnion (fun t => region (n := n) w t.number) = Finset.univ := by
  ext y
  simp only [Finset.mem_biUnion, Finset.mem_univ, true_and, iff_true]
  have hy : (y 0).val < 512 * w := Nat.lt_of_lt_of_eq (y 0).isLt hn
  have hq : (y 0).val / w < 512 := (Nat.div_lt_iff_lt_mul hw).mpr hy
  have h1 := Nat.div_add_mod (y 0).val w
  have h2 := Nat.mod_lt (y 0).val hw
  rw [Nat.mul_comm] at h1
  generalize hk : (y 0).val / w = k at hq h1
  have hc : k / 16 % 2 < 2 := Nat.mod_lt _ (by decide)
  have hs : k / 32 < 16 := by omega
  have hm : k % 16 < 16 := Nat.mod_lt _ (by decide)
  refine ⟨((⟨k / 16 % 2, hc⟩, ⟨k / 32, hs⟩, ⟨k % 16, hm⟩) : Which), ?_⟩
  have e : Which.number (⟨k / 16 % 2, hc⟩, ⟨k / 32, hs⟩, ⟨k % 16, hm⟩) = k := by
    show (k / 32 * 2 + k / 16 % 2) * 16 + k % 16 = k
    omega
  rw [e, mem_region]
  constructor <;> omega

/-- The three arrays whole. -/
def arrays (d : Dev nD) (X : S16777216.Idx → F .f32) (I : S8388608.Idx → BitVec 32) (Y : S16777216.Idx → F .f32) : sProp 𝕄 :=
  iprop((xaLoc d ↦{fullShare} (X : Buf (Elt F) (xaLoc d))) ∗ (iaLoc d ↦{fullShare} (I : Buf (Elt F) (iaLoc d)))
    ∗ (oaLoc d ↦{fullShare} (Y : Buf (Elt F) (oaLoc d))))

/-- The flat rows as their chunks. -/
theorem x_regions (d : Dev nD) (X : S16777216.Idx → F .f32) :
    (xaLoc d ↦{fullShare} (X : Buf (Elt F) (xaLoc d)) : sProp 𝕄)
      = bigSep Finset.univ fun t : Which => xaLoc d ↦[region (n := 16777216) 32768 t.number]{fullShare} (X : Buf (Elt F) (xaLoc d)) := by
  rw [← pointsTo_biUnion Finset.univ (ℓ := xaLoc d) (fun t : Which => region (n := 16777216) 32768 t.number) regions_disjoint,
    regions_cover (by decide) (by decide)]
/-- The flat indices as their chunks. -/
theorem i_regions (d : Dev nD) (I : S8388608.Idx → BitVec 32) :
    (iaLoc d ↦{fullShare} (I : Buf (Elt F) (iaLoc d)) : sProp 𝕄)
      = bigSep Finset.univ fun t : Which => iaLoc d ↦[region (n := 8388608) 16384 t.number]{fullShare} (I : Buf (Elt F) (iaLoc d)) := by
  rw [← pointsTo_biUnion Finset.univ (ℓ := iaLoc d) (fun t : Which => region (n := 8388608) 16384 t.number) regions_disjoint,
    regions_cover (by decide) (by decide)]
/-- The flat result as its chunks. -/
theorem o_regions (d : Dev nD) (Y : S16777216.Idx → F .f32) :
    (oaLoc d ↦{fullShare} (Y : Buf (Elt F) (oaLoc d)) : sProp 𝕄)
      = bigSep Finset.univ fun t : Which => oaLoc d ↦[region (n := 16777216) 32768 t.number]{fullShare} (Y : Buf (Elt F) (oaLoc d)) := by
  rw [← pointsTo_biUnion Finset.univ (ℓ := oaLoc d) (fun t : Which => region (n := 16777216) 32768 t.number) regions_disjoint,
    regions_cover (by decide) (by decide)]

/-- The three arrays whole are every subcore's regions. -/
theorem arrays_tiles (d : Dev nD) (X : S16777216.Idx → F .f32) (I : S8388608.Idx → BitVec 32) (Y : S16777216.Idx → F .f32) :
    (arrays d X I Y : sProp 𝕄)
      = bigSep Finset.univ fun c : Fin 2 => bigSep Finset.univ fun s : Fin 16 => tile d X I Y c.val s.val := by
  unfold arrays
  rw [x_regions, i_regions, o_regions, ← bigSep_sep', ← bigSep_sep', bigSep_univ_prod]
  refine bigSep_congr fun c _ => ?_
  rw [bigSep_univ_prod]
  rfl

/-! ## What the launch hands over -/

variable (m : (ℓ : Loc nD τ sig) → Buf (Elt F) ℓ) (ρ : Dev nD → PrngReg)

/-- The contents before and after the line up to the launch. -/
def V0 (d : Dev nD) : Valuation τ sig (Elt F) := fun b => m (d, b)
/-- The contents when the launch begins. -/
def V1 (d : Dev nD) : Valuation τ sig (Elt F) := after beforeOps (V0 m d)
/-- The flat rows then. -/
abbrev xv (d : Dev nD) : S16777216.Idx → F .f32 := V1 m d (Proc.devRef .tc main_v11)
/-- The flat indices then. -/
abbrev iv (d : Dev nD) : S8388608.Idx → BitVec 32 := V1 m d (Proc.devRef .tc main_v12)
/-- The result buffer then. -/
abbrev yv (d : Dev nD) : S16777216.Idx → F .f32 := V1 m d (Proc.devRef .tc main_v13)
/-- What the kernel makes of them. -/
def outv (d : Dev nD) : S16777216.Idx → F .f32 := permuted pos16777216 pos8388608 (xv m d) (iv m d)

/-- Every flat index lies between 128 and 255. -/
theorem iv_range (d : Dev nD) (z : S8388608.Idx) : 128 ≤ (iv m d z).toNat ∧ (iv m d z).toNat < 256 :=
  flat_range (W := V1 m d) (before_ordered.solves (V0 m d)) z

/-- A subcore's regions may be kept in an invariant. -/
instance tile_storable (d : Dev nD) (X : S16777216.Idx → F .f32) (I : S8388608.Idx → BitVec 32) (Y : S16777216.Idx → F .f32) (c s : ℕ) :
    BI.Storable (upEmb : UEmb _ 𝕄) (tile d X I Y c s) := by
  unfold tile parts; infer_instance

/-- The call's payloads: every subcore its regions, the result's at what was there before and at the permutation after. -/
def P : (K (F := F)).Pay (nD := nD) (Val := Elt F) (Name := ℕ) (U := UU) where
  st := fun _ d c => bigSep Finset.univ fun s : Fin 16 => tile d (xv m d) (iv m d) (yv m d) c.val s.val
  dn := fun _ d c => bigSep Finset.univ fun s : Fin 16 => tile d (xv m d) (iv m d) (outv m d) c.val s.val
  go := fun _ d c s => tile d (xv m d) (iv m d) (yv m d) c.val s.val
  td := fun _ d c s => tile d (xv m d) (iv m d) (outv m d) c.val s.val
  x := fun _ _ => iprop(emp)

/-- So may the call's payloads. -/
instance P_storable : (P (F := F) m).IsStorable where
  st _ d c := by unfold P; infer_instance
  dn _ d c := by unfold P; infer_instance
  go _ _ _ _ := by unfold P; infer_instance
  td _ _ _ _ := by unfold P; infer_instance

/-- A subcore's place in the grid. -/
def coordsV (c : Fin (grid0.bound 0)) (s : Fin (grid0.bound 1)) : grid0.Coords :=
  fun | 0 => c | 1 => s | ⟨_ + 2, h⟩ => absurd h (Nat.not_lt.2 (Nat.le_add_left _ _))

/-- A vector subcore's task is the kernel's body. -/
theorem defs₀_vector (c : Fin τ.nSC) (s : Fin τ.nSub) :
    defs₀ (F := F) (.scVector c s) 0 ()
      = SparseCore.onTile hcore0 hsub0 (fun c s => cc0_k (coordsV c s) xH (Memref.isWhole_whole _) iH (Memref.isWhole_whole _) oH (Memref.isWhole_whole _) xW (Memref.isWhole_whole _) iW (Memref.isWhole_whole _)
            cc0_scoped0 cc0_scoped1 cc0_scoped2 cc0_scoped3 cc0_scoped4 cc0_scoped5 cc0_scoped6 cc0_scoped7 cc0_scoped8 cc0_scoped9 cc0_scoped10 cc0_scoped11
            cc0_scoped12 cc0_scoped13 cc0_scoped14 cc0_scoped15 cc0_scoped16 cc0_scoped17 cc0_scoped18 cc0_scoped19 cc0_scoped20 cc0_scoped21 cc0_scoped22 cc0_scoped23
            cc0_scoped24 cc0_scoped25 cc0_scoped26 cc0_scoped27 cc0_scoped28 cc0_scoped29 cc0_scoped30 cc0_scoped31 cc0_scoped32 cc0_scoped33 cc0_scoped34 cc0_scoped35
            cc0_scoped36 cc0_scoped37 cc0_scoped38 cc0_scoped39 cc0_scoped40 cc0_scoped41 cc0_scoped42 cc0_scoped43 cc0_scoped44 cc0_scoped45 cc0_scoped46 cc0_scoped47) ⟨⟩ c s := rfl

/-- A run's waits, as the launch theorem allows them. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every subcore's obligation is its run. -/
theorem tileObl : (K (F := F)).TileObl (D (F := F)) 𝒱 (P m) v₀ 0 := by
  intro d c s O W hO _ _
  simp only [show (P m).ox = fun _ _ => 0 from rfl, add_zero]
  change _ ⊢ wp _ _ _ (Pipeline.liftProg (defs₀ (F := F) (.scVector ((K (F := F)).core 0 c) ((K (F := F)).sub 0 s)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 s).val < grid0.bound 1 := ⟨c.isLt, s.isLt⟩
  rw [defs₀_vector]; simp only [SparseCore.onTile, hc, and_self, ↓reduceDIte]
  exact (tile_body d (coordsV ⟨_, hc.1⟩ ⟨_, hc.2⟩) (iv_range m d) O W hO).trans (wp_mono frame _ _ fun _ => obl_post)

/-- A SparseCore's part splits among its subcores and comes back. -/
theorem vecSplit : (K (F := F)).VecSplit' (P m) 0 := by
  intro d c
  show (bigSep (Finset.univ : Finset (Fin 16)) fun s => tile d (xv m d) (iv m d) (yv m d) c.val s.val)
    ⊢ |={Set.univ}=> iprop((bigSep (Finset.univ : Finset (Fin 16)) fun s => tile d (xv m d) (iv m d) (yv m d) c.val s.val)
      ∗ ((bigSep (Finset.univ : Finset (Fin 16)) fun s => tile d (xv m d) (iv m d) (outv m d) c.val s.val)
        -∗ bigSep (Finset.univ : Finset (Fin 16)) fun s => tile d (xv m d) (iv m d) (outv m d) c.val s.val))
  iintro H; imodintro
  isplitl [H]; · iexact H
  iintro H; iexact H

/-- The launch's ghost state: the handshakes' rounds. -/
def u₀ : UU := (initOf (K (F := F)).hsCells (K (F := F)).hsToks, 1)

omit [FloatOps F] [Facts] in
/-- Nothing, many times. -/
theorem bigSep_emp' {I : Type} (s : Finset I) : (bigSep s fun _ => iprop(emp)) = (iprop(emp) : sProp 𝕄) := bigSep_emp_const s

/-- The ghost state at the launch. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## `main` -/

/-- The contents after the launch, and at the end. -/
def V2 (d : Dev nD) : Valuation τ sig (Elt F) := Function.update (V1 m d) (Proc.devRef .tc main_v13) (outv m d)
/-- The contents at the end. -/
def V3 (d : Dev nD) : Valuation τ sig (Elt F) := after lastOps (V2 m d)

/-- The flat rows. -/
abbrev x' : DevRef τ sig := Proc.devRef .tc (main_v11 : Ref sig .tc)
/-- The flat indices. -/
abbrev i' : DevRef τ sig := Proc.devRef .tc (main_v12 : Ref sig .tc)
/-- The flat result. -/
abbrev o' : DevRef τ sig := Proc.devRef .tc (main_v13 : Ref sig .tc)
/-- The argument. -/
abbrev a' : DevRef τ sig := Proc.devRef .tc (main_arg0 : Ref sig .tc)
/-- The result. -/
abbrev r' : DevRef τ sig := Proc.devRef .tc (main_v14 : Ref sig .tc)

/-- The arrays the launch takes, among those `main` holds. -/
abbrev Sl : Finset (DevRef τ sig) := {x', i', o'}
/-- The argument and the result. -/
abbrev Sf : Finset (DevRef τ sig) := {a', r'}

/-- The launch's arrays are among the buffers held. -/
theorem sl_sub : (Sl) ⊆ Pipeline.ucRefs τ sig :=
  Finset.insert_subset (Pipeline.devRef_mem_ucRefs rfl) (Finset.insert_subset (Pipeline.devRef_mem_ucRefs rfl)
    (Finset.singleton_subset_iff.mpr (Pipeline.devRef_mem_ucRefs rfl)))
/-- So are the argument and the result. -/
theorem sf_sub : (Sf) ⊆ Pipeline.ucRefs τ sig :=
  Finset.insert_subset (Pipeline.devRef_mem_ucRefs rfl) (Finset.singleton_subset_iff.mpr (Pipeline.devRef_mem_ucRefs rfl))

/-- The flat rows are not the flat result. -/
theorem x_ne_o : x' ≠ o' := StableHlo.devRef_ne_of_ne (ne_of_rank (by decide))
/-- The flat indices are not the flat result. -/
theorem i_ne_o : i' ≠ o' := StableHlo.devRef_ne_of_ne (ne_of_rank (by decide))
/-- The flat rows are not the flat indices. -/
theorem x_ne_i : x' ≠ i' := StableHlo.devRef_ne_of_ne (ne_of_rank (by decide))
/-- The argument is not the result. -/
theorem a_ne_r : a' ≠ r' := StableHlo.devRef_ne_of_ne (ne_of_rank (by decide))

/-- The launch's arrays held are the three arrays whole. -/
theorem held_arrays (d : Dev nD) (W : Valuation τ sig (Elt F)) :
    (held (d.tc : Thread nD τ) Sl W : sProp 𝕄) = arrays d (W x') (W i') (W o') := by
  unfold held arrays
  rw [SparseCore.bigSep_insert' (by
      rw [Finset.mem_insert, Finset.mem_singleton]; exact not_or.mpr ⟨x_ne_i, x_ne_o⟩),
    SparseCore.bigSep_insert' (by rw [Finset.mem_singleton]; exact i_ne_o), bigSep_singleton]

/-- After the launch the flat result is permuted. -/
theorem V2_o (d : Dev nD) : V2 m d o' = outv m d := Function.update_self _ _ _
/-- The launch changes nothing else. -/
theorem V2_ne (d : Dev nD) {b : DevRef τ sig} (h : b ≠ o') : V2 m d b = V1 m d b := Function.update_of_ne h _ _

/-- After the launch everything is held at the new contents. -/
theorem held_V2 (d : Dev nD) :
    (held (d.tc : Thread nD τ) (Pipeline.ucRefs τ sig) (V2 m d) : sProp 𝕄)
      = iprop(arrays d (xv m d) (iv m d) (outv m d) ∗ held (d.tc : Thread nD τ) (Pipeline.ucRefs τ sig \ Sl) (V1 m d)) := by
  rw [StableHlo.held_sub_split _ sl_sub, held_arrays, V2_o, V2_ne m d x_ne_o, V2_ne m d i_ne_o]
  refine congrArg (fun z => iprop(_ ∗ z)) (StableHlo.held_congr _ fun b hb => V2_ne m d fun e => ?_)
  rw [e] at hb
  exact (Finset.mem_sdiff.mp hb).2 (Finset.mem_insert_of_mem (Finset.mem_insert_of_mem (Finset.mem_singleton_self _)))

/-- The last reshape goes upwards. -/
theorem last_ordered : Ordered (rank main_v13 + 1) (lastOps (F := F)) (rank main_v14 + 1) :=
  Ordered.reshape (by decide) (by decide) Ordered.nil

/-- The argument ends unchanged. -/
theorem V3_arg (d : Dev nD) : V3 m d a' = m (d, a') := by
  unfold V3
  rw [last_ordered.keeps (V2 m d) (x := main_arg0) (by decide), V2_ne m d (StableHlo.devRef_ne_of_ne (ne_of_rank (by decide)))]
  exact before_ordered.keeps (V0 m d) (x := main_arg0) (by decide)

/-- The result: what the kernel left, in the argument's shape. -/
theorem V3_res (d : Dev nD) : (V3 m d r' : S16x4096x256.Idx → F .f32) = shapeCast S16x4096x256 (outv m d) shapeCasts_S16777216_S16x4096x256 := by
  have e := val_reshape (W := V3 m d) (last_ordered.solves (V2 m d)).head
  have e' : (val (V3 m d) (.of main_v13 : StableHlo.TRef sig ⟨S16777216, .f32⟩) : S16777216.Idx → F .f32) = outv m d := by
    show V3 m d o' = _
    unfold V3
    rw [last_ordered.keeps (V2 m d) (x := main_v13) (by decide), V2_o]
  rw [← e']
  exact e

/-- What `main` leaves the claim: the argument and the result. -/
def FIN (d : Dev nD) : sProp 𝕄 := held (d.tc : Thread nD τ) Sf (V3 m d)

/-- What the call is handed is the three arrays. -/
theorem st_eq (d : Dev nD) : (bigSep Finset.univ fun c : Fin ((K (F := F)).nCore 0) => (P m).st 0 d c) = arrays d (xv m d) (iv m d) (yv m d) :=
  (arrays_tiles d _ _ _).symm
/-- What it hands back is the three arrays, the result permuted. -/
theorem dn_eq (d : Dev nD) : (bigSep Finset.univ fun c : Fin ((K (F := F)).nCore 0) => (P m).dn 0 d c) = arrays d (xv m d) (iv m d) (outv m d) :=
  (arrays_tiles d _ _ _).symm

/-- `main` on a TensorCore: the line, the call, the last reshape. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  have hm : main (F := F) d = seq beforeOps >>= fun _ => (sc.run d 0 >>= fun _ => (seq lastOps >>= pure)) := by
    rw [bind_pure]; exact main_eq d
  rw [hm]
  unfold SparseCore.Cfg.tcRes SparseCore.Cfg.tcEnd
  rw [show (unscopedBufs d (fun b => m ((SparseCore.T d).loc b)) : sProp 𝕄) = held (d.tc : Thread nD τ) (Pipeline.ucRefs τ sig) (V0 m d) from
    Pipeline.unscopedBufs_held d (V0 m d)]
  iintro ⟨#Hctx, Hst, ⟨Hb, Hheld, Hts, -⟩, -⟩
  iapply (StableHlo.wp_seq 𝒱 none Set.univ d (Pipeline.ucRefs τ sig) _ beforeOps
    (fun op h => Pipeline.sub_ucRefs op (before_ordered.tc op h)) before_ordered.fresh (V0 m d)) $$ [Hb Hheld]
  · isplitl [Hb] <;> iassumption
  iintro ⟨Hb, Hheld⟩
  ihave Hh := (Entails.of_eq ((StableHlo.held_sub_split _ sl_sub _).trans (congrArg (fun z => iprop(z ∗ _)) (held_arrays d _)))) $$ Hheld
  icases Hh with ⟨Ha, Hrest⟩
  rw [wp_bind]
  iapply ((K (F := F)).wp_run (D (F := F)) 𝒱 (EH := EH) (P := P m) κ d 0) $$ [Hst Ha Hb Hrest Hts]
  isplitr; · iexact Hctx
  isplitl [Hst]; · iexact Hst
  isplitl [Ha]
  · rw [st_eq]; iexact Ha
  iintro ⟨Hst, Hdn⟩
  ihave Ha := (Entails.of_eq (dn_eq m d)) $$ Hdn
  iapply (StableHlo.wp_seq 𝒱 none Set.univ d (Pipeline.ucRefs τ sig) _ lastOps
    (fun op h => Pipeline.sub_ucRefs op (last_ordered.tc op h)) last_ordered.fresh (V2 m d)) $$ [Hb Ha Hrest]
  · isplitl [Hb]; · iexact Hb
    rw [held_V2]
    isplitl [Ha]; · iexact Ha
    iexact Hrest
  iintro ⟨Hb, Hheld⟩
  ihave Hh := (Entails.of_eq (StableHlo.held_sub_split _ sf_sub _)) $$ Hheld
  icases Hh with ⟨Hf, -⟩
  rw [Prog.pure_eq_ret, wp_ret]; imodintro
  isplitl [Hst]; · iexact Hst
  isplitl [Hf]
  · unfold FIN V3; iexact Hf
  isplitl [Hb] <;> iassumption

/-! ## The run -/

/-- What is known of the memory at the end. -/
def fq (d : Dev nD) (s' : Phys nD τ sig (Elt F)) : Prop :=
  s'.mem.mem (d, a') = m (d, a') ∧ s'.mem.mem (d, r') = V3 m d r'

/-- What is held at the end says what memory holds. -/
theorem hfin (d : Dev nD) (s' : Phys nD τ sig (Elt F)) : iprop(FIN m d ∗ SI s') ⊢ (⌜fq m d s'⌝ : sProp 𝕄) := by
  have e : (FIN m d : sProp 𝕄) = iprop(((d, a') ↦{fullShare} V3 m d a') ∗ ((d, r') ↦{fullShare} V3 m d r')) := by
    unfold FIN held
    rw [SparseCore.bigSep_insert' (by rw [Finset.mem_singleton]; exact a_ne_r), bigSep_singleton]
  rw [e]
  iintro ⟨⟨Ha, Hr⟩, HSI⟩
  icombine HSI Ha gives %ha
  icombine HSI Hr gives %hr
  ipureintro
  exact ⟨(funext fun j => ha j (Finset.mem_univ j)).trans (V3_arg m d), funext fun j => hr j (Finset.mem_univ j)⟩

/-- What is known of the run's end. -/
def QC : PUnit × MemSt nD τ sig (Elt F) → Prop := fun r =>
  (∀ c : Dev nD, r.2.mem (c, a') = m (c, a') ∧ r.2.mem (c, r') = V3 m c r') ∧ r.2.sem = fun _ => 0

/-- The program runs to its end: the argument unchanged, the result the rows with their upper halves permuted, every
    counter at zero. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.KernelIdeal.Tile

end
-- ==== Proof.ReferenceHost.lean ====
/-
  The reference's `main` as one line of host operations: the random numbers, their argsort, the shift by 128, the
  full indices and the gather. The line of each function is read off the printed body. Every buffer is written
  once, so what the line leaves solves each of its operations.
-/
module

public import proofs.«01_k».proof.ReferenceIdeal
public import proofs.«01_k».proof.Proof.Host
public import Idealize.ShloMosaic.Lib.Quiescent

@[expose] public section

set_option maxRecDepth 4000

noncomputable section

namespace Cert.ReferenceIdeal.Host

open Idealize.ShloMosaic Idealize.ShloMosaic.StableHlo Idealize.SL.Sem Cert.Proof.Host

open Facts₀

variable {F : FTy → Type} [FloatOps F] [Facts]

/-- The line of the first part of @threefry2x32. -/
def threefry0 (a b : TRef sig ⟨S_, .i32⟩) (u v : TRef sig ⟨S16x4096x128, .i32⟩) (φ : fn_threefry2x32.Bufs) :
    { l // Begins (fn_threefry2x32.body_part0 (F := F) a b u v φ) l (pure ⟨⟩) } := by
  apply Subtype.mk
  unfold fn_threefry2x32.body_part0
  repeat (first | exact Begins.stop | exact Begins.lastOp | apply Begins.op)

/-- The line of the second part. -/
def threefry1 (a b : TRef sig ⟨S_, .i32⟩) (u v : TRef sig ⟨S16x4096x128, .i32⟩) (φ : fn_threefry2x32.Bufs) :
    { l // Begins (fn_threefry2x32.body_part1 (F := F) a b u v φ) l (pure ⟨⟩) } := by
  apply Subtype.mk
  unfold fn_threefry2x32.body_part1
  repeat (first | exact Begins.stop | exact Begins.lastOp | apply Begins.op)

/-- The line of the third part. -/
def threefry2 (a b : TRef sig ⟨S_, .i32⟩) (u v : TRef sig ⟨S16x4096x128, .i32⟩) (φ : fn_threefry2x32.Bufs) :
    { l // Begins (fn_threefry2x32.body_part2 (F := F) a b u v φ) l (pure ⟨⟩) } := by
  apply Subtype.mk
  unfold fn_threefry2x32.body_part2
  repeat (first | exact Begins.stop | exact Begins.lastOp | apply Begins.op)

/-- The line of the last part. -/
def threefry3 (a b : TRef sig ⟨S_, .i32⟩) (u v : TRef sig ⟨S16x4096x128, .i32⟩) (φ : fn_threefry2x32.Bufs) :
    { l // Begins (fn_threefry2x32.body_part3 (F := F) a b u v φ) l (pure ⟨⟩) } := by
  apply Subtype.mk
  unfold fn_threefry2x32.body_part3
  repeat (first | exact Begins.stop | exact Begins.lastOp | apply Begins.op)

/-- The line of @threefry2x32: its four parts'. -/
def threefry (a b : TRef sig ⟨S_, .i32⟩) (u v : TRef sig ⟨S16x4096x128, .i32⟩) (φ : fn_threefry2x32.Bufs) :
    { l // Begins (fn_threefry2x32.body (F := F) a b u v φ) l (pure ⟨⟩) } :=
  ⟨(threefry0 a b u v φ).1 ++ ((threefry1 a b u v φ).1 ++ ((threefry2 a b u v φ).1 ++ (threefry3 a b u v φ).1)),
    .line (threefry0 a b u v φ).2.isSeq (.line (threefry1 a b u v φ).2.isSeq
      (.line (threefry2 a b u v φ).2.isSeq (threefry3 a b u v φ).2))⟩

/-- The line of @_uniform. -/
def uniform (a : TRef sig ⟨S2, .i32⟩) (u v : TRef sig ⟨S_, .f32⟩) (φ : fn_uniform.Bufs) :
    { l // Begins (fn_uniform.body (F := F) a u v φ) l (pure ⟨⟩) } := by
  apply Subtype.mk
  unfold fn_uniform.body
  repeat (first | exact Begins.stop | exact Begins.lastOp | apply Begins.op | apply Begins.line (threefry _ _ _ _ _).2.isSeq)

/-- The line of @argsort. -/
def argsort (a : TRef sig ⟨S16x4096x128, .f32⟩) (φ : fn_argsort.Bufs) :
    { l // Begins (fn_argsort.body (F := F) a φ) l (pure ⟨⟩) } := by
  apply Subtype.mk
  unfold fn_argsort.body
  repeat (first | exact Begins.stop | exact Begins.lastOp | apply Begins.op)

/-- `main`'s first operations: the key. -/
def keyOps : List (HloOp τ sig (Elt F)) :=
  [TRef.nullary (.of main_c) (constantI S_ 32 1234#32),
   TRef.nullary (.of main_c_0) (constantI S_ 32 32#32),
   TRef.binary (.of main_c) (.of main_c_0) (.of main_v0) Host.shrui,
   TRef.unary (.of main_v0) (.of main_v1) id,
   TRef.unary (.of main_v1) (.of main_v2) (broadcastInDim S1 ![] bcast_S_S1),
   TRef.nullary (.of main_c_1) (constantI S_ 32 4294967295#32),
   TRef.binary (.of main_c) (.of main_c_1) (.of main_v3) andi,
   TRef.unary (.of main_v3) (.of main_v4) id,
   TRef.unary (.of main_v4) (.of main_v5) (broadcastInDim S1 ![] bcast_S_S1),
   TRef.binary (.of main_v2) (.of main_v5) (.of main_v6) (fun a b => concatenate S2 0 [⟨S1, a⟩, ⟨S1, b⟩] concatenates_S1_S1_S2_d0),
   TRef.nullary (.of main_cst) (constant S_ .f32 0x00000000#32),
   TRef.nullary (.of main_cst_2) (constant S_ .f32 0x3F800000#32)]

/-- The operations that follow the argsort: the shift by 128. -/
def shiftOps : List (HloOp τ sig (Elt F)) :=
  [TRef.nullary (.of main_c_3) (constantI S_ 32 128#32),
   TRef.unary (.of main_c_3) (.of main_v9) (broadcastInDim S16x4096x128 ![] bcast_S_S16x4096x128),
   TRef.binary (.of main_v8) (.of main_v9) (.of main_v10) addi]

/-- The line of @take_along_axis. -/
def take (a : TRef sig ⟨S16x4096x256, .f32⟩) (b : TRef sig ⟨S16x4096x256, .i32⟩) (φ : fn_take_along_axis.Bufs) :
    { l // Begins (fn_take_along_axis.body (F := F) a b φ) l (pure ⟨⟩) } := by
  apply Subtype.mk
  unfold fn_take_along_axis.body
  repeat (first | exact Begins.stop | exact Begins.lastOp | apply Begins.op)

/-- The full indices: the first 128 themselves, then the shifted argsort. -/
def fullOps : List (HloOp τ sig (Elt F)) :=
  [TRef.nullary (.of main_v11 : TRef sig ⟨S128, .i32⟩) (iotaInDim S128 32 0),
   TRef.unary (.of main_v11 : TRef sig ⟨S128, .i32⟩) (.of main_v12 : TRef sig ⟨S16x4096x128, .i32⟩) (broadcastInDim S16x4096x128 ![2] bcast_S128_S16x4096x128_2),
   TRef.binary (.of main_v12 : TRef sig ⟨S16x4096x128, .i32⟩) (.of main_v10 : TRef sig ⟨S16x4096x128, .i32⟩) (.of main_v13 : TRef sig ⟨S16x4096x256, .i32⟩) (fun a b => concatenate S16x4096x256 2 [⟨S16x4096x128, a⟩, ⟨S16x4096x128, b⟩] concatenates_S16x4096x128_S16x4096x128_S16x4096x256_d2)]

/-- `main`'s line. -/
def mainOps : List (HloOp τ sig (Elt F)) :=
  keyOps ++ ((uniform (.of main_v6) (.of main_cst) (.of main_cst_2) main_call0).1 ++
    ((argsort (.of main_v7) main_call1).1 ++ (shiftOps ++ (fullOps ++ (take (.of main_arg0) (.of main_v13) main_call2).1))))

/-- `main` is that line. -/
theorem main_eq (d : Dev nD) : IsSeq (main (F := F) d) mainOps := by
  apply Begins.isSeq
  rw [show (mainOps (F := F)) = keyOps ++ ((uniform (.of main_v6) (.of main_cst) (.of main_cst_2) main_call0).1 ++
    ((argsort (.of main_v7) main_call1).1 ++ (shiftOps ++ (fullOps ++ ((take (.of main_arg0) (.of main_v13) main_call2).1 ++ []))))) by
      unfold mainOps; rw [List.append_nil]]
  unfold main keyOps
  simp only [List.cons_append, List.nil_append]
  iterate 12 apply Begins.op
  apply Begins.line (uniform _ _ _ _).2.isSeq
  apply Begins.line (argsort _ _).2.isSeq
  unfold shiftOps fullOps
  simp only [List.cons_append, List.nil_append]
  iterate 6 apply Begins.op
  exact Begins.line (take _ _ _).2.isSeq Begins.stop

/-- The first part's operations go upwards through the buffers. -/
theorem threefry0_ordered : Ordered (rank main_call0.v22.ref + 1) (threefry0 (F := F) main_call0.v5 main_call0.v7 main_call0.v22 main_call0.v21 main_call0.call0).1
    (rank main_call0.call0.v47.ref + 1) := by
  repeat (first
    | exact Ordered.nil
    | refine Ordered.nullary (by decide) ?_
    | refine Ordered.unary (by decide) (by decide) ?_
    | refine Ordered.binary (by decide) (by decide) (by decide) ?_
    | refine Ordered.reshape (by decide) (by decide) ?_)

/-- The second part's operations go upwards through the buffers. -/
theorem threefry1_ordered : Ordered (rank main_call0.call0.v47.ref + 1) (threefry1 (F := F) main_call0.v5 main_call0.v7 main_call0.v22 main_call0.v21 main_call0.call0).1
    (rank main_call0.call0.v94.ref + 1) := by
  repeat (first
    | exact Ordered.nil
    | refine Ordered.nullary (by decide) ?_
    | refine Ordered.unary (by decide) (by decide) ?_
    | refine Ordered.binary (by decide) (by decide) (by decide) ?_
    | refine Ordered.reshape (by decide) (by decide) ?_)

/-- The third part's operations go upwards through the buffers. -/
theorem threefry2_ordered : Ordered (rank main_call0.call0.v94.ref + 1) (threefry2 (F := F) main_call0.v5 main_call0.v7 main_call0.v22 main_call0.v21 main_call0.call0).1
    (rank main_call0.call0.v142.ref + 1) := by
  repeat (first
    | exact Ordered.nil
    | refine Ordered.nullary (by decide) ?_
    | refine Ordered.unary (by decide) (by decide) ?_
    | refine Ordered.binary (by decide) (by decide) (by decide) ?_
    | refine Ordered.reshape (by decide) (by decide) ?_)

/-- The last part's operations go upwards through the buffers. -/
theorem threefry3_ordered : Ordered (rank main_call0.call0.v142.ref + 1) (threefry3 (F := F) main_call0.v5 main_call0.v7 main_call0.v22 main_call0.v21 main_call0.call0).1
    (rank main_call0.call0.v175.ref + 1) := by
  repeat (first
    | exact Ordered.nil
    | refine Ordered.nullary (by decide) ?_
    | refine Ordered.unary (by decide) (by decide) ?_
    | refine Ordered.binary (by decide) (by decide) (by decide) ?_
    | refine Ordered.reshape (by decide) (by decide) ?_)

/-- @threefry2x32's operations go upwards. -/
theorem threefry_ordered : Ordered (rank main_call0.v22.ref + 1) (threefry (F := F) main_call0.v5 main_call0.v7 main_call0.v22 main_call0.v21 main_call0.call0).1
    (rank main_call0.call0.v175.ref + 1) :=
  threefry0_ordered.append (threefry1_ordered.append (threefry2_ordered.append threefry3_ordered))

/-- @_uniform's operations go upwards. -/
theorem uniform_ordered : Ordered (rank main_cst_2 + 1)
    (uniform (F := F) (.of main_v6) (.of main_cst) (.of main_cst_2) main_call0).1 (rank main_v7 + 1) := by
  iterate 27 (first
    | refine Ordered.nullary (by decide) ?_
    | refine Ordered.unary (by decide) (by decide) ?_
    | refine Ordered.binary (by decide) (by decide) (by decide) ?_
    | refine Ordered.reshape (by decide) (by decide) ?_)
  refine threefry_ordered.append ?_
  repeat (first
    | exact Ordered.nil
    | refine Ordered.nullary (by decide) ?_
    | refine Ordered.unary (by decide) (by decide) ?_
    | refine Ordered.binary (by decide) (by decide) (by decide) ?_
    | refine Ordered.reshape (by decide) (by decide) ?_)

/-- @argsort's operations go upwards. -/
theorem argsort_ordered : Ordered (rank main_v7 + 1) (argsort (F := F) (.of main_v7) main_call1).1 (rank main_v8 + 1) := by
  repeat (first
    | exact Ordered.nil
    | refine Ordered.nullary (by decide) ?_
    | refine Ordered.unary (by decide) (by decide) ?_
    | refine Ordered.binary (by decide) (by decide) (by decide) ?_
    | refine Ordered.reshape (by decide) (by decide) ?_)

/-- The key's operations go upwards. -/
theorem key_ordered : Ordered 1 (keyOps (F := F)) (rank main_cst_2 + 1) := by
  repeat (first
    | exact Ordered.nil
    | refine Ordered.nullary (by decide) ?_
    | refine Ordered.unary (by decide) (by decide) ?_
    | refine Ordered.binary (by decide) (by decide) (by decide) ?_
    | refine Ordered.reshape (by decide) (by decide) ?_)

/-- The shift's operations go upwards. -/
theorem shift_ordered : Ordered (rank main_v8 + 1) (shiftOps (F := F)) (rank main_v10 + 1) := by
  repeat (first
    | exact Ordered.nil
    | refine Ordered.nullary (by decide) ?_
    | refine Ordered.unary (by decide) (by decide) ?_
    | refine Ordered.binary (by decide) (by decide) (by decide) ?_
    | refine Ordered.reshape (by decide) (by decide) ?_)

/-- The full indices' operations go upwards. -/
theorem full_ordered : Ordered (rank main_v10 + 1) (fullOps (F := F)) (rank main_v13 + 1) := by
  repeat (first
    | exact Ordered.nil
    | refine Ordered.nullary (by decide) ?_
    | refine Ordered.unary (by decide) (by decide) ?_
    | refine Ordered.binary (by decide) (by decide) (by decide) ?_)

/-- @take_along_axis's operations go upwards. -/
theorem take_ordered : Ordered (rank main_v13 + 1) (take (F := F) (.of main_arg0) (.of main_v13) main_call2).1 (rank main_v14 + 1) := by
  repeat (first
    | exact Ordered.nil
    | refine Ordered.nullary (by decide) ?_
    | refine Ordered.unary (by decide) (by decide) ?_
    | refine Ordered.binary (by decide) (by decide) (by decide) ?_
    | refine Ordered.ternary (by decide) (by decide) (by decide) (by decide) ?_
    | refine Ordered.reshape (by decide) (by decide) ?_)

/-- `main`'s line goes upwards: every buffer is written once, from buffers written before. -/
theorem main_ordered : Ordered 1 (mainOps (F := F)) (rank main_v14 + 1) :=
  key_ordered.append (uniform_ordered.append (argsort_ordered.append (shift_ordered.append (full_ordered.append take_ordered))))

/-! ## The run -/

variable (m : (ℓ : Loc nD τ sig) → Buf (Elt F) ℓ) (ρ : Dev nD → PrngReg)

/-- The contents at the end. -/
def Vend (d : Dev nD) : Valuation τ sig (Elt F) := after mainOps (launchContents m d)

/-- The argument is not written. -/
theorem Vend_arg (d : Dev nD) : Vend m d (Proc.devRef .tc main_arg0) = m (d, Proc.devRef .tc main_arg0) :=
  main_ordered.keeps (launchContents m d) (x := main_arg0) (by decide)

/-- The reference runs to its end: every buffer at the line's contents, every counter at zero. -/
theorem run_main : θ_run (defs (F := F)) (onTc (τ := τ) (main (F := F))) ⟨m, fun _ => 0, ρ⟩ fun r =>
    (∀ (d : Dev nD) (b : Ref sig .tc), r.2.mem ((d.tc : Thread nD τ).loc b) = Vend m d (Proc.devRef .tc b)) ∧ r.2.sem = fun _ => 0 :=
  θ_run_mono (run_hlo defs main main_eq (by decide) (by decide) (List.forall_iff_forall_mem.mpr main_ordered.tc) main_ordered.fresh m ρ)
    fun _ h => ⟨h, sem_eq_zero_of_no_sems rfl _⟩

end Cert.ReferenceIdeal.Host

end
-- ==== Proof.Gathered.lean ====
/-
  Rows of 256 words read at positions of their own: what a batched gather along the last axis reads, what the flat
  permutation reads, and what the mask of positions in range is. Plain arrays; no program.
-/
module

public import proofs.«01_k».proof.Proof.Rows
public import Idealize.ShloMosaic.Lib.ValueIdxCore
public import Idealize.ShloMosaic.Lib.WordCmp
public import Idealize.ShloMosaic.Lib.ReduceAll
public import Idealize.ShloMosaic.Lib.Pipeline.Value

@[expose] public section

noncomputable section

namespace Cert.Proof.Gathered

open Idealize.ShloMosaic Idealize.ShloMosaic.ValueIdx Idealize.ShloMosaic.WordCmp Cert.Proof.Rows

/-- The rows' shape. -/
abbrev SRows : Shape := ⟨3, ![16, 4096, 256]⟩
/-- The upper halves' shape. -/
abbrev SHalf : Shape := ⟨3, ![16, 4096, 128]⟩
/-- The start indices' shape. -/
abbrev SStart : Shape := ⟨4, ![16, 4096, 256, 1]⟩

/-- The word at position `k` (taken modulo 256) of the row of `j`. -/
def inRow {α : Type} (A : SRows.Idx → α) (j : SRows.Idx) (k : ℕ) : α := A (ix3 (j 0) (j 1) ⟨k % 256, Nat.mod_lt _ (by decide)⟩)

/-- The place in the upper halves that belongs to position `j` of a row's upper half. -/
def half (j : SRows.Idx) : SHalf.Idx := ix3 (j 0) (j 1) ⟨((j 2).val - 128) % 128, Nat.mod_lt _ (by decide)⟩

/-- The position each word of the result comes from: the first 128 stay, the others are named by the indices. -/
def source (I : SHalf.Idx → BitVec 32) (j : SRows.Idx) : ℕ := if (j 2).val < 128 then (j 2).val else (I (half j)).toNat

/-- The start index of result position `j`. -/
abbrev startOf (j : SRows.Idx) : SStart.Idx := ix4 (j 0) (j 1) (j 2) 0

/-- The gather's dimension numbers: the row is a batching axis of both the operand and the indices. -/
abbrev dims (wf : GatherDims.WF SRows SStart SRows [] [2] [0, 1] [2] [0, 1] 3 ![1, 1, 1]) : GatherDims SRows SStart SRows where
  offsetDims := []
  collapsedSliceDims := [2]
  operandBatchingDims := [0, 1]
  startIndicesBatchingDims := [0, 1]
  startIndexMap := [2]
  indexVectorDim := 3
  sliceSizes := ![1, 1, 1]
  wf := wf

/-- The gather reads the row at the start index, if that is a position of the row. -/
theorem gather_apply {α : Type} (wf : GatherDims.WF SRows SStart SRows [] [2] [0, 1] [2] [0, 1] 3 ![1, 1, 1])
    (x : SRows.Idx → α) (idx : IVec SStart 32) (j : SRows.Idx) (hj : (idx (startOf j)).toNat < 256) :
    Host.gather (dims wf) x idx j = inRow x j (idx (startOf j)).toNat := by
  unfold Host.gather inRow
  congr 1
  funext a
  refine Fin.ext ?_
  show (dims wf).start j idx a + (dims wf).batchCoord j a + (dims wf).offCoord j a = _
  have h : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h with rfl | rfl | rfl
  · have m : (0 : Fin 3) ∈ (dims wf).operandBatchingDims := List.mem_cons_self
    rw [GatherDims.start_batching _ _ _ _ m, GatherDims.offCoord_eq_zero _ _ _ (fun h => ((GatherDims.mem_sKept _ _).mp h).2 m)]
    simp only [Nat.zero_add, Nat.add_zero]
    unfold GatherDims.batchCoord
    rw [dif_pos m]
    rfl
  · have m : (1 : Fin 3) ∈ (dims wf).operandBatchingDims := List.mem_cons_of_mem _ List.mem_cons_self
    rw [GatherDims.start_batching _ _ _ _ m, GatherDims.offCoord_eq_zero _ _ _ (fun h => ((GatherDims.mem_sKept _ _).mp h).2 m)]
    simp only [Nat.zero_add, Nat.add_zero]
    unfold GatherDims.batchCoord
    rw [dif_pos m]
    rfl
  · have m : (2 : Fin 3) ∈ (dims wf).startIndexMap := List.mem_singleton.mpr rfl
    rw [GatherDims.batchCoord_eq_zero _ _ _ (show (2 : Fin 3) ∉ [(0 : Fin 3), 1] by decide),
      GatherDims.offCoord_eq_zero _ _ _ (fun h => ((GatherDims.mem_sKept _ _).mp h).1 (List.mem_singleton.mpr rfl))]
    simp only [Nat.add_zero]
    unfold GatherDims.start
    rw [dif_pos m]
    have hsi : (dims wf).siIdx j ⟨List.idxOf (2 : Fin 3) (dims wf).startIndexMap, List.idxOf_lt_length_iff.2 m⟩ = startOf j := by
      funext b; refine Fin.ext ?_
      match b with
      | ⟨0, _⟩ => rfl
      | ⟨1, _⟩ => rfl
      | ⟨2, _⟩ => rfl
      | ⟨3, _⟩ => rfl
    rw [hsi, toInt_eq_toNat_of_lt_half (show (idx (startOf j)).toNat < 2 ^ (32 - 1) by omega)]
    show min ((idx (startOf j)).toNat : ℤ).toNat (256 - 1) = (idx (startOf j)).toNat % 256
    omega

/-- A position of a row is not negative. -/
theorem not_negative {x : BitVec 32} (h : x.toNat < 256) : IntOp.cmpi .slt x 0#32 = 0#1 := by
  rw [cmpi_slt_of_lt (show x.toNat < 2 ^ (32 - 1) by omega) (by decide)]
  rfl

/-- A position of a row is at least zero and at most 255. -/
theorem in_range {x : BitVec 32} (h : x.toNat < 256) : IntOp.andi (IntOp.cmpi .sge x 0#32) (IntOp.cmpi .sle x 255#32) = 1#1 := by
  rw [cmpi_sge_of_lt (show x.toNat < 2 ^ (32 - 1) by omega) (by decide), cmpi_sle_of_lt (show x.toNat < 2 ^ (32 - 1) by omega) (by decide),
    decide_eq_true (show (0#32).toNat ≤ x.toNat from Nat.zero_le _), decide_eq_true (show x.toNat ≤ (255#32).toNat by show _ ≤ 255; omega)]
  rfl

/-- The flat permutation, seen as rows, reads each word at its source. -/
theorem permuted_apply {α : Type} (hn : 0 < 16777216) (hm : 0 < 8388608) (A : SRows.Idx → α) (I : SHalf.Idx → BitVec 32)
    (hI : ∀ z, (I z).toNat < 256)
    (h₁ : SRows.ShapeCasts (Flat 16777216)) (h₂ : SHalf.ShapeCasts (Flat 8388608)) (h₃ : (Flat 16777216).ShapeCasts SRows) (j : SRows.Idx) :
    shapeCast SRows (permuted hn hm (shapeCast (Flat 16777216) A h₁) (shapeCast (Flat 8388608) I h₂)) h₃ j = inRow A j (source I j) := by
  have b0 : (j 0).val < 16 := (j 0).isLt
  have b1 : (j 1).val < 4096 := (j 1).isLt
  have b2 : (j 2).val < 256 := (j 2).isLt
  have rows (k : SRows.Idx) : (SRows.rowMajor k).val = ((k 0).val * 4096 + (k 1).val) * 256 + (k 2).val := Shape.rowMajor_val_three k
  have halves (k : SHalf.Idx) : (SHalf.rowMajor k).val = ((k 0).val * 4096 + (k 1).val) * 128 + (k 2).val := Shape.rowMajor_val_three k
  have flat {n : ℕ} (k : (Flat n).Idx) : ((Flat n).rowMajor k).val = (k 0).val := Shape.rowMajor_val_one k
  have read (k : ℕ) (hk : k < 256) (y : (Flat 16777216).Idx) (hy : (y 0).val = ((j 0).val * 4096 + (j 1).val) * 256 + k) :
      shapeCast (Flat 16777216) A h₁ y = inRow A j k := by
    refine shapeCast_apply A h₁ y _ ?_
    rw [rows, flat, hy]
    show ((j 0).val * 4096 + (j 1).val) * 256 + k % 256 = _
    omega
  obtain ⟨p, hp⟩ : ∃ p, p = ((j 0).val * 4096 + (j 1).val) * 256 + (j 2).val := ⟨_, rfl⟩
  have hpn : p < 16777216 := by omega
  rw [shapeCast_apply _ h₃ j (pos hn p) (by rw [rows, flat, pos_val hn hpn, hp])]
  unfold permuted source
  rw [pos_val hn hpn]
  by_cases hlt : (j 2).val < 128
  · rw [if_neg (by omega), if_pos hlt]
    exact read _ b2 _ (by rw [pos_val hn hpn, hp])
  · rw [if_pos (by omega), if_neg hlt]
    unfold moved
    have hq : p / 256 * 128 + (p % 256 - 128) < 8388608 := by omega
    have e : shapeCast (Flat 8388608) I h₂ (pos hm (p / 256 * 128 + (p % 256 - 128))) = I (half j) := by
      refine shapeCast_apply I h₂ _ _ ?_
      rw [halves, flat, pos_val hm hq]
      show ((j 0).val * 4096 + (j 1).val) * 128 + ((j 2).val - 128) % 128 = _
      omega
    rw [e]
    have := hI (half j)
    exact read _ this _ (by rw [pos_val hn (by omega)]; omega)

/-- The same, for flat arrays known to be those of `A` and `I`. -/
theorem permuted_of {α : Type} (hn : 0 < 16777216) (hm : 0 < 8388608) (A : SRows.Idx → α) (I : SHalf.Idx → BitVec 32)
    (hI : ∀ z, (I z).toNat < 256)
    (h₁ : SRows.ShapeCasts (Flat 16777216)) (h₂ : SHalf.ShapeCasts (Flat 8388608)) (h₃ : (Flat 16777216).ShapeCasts SRows)
    (X : (Flat 16777216).Idx → α) (J : (Flat 8388608).Idx → BitVec 32) (hX : X = shapeCast (Flat 16777216) A h₁)
    (hJ : J = shapeCast (Flat 8388608) I h₂) (j : SRows.Idx) :
    shapeCast SRows (permuted hn hm X J) h₃ j = inRow A j (source I j) := by
  rw [hX, hJ]; exact permuted_apply hn hm A I hI h₁ h₂ h₃ j

end Cert.Proof.Gathered

end
-- ==== Proof.ReferenceValue.lean ====
/-
  What the reference's line leaves in its result: every word of a row read at its source, the first 128 at their own
  place, the others at the shifted argsort's.
-/
module

public import proofs.«01_k».proof.Proof.ReferenceHost
public import proofs.«01_k».proof.Proof.Gathered

@[expose] public section

set_option maxRecDepth 4000

noncomputable section

namespace Cert.ReferenceIdeal.Host

open Idealize.ShloMosaic Idealize.ShloMosaic.StableHlo Idealize.SL.Sem Cert.Proof.Host Cert.Proof.Gathered
open Idealize.ShloMosaic.ValueIdx

open Facts₀

variable {F : FTy → Type} [FloatOps F] [Facts]
variable {W : Valuation τ sig (Elt F)}

/-- @take_along_axis at positions of the rows reads them: no index is negative, none is out of range. -/
theorem take_apply {a : TRef sig ⟨S16x4096x256, .f32⟩} {b : TRef sig ⟨S16x4096x256, .i32⟩} {φ : fn_take_along_axis.Bufs}
    (h : Solves W (take (F := F) a b φ).1) (hb : ∀ j : SRows.Idx, ((val W b : SRows.Idx → BitVec 32) j).toNat < 256) (j : SRows.Idx) :
    (val W φ.v15 : SRows.Idx → F .f32) j = inRow (val W a) j ((val W b : SRows.Idx → BitVec 32) j).toNat := by
  have t1 := h.tail; have t2 := t1.tail; have t3 := t2.tail; have t4 := t3.tail; have t5 := t4.tail; have t6 := t5.tail
  have t7 := t6.tail; have t8 := t7.tail; have t9 := t8.tail; have t10 := t9.tail; have t11 := t10.tail; have t12 := t11.tail
  have t13 := t12.tail; have t14 := t13.tail; have t15 := t14.tail; have t16 := t15.tail; have t17 := t16.tail
  have t18 := t17.tail; have t19 := t18.tail; have t20 := t19.tail; have t21 := t20.tail
  have c := val_nullary (W := W) h.head
  have v0 := val_unary (W := W) t1.head
  have v1 := val_binary (W := W) t2.head
  have v4 := val_ternary (W := W) t6.head
  have v5 := val_reshape (W := W) t7.head
  have c1 := val_nullary (W := W) t8.head
  have c2 := val_nullary (W := W) t9.head
  have v6 := val_unary (W := W) t10.head
  have v7 := val_binary (W := W) t11.head
  have v8 := val_unary (W := W) t12.head
  have v9 := val_unary (W := W) t13.head
  have v10 := val_binary (W := W) t14.head
  have v11 := val_binary (W := W) t15.head
  have c3 := val_nullary (W := W) t16.head
  have v12 := val_binary (W := W) t17.head
  have v13 := val_binary (W := W) t18.head
  have v15 := val_ternary (W := W) t21.head
  have e4 (k : SRows.Idx) : (val W φ.v4 : SRows.Idx → BitVec 32) k = (val W b : SRows.Idx → BitVec 32) k := by
    rw [v4, v1, v0, c]
    show (if IntOp.cmpi .slt ((val W b : SRows.Idx → BitVec 32) k) 0#32 = 1 then _ else (val W b : SRows.Idx → BitVec 32) k) = _
    rw [not_negative (hb k), if_neg (by decide)]
  have e5 : (val W φ.v5 : SStart.Idx → BitVec 32) = shapeCast SStart (val W φ.v4 : SRows.Idx → BitVec 32) shapeCasts_S16x4096x256_S16x4096x256x1 := v5
  have r5 (k : SStart.Idx) : ((val W φ.v5 : SStart.Idx → BitVec 32) k).toNat < 256 := by
    rw [e5]
    show ((val W φ.v4 : SRows.Idx → BitVec 32) _).toNat < 256
    rw [e4]; exact hb _
  have e11 (k : SStart.Idx) : (val W φ.v11 : SStart.Idx → BitVec 1) k = 1#1 := by
    rw [v11, v7, v10, v6, c2, v9, v8, c1]
    exact in_range (r5 k)
  have e12 : (val W φ.v12 : SRows.Idx → BitVec 1) j = 1#1 := by
    rw [v12]
    exact Idealize.ShloMosaic.Host.reduce_andi_one _ _ _ _ _ (by rw [c3]; rfl) e11
  have es : (val W φ.v5 : SStart.Idx → BitVec 32) (startOf j) = (val W b : SRows.Idx → BitVec 32) j := by
    rw [e5, ← e4]
    refine shapeCast_apply _ _ _ _ ?_
    rw [Shape.rowMajor_val_four, Shape.rowMajor_val_three]
    show ((j 0).val * 4096 + (j 1).val) * 256 + (j 2).val = (((j 0).val * 4096 + (j 1).val) * 256 + (j 2).val) * 1 + 0
    omega
  rw [v15]
  refine (if_pos e12).trans ?_
  rw [v13, ← es]
  exact gather_apply gather_S16x4096x256_S16x4096x256x1_S16x4096x256_n_2_01_01_2_3_111_wf _ _ j (r5 _)

/-- The full indices: a position of the lower half itself, the shifted argsort in the upper half. -/
theorem full_apply (h : Solves W (fullOps (F := F))) (j : SRows.Idx) :
    ((val W (.of main_v13 : TRef sig ⟨S16x4096x256, .i32⟩) : SRows.Idx → BitVec 32) j).toNat
      = source (val W (.of main_v10 : TRef sig ⟨S16x4096x128, .i32⟩)) j := by
  have v11 := val_nullary (W := W) h.head
  have v12 := val_unary (W := W) h.tail.head
  have v13 := val_binary (W := W) h.tail.tail.head
  have b2 : (j 2).val < 256 := (j 2).isLt
  rw [v13]
  unfold source
  by_cases hlt : (j 2).val < 128
  · rw [if_pos hlt]
    show BitVec.toNat (concatenate S16x4096x256 2 [⟨S16x4096x128, _⟩, ⟨S16x4096x128, _⟩] _ j) = _
    rw [concatenate_pair_apply_left (s₁ := S16x4096x128) (s₂ := S16x4096x128) 2 _ _ _ j rfl (ix3 (j 0) (j 1) ⟨(j 2).val, hlt⟩ : SHalf.Idx)
      (fun b => match b with | ⟨0, _⟩ => rfl | ⟨1, _⟩ => rfl | ⟨2, _⟩ => rfl), v12, v11]
    show (BitVec.ofNat 32 (j 2).val).toNat = (j 2).val
    rw [BitVec.toNat_ofNat]; omega
  · rw [if_neg hlt]
    show BitVec.toNat (concatenate S16x4096x256 2 [⟨S16x4096x128, _⟩, ⟨S16x4096x128, _⟩] _ j) = _
    rw [concatenate_pair_apply_right (s₁ := S16x4096x128) (s₂ := S16x4096x128) 2 _ _ _ j rfl rfl (half j)
      (fun b hb => match b with | ⟨0, _⟩ => rfl | ⟨1, _⟩ => rfl | ⟨2, _⟩ => absurd rfl hb)
      (show ((j 2).val - 128) % 128 + 128 = (j 2).val by omega)]

/-- The result, word by word. -/
theorem main_apply (h : Solves W (mainOps (F := F)))
    (hr : ∀ z : SHalf.Idx, ((val W (.of main_v10 : TRef sig ⟨S16x4096x128, .i32⟩) : SHalf.Idx → BitVec 32) z).toNat < 256) (j : SRows.Idx) :
    (val W (.of main_v14 : TRef sig ⟨S16x4096x256, .f32⟩) : SRows.Idx → F .f32) j
      = inRow (val W (.of main_arg0 : TRef sig ⟨S16x4096x256, .f32⟩)) j (source (val W (.of main_v10 : TRef sig ⟨S16x4096x128, .i32⟩)) j) := by
  have hf := h.right.right.right.right.left
  have ht := h.right.right.right.right.right
  rw [← full_apply hf j]
  refine take_apply ht (fun k => ?_) j
  rw [full_apply hf k]
  have b2 : (k 2).val < 256 := (k 2).isLt
  unfold source
  split
  · exact b2
  · exact hr _

end Cert.ReferenceIdeal.Host

end
-- ==== Proof.Same.lean ====
/-
  The kernel's and the reference's random numbers and argsorts agree: both programs carry the same line of host
  operations, over buffers of their own, so their values agree one operation after the other.
-/
module

public import proofs.«01_k».proof.Proof.KernelIdealHost
public import proofs.«01_k».proof.Proof.ReferenceHost

@[expose] public section

set_option maxRecDepth 4000

noncomputable section

namespace Cert.Proof.Same

open Idealize.ShloMosaic Idealize.ShloMosaic.StableHlo Cert.Proof.Host

attribute [local irreducible] Both val

variable {F : FTy → Type} [FloatOps F] [Cert.KernelIdeal.Facts] [Cert.ReferenceIdeal.Facts]
variable {W : Valuation Cert.KernelIdeal.τ Cert.KernelIdeal.sig (Elt F)} {W' : Valuation Cert.ReferenceIdeal.τ Cert.ReferenceIdeal.sig (Elt F)}

/-- @threefry2x32 of equal arguments gives equal values. -/
theorem threefry {a b : TRef Cert.KernelIdeal.sig ⟨Cert.KernelIdeal.S_, .i32⟩} {u v : TRef Cert.KernelIdeal.sig ⟨Cert.KernelIdeal.S16x4096x128, .i32⟩}
    {φ : Cert.KernelIdeal.fn_threefry2x32.Bufs}
    {a' b' : TRef Cert.ReferenceIdeal.sig ⟨Cert.KernelIdeal.S_, .i32⟩} {u' v' : TRef Cert.ReferenceIdeal.sig ⟨Cert.KernelIdeal.S16x4096x128, .i32⟩}
    {φ' : Cert.ReferenceIdeal.fn_threefry2x32.Bufs}
    (ha : val W a = val W' a') (hb : val W b = val W' b') (hu : val W u = val W' u') (hv : val W v = val W' v') :
    Both W W' (Cert.KernelIdeal.Host.threefry a b u v φ).1 (Cert.ReferenceIdeal.Host.threefry a' b' u' v' φ').1
      (val W φ.v171 = val W' φ'.v171 ∧ val W φ.v175 = val W' φ'.v175) := by
  repeat (first
    | (refine Both.nullary ?_; intro _)
    | (refine Both.unary (by assumption) ?_; intro _)
    | (refine Both.binary (by assumption) (by assumption) ?_; intro _)
    | (refine Both.reshape (by assumption) ?_; intro _))
  exact Both.stop ⟨by assumption, by assumption⟩

/-- @_uniform of equal arguments gives equal values. -/
theorem uniform {a : TRef Cert.KernelIdeal.sig ⟨Cert.KernelIdeal.S2, .i32⟩} {u v : TRef Cert.KernelIdeal.sig ⟨Cert.KernelIdeal.S_, .f32⟩}
    {φ : Cert.KernelIdeal.fn_uniform.Bufs}
    {a' : TRef Cert.ReferenceIdeal.sig ⟨Cert.KernelIdeal.S2, .i32⟩} {u' v' : TRef Cert.ReferenceIdeal.sig ⟨Cert.KernelIdeal.S_, .f32⟩}
    {φ' : Cert.ReferenceIdeal.fn_uniform.Bufs}
    (ha : val W a = val W' a') (hu : val W u = val W' u') (hv : val W v = val W' v') :
    Both W W' (Cert.KernelIdeal.Host.uniform a u v φ).1 (Cert.ReferenceIdeal.Host.uniform a' u' v' φ').1
      (val W φ.v38 = val W' φ'.v38) := by
  iterate 27 (first
    | (refine Both.nullary ?_; intro _)
    | (refine Both.unary (by assumption) ?_; intro _)
    | (refine Both.binary (by assumption) (by assumption) ?_; intro _)
    | (refine Both.reshape (by assumption) ?_; intro _))
  refine Both.line (threefry (by assumption) (by assumption) (by assumption) (by assumption)) ?_
  rintro ⟨_, _⟩
  repeat (first
    | (refine Both.nullary ?_; intro _)
    | (refine Both.unary (by assumption) ?_; intro _)
    | (refine Both.binary (by assumption) (by assumption) ?_; intro _)
    | (refine Both.reshape (by assumption) ?_; intro _))
  exact Both.stop (by assumption)

/-- @argsort of equal arguments gives equal values. -/
theorem argsort {a : TRef Cert.KernelIdeal.sig ⟨Cert.KernelIdeal.S16x4096x128, .f32⟩} {φ : Cert.KernelIdeal.fn_argsort.Bufs}
    {a' : TRef Cert.ReferenceIdeal.sig ⟨Cert.KernelIdeal.S16x4096x128, .f32⟩} {φ' : Cert.ReferenceIdeal.fn_argsort.Bufs}
    (ha : val W a = val W' a') :
    Both W W' (Cert.KernelIdeal.Host.argsort a φ).1 (Cert.ReferenceIdeal.Host.argsort a' φ').1
      (val W φ.v1_1 = val W' φ'.v1_1) := by
  repeat (first
    | (refine Both.nullary ?_; intro _)
    | (refine Both.unary (by assumption) ?_; intro _)
    | (refine Both.binary (by assumption) (by assumption) ?_; intro _)
    | (refine Both.reshape (by assumption) ?_; intro _))
  exact Both.stop (by assumption)

/-- The two keys, and the two bounds of the random numbers. -/
theorem key : Both W W' Cert.KernelIdeal.Host.keyOps Cert.ReferenceIdeal.Host.keyOps
    (val W (.of Cert.KernelIdeal.main_v6) = val W' (.of Cert.ReferenceIdeal.main_v6) ∧
      val W (.of Cert.KernelIdeal.main_cst) = val W' (.of Cert.ReferenceIdeal.main_cst) ∧
      val W (.of Cert.KernelIdeal.main_cst_2) = val W' (.of Cert.ReferenceIdeal.main_cst_2)) := by
  unfold Cert.KernelIdeal.Host.keyOps Cert.ReferenceIdeal.Host.keyOps
  repeat (first
    | (refine Both.nullary ?_; intro _)
    | (refine Both.unary (by assumption) ?_; intro _)
    | (refine Both.binary (by assumption) (by assumption) ?_; intro _)
    | (refine Both.reshape (by assumption) ?_; intro _))
  exact Both.stop ⟨by assumption, by assumption, by assumption⟩

/-- The two shifts by 128. -/
theorem shift (h : val W (.of Cert.KernelIdeal.main_v8) = val W' (.of Cert.ReferenceIdeal.main_v8)) :
    Both W W' Cert.KernelIdeal.Host.shiftOps Cert.ReferenceIdeal.Host.shiftOps
      (val W (.of Cert.KernelIdeal.main_v10) = val W' (.of Cert.ReferenceIdeal.main_v10)) := by
  unfold Cert.KernelIdeal.Host.shiftOps Cert.ReferenceIdeal.Host.shiftOps
  repeat (first
    | (refine Both.nullary ?_; intro _)
    | (refine Both.unary (by assumption) ?_; intro _)
    | (refine Both.binary (by assumption) (by assumption) ?_; intro _))
  exact Both.stop (by assumption)

/-- The kernel's indices are the reference's. -/
theorem indices : Both W W' Cert.KernelIdeal.Host.beforeOps Cert.ReferenceIdeal.Host.mainOps
    (val W (.of Cert.KernelIdeal.main_v10) = val W' (.of Cert.ReferenceIdeal.main_v10)) := by
  unfold Cert.KernelIdeal.Host.beforeOps Cert.ReferenceIdeal.Host.mainOps
  refine Both.line key ?_
  rintro ⟨h6, hc, hc2⟩
  refine Both.line (uniform h6 hc hc2) ?_
  intro h7
  refine Both.line (argsort h7) ?_
  intro h8
  refine Both.line (shift h8) ?_
  intro h10
  exact Both.stop h10

end Cert.Proof.Same

end
-- ==== Proof.Value.lean ====
/-
  The kernel's result is the reference's: both read every word of a row at its source, the first 128 at their own
  place and the others where the shared argsort says.
-/
module

public import proofs.«01_k».proof.Proof.KernelIdealLaunch
public import proofs.«01_k».proof.Proof.ReferenceValue
public import proofs.«01_k».proof.Proof.Same

@[expose] public section

noncomputable section

namespace Cert.Proof.Value

open Idealize.ShloMosaic Idealize.ShloMosaic.StableHlo Cert.Proof.Host Cert.Proof.Rows Cert.Proof.Gathered

variable {F : FTy → Type} [FloatOps F] [Cert.KernelIdeal.Facts] [Cert.ReferenceIdeal.Facts]

/-! ## What the two lines leave, for any contents that solve them -/

section Lines
variable (W : Valuation Cert.KernelIdeal.τ Cert.KernelIdeal.sig (Elt F)) (h : Solves W (Cert.KernelIdeal.Host.beforeOps (F := F)))
variable (W' : Valuation Cert.ReferenceIdeal.τ Cert.ReferenceIdeal.sig (Elt F)) (h' : Solves W' (Cert.ReferenceIdeal.Host.mainOps (F := F)))

/-- The kernel's shifted argsort. -/
def idx : SHalf.Idx → BitVec 32 :=
  val W (.of Cert.KernelIdeal.main_v10 : TRef Cert.KernelIdeal.sig ⟨Cert.KernelIdeal.S16x4096x128, .i32⟩)

include h

/-- Its words lie below 256. -/
theorem idx_lt (z : SHalf.Idx) : (idx W z).toNat < 256 :=
  (Cert.KernelIdeal.Host.shifted_range h.right.right.left h.right.right.right.left z).2

/-- The kernel's flat rows are its argument's. -/
theorem rows_of : (W (Proc.devRef .tc Cert.KernelIdeal.main_v11) : (Flat 16777216).Idx → F .f32)
    = shapeCast (Flat 16777216) (W (Proc.devRef .tc Cert.KernelIdeal.main_arg0) : SRows.Idx → F .f32) Cert.KernelIdeal.Facts₀.shapeCasts_S16x4096x256_S16777216 :=
  Cert.KernelIdeal.Host.flat_rows h.right.right.right.right

/-- The kernel's flat indices are the shifted argsort's. -/
theorem idxs_of : (W (Proc.devRef .tc Cert.KernelIdeal.main_v12) : (Flat 8388608).Idx → BitVec 32)
    = shapeCast (Flat 8388608) (idx W) Cert.KernelIdeal.Facts₀.shapeCasts_S16x4096x128_S8388608 :=
  Cert.KernelIdeal.Host.flat_idxs h.right.right.right.right

include h'

/-- The reference's result, word by word, by the kernel's argsort. -/
theorem reference_of (j : SRows.Idx) : (W' (Proc.devRef .tc Cert.ReferenceIdeal.main_v14) : SRows.Idx → F .f32) j
    = inRow (W' (Proc.devRef .tc Cert.ReferenceIdeal.main_arg0) : SRows.Idx → F .f32) j (source (idx W) j) := by
  have hi : idx W = val W' (.of Cert.ReferenceIdeal.main_v10 : TRef Cert.ReferenceIdeal.sig ⟨Cert.ReferenceIdeal.S16x4096x128, .i32⟩) :=
    Same.indices h h'
  have hl := idx_lt W h
  rw [hi] at hl ⊢
  exact Cert.ReferenceIdeal.Host.main_apply h' hl j

end Lines

/-! ## The two results -/

section Results
variable (m : (ℓ : Loc Cert.KernelIdeal.nD Cert.KernelIdeal.τ Cert.KernelIdeal.sig) → Buf (Elt F) ℓ) (d : Dev Cert.KernelIdeal.nD)
variable (m' : (ℓ : Loc Cert.ReferenceIdeal.nD Cert.ReferenceIdeal.τ Cert.ReferenceIdeal.sig) → Buf (Elt F) ℓ)

/-- The kernel's argument. -/
abbrev arg : SRows.Idx → F .f32 := m (d, Cert.KernelIdeal.Tile.a')

/-- The contents before the launch solve the line before it. -/
theorem solves : Solves (Cert.KernelIdeal.Tile.V1 m d) (Cert.KernelIdeal.Host.beforeOps (F := F)) :=
  Cert.KernelIdeal.Host.before_ordered.solves (Cert.KernelIdeal.Tile.V0 m d)

/-- The argument is not written before the launch. -/
theorem arg_kept : (Cert.KernelIdeal.Tile.V1 m d (Proc.devRef .tc Cert.KernelIdeal.main_arg0) : SRows.Idx → F .f32) = arg m d :=
  Cert.KernelIdeal.Host.before_ordered.keeps (Cert.KernelIdeal.Tile.V0 m d) (x := Cert.KernelIdeal.main_arg0) (by decide)

/-- The kernel's result, word by word. -/
theorem kernel_apply (j : SRows.Idx) :
    (Cert.KernelIdeal.Tile.V3 m d Cert.KernelIdeal.Tile.r' : SRows.Idx → F .f32) j
      = inRow (arg m d) j (source (idx (Cert.KernelIdeal.Tile.V1 m d)) j) := by
  have ex := rows_of _ (solves m d)
  rw [arg_kept m d] at ex
  exact (congrFun (Cert.KernelIdeal.Tile.V3_res m d) j).trans
    (permuted_of _ _ _ _ (idx_lt _ (solves m d)) _ _ _ _ _ ex (idxs_of _ (solves m d)) j)

/-- From equal arguments the reference ends with the kernel's result. -/
theorem result_eq (h : (m' (d, Proc.devRef .tc Cert.ReferenceIdeal.main_arg0) : SRows.Idx → F .f32) = arg m d) :
    (Cert.ReferenceIdeal.Host.Vend m' d (Proc.devRef .tc Cert.ReferenceIdeal.main_v14) : SRows.Idx → F .f32)
      = Cert.KernelIdeal.Tile.V3 m d Cert.KernelIdeal.Tile.r' := by
  funext j
  have e := reference_of _ (solves m d) _ (Cert.ReferenceIdeal.Host.main_ordered.solves (launchContents m' d)) j
  rw [show (after Cert.ReferenceIdeal.Host.mainOps (launchContents m' d) (Proc.devRef .tc Cert.ReferenceIdeal.main_arg0) : SRows.Idx → F .f32) = arg m d from
    (Cert.ReferenceIdeal.Host.Vend_arg m' d).trans h] at e
  exact e.trans (kernel_apply m d j).symm

end Results

end Cert.Proof.Value

end
-- ==== Proof.lean ====
/-
  The claim: the three programs run to their end with their argument unchanged and every counter at zero, and the
  kernel's result over exact numbers is the reference's.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.KernelLaunch
public import proofs.«01_k».proof.Proof.Value
public import Idealize.ShloMosaic.Adequacy
public import Idealize.ShloMosaic.Init

@[expose] public section

noncomputable section

namespace Cert.Proof

open Idealize.ShloMosaic Idealize.SL.Sem

/-- The kernel over bits ends with its argument unchanged and its counters at zero. -/
theorem frame_kernel [Cert.Kernel.Facts] : Cert.quiescent_Kernel := fun m g _ =>
  θ_run_mono (Cert.Kernel.Tile.run_main (F := Bits) m g) fun _ h => ⟨fun c => (h.1 c).1, h.2⟩

/-- So does the kernel over exact numbers. -/
theorem frame_ideal [Cert.KernelIdeal.Facts] : Cert.quiescent_KernelIdeal := fun m g _ =>
  θ_run_mono (Cert.KernelIdeal.Tile.run_main (F := Ideal) m g) fun _ h => ⟨fun c => (h.1 c).1, h.2⟩

/-- So does the reference. -/
theorem frame_reference [Cert.ReferenceIdeal.Facts] : Cert.quiescent_ReferenceIdeal := fun m g _ =>
  θ_run_mono (Cert.ReferenceIdeal.Host.run_main (F := Ideal) m g) fun _ h =>
    ⟨fun c => (h.1 c Cert.ReferenceIdeal.main_arg0).trans (Cert.ReferenceIdeal.Host.Vend_arg m c), h.2⟩

/-- From equal arguments the two end with equal results. -/
theorem same_result [Cert.KernelIdeal.Facts] [Cert.ReferenceIdeal.Facts] : Cert.algebraic_KernelIdeal_ReferenceIdeal :=
  fun m g m' g' _ hm =>
    ⟨fun c => Cert.KernelIdeal.Tile.V3 m c Cert.KernelIdeal.Tile.r',
      θ_run_mono (Cert.KernelIdeal.Tile.run_main (F := Ideal) m g) fun _ h c => ⟨(h.1 c).2, (h.1 c).1⟩,
      θ_run_mono (Cert.ReferenceIdeal.Host.run_main (F := Ideal) m' g') fun _ h c =>
        ⟨(h.1 c Cert.ReferenceIdeal.main_v14).trans (Value.result_eq m c m' (hm c)),
          (h.1 c Cert.ReferenceIdeal.main_arg0).trans (Cert.ReferenceIdeal.Host.Vend_arg m' c)⟩⟩

/-- Everything claimed. -/
theorem claim : Cert.Claim :=
  ⟨Cert.Kernel.Gen.facts, Cert.KernelIdeal.Gen.facts, Cert.ReferenceIdeal.Gen.facts,
    haveI := Cert.Kernel.Gen.facts
    haveI := Cert.KernelIdeal.Gen.facts
    haveI := Cert.ReferenceIdeal.Gen.facts
    ⟨frame_kernel, frame_ideal, frame_reference, trivial, same_result⟩⟩

end Cert.Proof

end
